-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v47)) (v2 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v47) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v406) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_v213) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x49x512 : Shape := ⟨3, ![16, 49, 512]⟩
abbrev S256x512x3x3 : Shape := ⟨4, ![256, 512, 3, 3]⟩
abbrev S256 : Shape := ⟨1, ![256]⟩
abbrev S256x256x3x3 : Shape := ⟨4, ![256, 256, 3, 3]⟩
abbrev S256x256x1x1 : Shape := ⟨4, ![256, 256, 1, 1]⟩
abbrev S512x256 : Shape := ⟨2, ![512, 256]⟩
abbrev S512 : Shape := ⟨1, ![512]⟩
abbrev S_ : Shape := ⟨0, ![]⟩

class Facts : Prop where
  bcast_S_S16x49x512 : S_.BroadcastsInDim S16x49x512 (![] : Fin 0 → Fin S16x49x512.rank)
  bcast_S_S256x512x3x3 : S_.BroadcastsInDim S256x512x3x3 (![] : Fin 0 → Fin S256x512x3x3.rank)
  bcast_S_S256 : S_.BroadcastsInDim S256 (![] : Fin 0 → Fin S256.rank)
  bcast_S_S256x256x3x3 : S_.BroadcastsInDim S256x256x3x3 (![] : Fin 0 → Fin S256x256x3x3.rank)
  bcast_S_S256x256x1x1 : S_.BroadcastsInDim S256x256x1x1 (![] : Fin 0 → Fin S256x256x1x1.rank)
  bcast_S_S512x256 : S_.BroadcastsInDim S512x256 (![] : Fin 0 → Fin S512x256.rank)

variable [Facts]

def fn_part1 {F : FTy → Type} [FloatOps F] (main_arg6 : FVec F S256 .f32) (main_arg7 : FVec F S256x256x1x1 .f32) (main_arg8 : FVec F S256 .f32) (main_arg9 : FVec F S512x256 .f32) (main_v2 : IVec S16x49x512 1) (main_v5 : IVec S256x512x3x3 1) (main_v8 : IVec S256 1) (main_v11 : IVec S256x256x3x3 1) (main_v14 : IVec S256 1) (main_v17 : IVec S256x256x3x3 1) : IVec S16x49x512 1 × IVec S256x512x3x3 1 × IVec S256 1 × IVec S256x256x3x3 1 × IVec S256 1 × IVec S256x256x3x3 1 × IVec S256 1 × IVec S256x256x1x1 1 × IVec S256 1 × IVec S512x256 1 :=
  let main_v18 : FVec F S256 .f32 := Host.absf main_arg6
  let main_cst_5 : FVec F S_ .f32 := constant S_ .f32 0x7F800000#32
  let main_v19 : FVec F S256 .f32 := broadcastInDim S256 ![] bcast_S_S256 main_cst_5
  let main_v20 : IVec S256 1 := cmpf .olt main_v18 main_v19
  let main_v21 : FVec F S256x256x1x1 .f32 := Host.absf main_arg7
  let main_cst_6 : FVec F S_ .f32 := constant S_ .f32 0x7F800000#32
  let main_v22 : FVec F S256x256x1x1 .f32 := broadcastInDim S256x256x1x1 ![] bcast_S_S256x256x1x1 main_cst_6
  let main_v23 : IVec S256x256x1x1 1 := cmpf .olt main_v21 main_v22
  let main_v24 : FVec F S256 .f32 := Host.absf main_arg8
  let main_cst_7 : FVec F S_ .f32 := constant S_ .f32 0x7F800000#32
  let main_v25 : FVec F S256 .f32 := broadcastInDim S256 ![] bcast_S_S256 main_cst_7
  let main_v26 : IVec S256 1 := cmpf .olt main_v24 main_v25
  let main_v27 : FVec F S512x256 .f32 := Host.absf main_arg9
  let main_cst_8 : FVec F S_ .f32 := constant S_ .f32 0x7F800000#32
  let main_v28 : FVec F S512x256 .f32 := broadcastInDim S512x256 ![] bcast_S_S512x256 main_cst_8
  let main_v29 : IVec S512x256 1 := cmpf .olt main_v27 main_v28
  (main_v2, main_v5, main_v8, main_v11, main_v14, main_v17, main_v20, main_v23, main_v26, main_v29)

def fn {F : FTy → Type} [FloatOps F] (main_arg0 : FVec F S16x49x512 .f32) (main_arg1 : FVec F S256x512x3x3 .f32) (main_arg2 : FVec F S256 .f32) (main_arg3 : FVec F S256x256x3x3 .f32) (main_arg4 : FVec F S256 .f32) (main_arg5 : FVec F S256x256x3x3 .f32) (main_arg6 : FVec F S256 .f32) (main_arg7 : FVec F S256x256x1x1 .f32) (main_arg8 : FVec F S256 .f32) (main_arg9 : FVec F S512x256 .f32) (main_arg10 : FVec F S256x256x3x3 .f32) (main_arg11 : FVec F S256 .f32) (main_arg12 : FVec F S256x256x3x3 .f32) (main_arg13 : FVec F S256 .f32) (main_arg14 : FVec F S256x256x1x1 .f32) (main_arg15 : FVec F S256 .f32) (main_arg16 : FVec F S256x512x3x3 .f32) (main_arg17 : FVec F S512 .f32) : IVec S16x49x512 1 × IVec S256x512x3x3 1 × IVec S256 1 × IVec S256x256x3x3 1 × IVec S256 1 × IVec S256x256x3x3 1 × IVec S256 1 × IVec S256x256x1x1 1 × IVec S256 1 × IVec S512x256 1 :=
  let main_v0 : FVec F S16x49x512 .f32 := Host.absf main_arg0
  let main_cst : FVec F S_ .f32 := constant S_ .f32 0x7F800000#32
  let main_v1 : FVec F S16x49x512 .f32 := broadcastInDim S16x49x512 ![] bcast_S_S16x49x512 main_cst
  let main_v2 : IVec S16x49x512 1 := cmpf .olt main_v0 main_v1
  let main_v3 : FVec F S256x512x3x3 .f32 := Host.absf main_arg1
  let main_cst_0 : FVec F S_ .f32 := constant S_ .f32 0x7F800000#32
  let main_v4 : FVec F S256x512x3x3 .f32 := broadcastInDim S256x512x3x3 ![] bcast_S_S256x512x3x3 main_cst_0
  let main_v5 : IVec S256x512x3x3 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S256x256x3x3 .f32 := Host.absf main_arg3
  let main_cst_2 : FVec F S_ .f32 := constant S_ .f32 0x7F800000#32
  let main_v10 : FVec F S256x256x3x3 .f32 := broadcastInDim S256x256x3x3 ![] bcast_S_S256x256x3x3 main_cst_2
  let main_v11 : IVec S256x256x3x3 1 := cmpf .olt main_v9 main_v10
  let main_v12 : FVec F S256 .f32 := Host.absf main_arg4
  let main_cst_3 : FVec F S_ .f32 := constant S_ .f32 0x7F800000#32
  let main_v13 : FVec F S256 .f32 := broadcastInDim S256 ![] bcast_S_S256 main_cst_3
  let main_v14 : IVec S256 1 := cmpf .olt main_v12 main_v13
  let main_v15 : FVec F S256x256x3x3 .f32 := Host.absf main_arg5
  let main_cst_4 : FVec F S_ .f32 := constant S_ .f32 0x7F800000#32
  let main_v16 : FVec F S256x256x3x3 .f32 := broadcastInDim S256x256x3x3 ![] bcast_S_S256x256x3x3 main_cst_4
  let main_v17 : IVec S256x256x3x3 1 := cmpf .olt main_v15 main_v16
  fn_part1 (F := F) main_arg6 main_arg7 main_arg8 main_arg9 main_v2 main_v5 main_v8 main_v11 main_v14 main_v17
-- ==== Kernel.lean ====
abbrev S16x49x512 : Shape := ⟨3, ![16, 49, 512]⟩
abbrev S256x512x3x3 : Shape := ⟨4, ![256, 512, 3, 3]⟩
abbrev S256 : Shape := ⟨1, ![256]⟩
abbrev S256x256x3x3 : Shape := ⟨4, ![256, 256, 3, 3]⟩
abbrev S256x256x1x1 : Shape := ⟨4, ![256, 256, 1, 1]⟩
abbrev S512x256 : Shape := ⟨2, ![512, 256]⟩
abbrev S512 : Shape := ⟨1, ![512]⟩
abbrev S1152x1 : Shape := ⟨2, ![1152, 1]⟩
abbrev S1x1152 : Shape := ⟨2, ![1, 1152]⟩
abbrev S16x7x7x512 : Shape := ⟨4, ![16, 7, 7, 512]⟩
abbrev S_ : Shape := ⟨0, ![]⟩
abbrev S16x9x8x512 : Shape := ⟨4, ![16, 9, 8, 512]⟩
abbrev S1152x512 : Shape := ⟨2, ![1152, 512]⟩
abbrev S1184x512 : Shape := ⟨2, ![1184, 512]⟩
abbrev S512x1 : Shape := ⟨2, ![512, 1]⟩
abbrev S3x3x256x512 : Shape := ⟨4, ![3, 3, 256, 512]⟩
abbrev S9x256x512 : Shape := ⟨3, ![9, 256, 512]⟩
abbrev S1x256 : Shape := ⟨2, ![1, 256]⟩
abbrev S3x3x256x256 : Shape := ⟨4, ![3, 3, 256, 256]⟩
abbrev S9x256x256 : Shape := ⟨3, ![9, 256, 256]⟩
abbrev S256x256 : Shape := ⟨2, ![256, 256]⟩
abbrev S256x512 : Shape := ⟨2, ![256, 512]⟩
abbrev S1x512 : Shape := ⟨2, ![1, 512]⟩
abbrev S512x1152 : Shape := ⟨2, ![512, 1152]⟩
abbrev S256x1152 : Shape := ⟨2, ![256, 1152]⟩
abbrev S1x256x512 : Shape := ⟨3, ![1, 256, 512]⟩
abbrev S1152x256 : Shape := ⟨2, ![1152, 256]⟩
abbrev S16x256 : Shape := ⟨2, ![16, 256]⟩
abbrev S1184x256 : Shape := ⟨2, ![1184, 256]⟩
abbrev S1x256x256 : Shape := ⟨3, ![1, 256, 256]⟩
abbrev S1152 : Shape := ⟨1, ![1152]⟩
abbrev S8x1152 : Shape := ⟨2, ![8, 1152]⟩
abbrev S512x16x9x8 : Shape := ⟨4, ![512, 16, 9, 8]⟩
abbrev S512x16x7x7 : Shape := ⟨4, ![512, 16, 7, 7]⟩
abbrev S16x512x7x7 : Shape := ⟨4, ![16, 512, 7, 7]⟩
abbrev S256x16x9x8 : Shape := ⟨4, ![256, 16, 9, 8]⟩
abbrev S256x16x7x7 : Shape := ⟨4, ![256, 16, 7, 7]⟩
abbrev S16x256x7x7 : Shape := ⟨4, ![16, 256, 7, 7]⟩

abbrev nBuf : Space → Nat
  | .hbm => 78
  | .vmem => 25
  | .smem => 0
  | _ => 0

abbrev bufTy : (tb : Table) → Fin (tcTables nBuf tb) → BufTy
  | .hbm, ⟨0, _⟩ => ⟨S16x49x512, .f32⟩
  | .hbm, ⟨1, _⟩ => ⟨S256x512x3x3, .f32⟩
  | .hbm, ⟨2, _⟩ => ⟨S256, .f32⟩
  | .hbm, ⟨3, _⟩ => ⟨S256x256x3x3, .f32⟩
  | .hbm, ⟨4, _⟩ => ⟨S256, .f32⟩
  | .hbm, ⟨5, _⟩ => ⟨S256x256x3x3, .f32⟩
  | .hbm, ⟨6, _⟩ => ⟨S256, .f32⟩
  | .hbm, ⟨7, _⟩ => ⟨S256x256x1x1, .f32⟩
  | .hbm, ⟨8, _⟩ => ⟨S256, .f32⟩
  | .hbm, ⟨9, _⟩ => ⟨S512x256, .f32⟩
  | .hbm, ⟨10, _⟩ => ⟨S256x256x3x3, .f32⟩
  | .hbm, ⟨11, _⟩ => ⟨S256, .f32⟩
  | .hbm, ⟨12, _⟩ => ⟨S256x256x3x3, .f32⟩
  | .hbm, ⟨13, _⟩ => ⟨S256, .f32⟩
  | .hbm, ⟨14, _⟩ => ⟨S256x256x1x1, .f32⟩
  | .hbm, ⟨15, _⟩ => ⟨S256, .f32⟩
  | .hbm, ⟨16, _⟩ => ⟨S256x512x3x3, .f32⟩
  | .hbm, ⟨17, _⟩ => ⟨S512, .f32⟩
  | .hbm, ⟨18, _⟩ => ⟨S1152x1, .f32⟩
  | .hbm, ⟨19, _⟩ => ⟨S1x1152, .f32⟩
  | .hbm, ⟨20, _⟩ => ⟨S16x49x512, .bf16⟩
  | .hbm, ⟨21, _⟩ => ⟨S16x7x7x512, .bf16⟩
  | .hbm, ⟨22, _⟩ => ⟨S_, .i32⟩
  | .hbm, ⟨23, _⟩ => ⟨S_, .bf16⟩
  | .hbm, ⟨24, _⟩ => ⟨S16x9x8x512, .bf16⟩
  | .hbm, ⟨25, _⟩ => ⟨S1152x512, .bf16⟩
  | .hbm, ⟨26, _⟩ => ⟨S_, .i32⟩
  | .hbm, ⟨27, _⟩ => ⟨S_, .bf16⟩
  | .hbm, ⟨28, _⟩ => ⟨S1184x512, .bf16⟩
  | .hbm, ⟨29, _⟩ => ⟨S512x256, .f32⟩
  | .hbm, ⟨30, _⟩ => ⟨S_, .f32⟩
  | .hbm, ⟨31, _⟩ => ⟨S512, .f32⟩
  | .hbm, ⟨32, _⟩ => ⟨S512x1, .f32⟩
  | .hbm, ⟨33, _⟩ => ⟨S256x512x3x3, .f32⟩
  | .hbm, ⟨34, _⟩ => ⟨S3x3x256x512, .f32⟩
  | .hbm, ⟨35, _⟩ => ⟨S9x256x512, .f32⟩
  | .hbm, ⟨36, _⟩ => ⟨S9x256x512, .bf16⟩
  | .hbm, ⟨37, _⟩ => ⟨S3x3x256x512, .f32⟩
  | .hbm, ⟨38, _⟩ => ⟨S9x256x512, .f32⟩
  | .hbm, ⟨39, _⟩ => ⟨S9x256x512, .bf16⟩
  | .hbm, ⟨40, _⟩ => ⟨S1x256, .f32⟩
  | .hbm, ⟨41, _⟩ => ⟨S3x3x256x256, .f32⟩
  | .hbm, ⟨42, _⟩ => ⟨S9x256x256, .f32⟩
  | .hbm, ⟨43, _⟩ => ⟨S9x256x256, .bf16⟩
  | .hbm, ⟨44, _⟩ => ⟨S1x256, .f32⟩
  | .hbm, ⟨45, _⟩ => ⟨S3x3x256x256, .f32⟩
  | .hbm, ⟨46, _⟩ => ⟨S9x256x256, .f32⟩
  | .hbm, ⟨47, _⟩ => ⟨S9x256x256, .bf16⟩
  | .hbm, ⟨48, _⟩ => ⟨S1x256, .f32⟩
  | .hbm, ⟨49, _⟩ => ⟨S256x256, .f32⟩
  | .hbm, ⟨50, _⟩ => ⟨S256x256, .bf16⟩
  | .hbm, ⟨51, _⟩ => ⟨S1x256, .f32⟩
  | .hbm, ⟨52, _⟩ => ⟨S512x256, .bf16⟩
  | .hbm, ⟨53, _⟩ => ⟨S256x512, .f32⟩
  | .hbm, ⟨54, _⟩ => ⟨S3x3x256x256, .f32⟩
  | .hbm, ⟨55, _⟩ => ⟨S9x256x256, .f32⟩
  | .hbm, ⟨56, _⟩ => ⟨S9x256x256, .bf16⟩
  | .hbm, ⟨57, _⟩ => ⟨S1x256, .f32⟩
  | .hbm, ⟨58, _⟩ => ⟨S3x3x256x256, .f32⟩
  | .hbm, ⟨59, _⟩ => ⟨S9x256x256, .f32⟩
  | .hbm, ⟨60, _⟩ => ⟨S9x256x256, .bf16⟩
  | .hbm, ⟨61, _⟩ => ⟨S1x256, .f32⟩
  | .hbm, ⟨62, _⟩ => ⟨S256x256, .f32⟩
  | .hbm, ⟨63, _⟩ => ⟨S256x256, .bf16⟩
  | .hbm, ⟨64, _⟩ => ⟨S1x256, .f32⟩
  | .hbm, ⟨65, _⟩ => ⟨S1x512, .f32⟩
  | .hbm, ⟨66, _⟩ => ⟨S512x1152, .f32⟩
  | .hbm, ⟨67, _⟩ => ⟨S256x1152, .f32⟩
  | .hbm, ⟨68, _⟩ => ⟨S256x1152, .f32⟩
  | .hbm, ⟨69, _⟩ => ⟨S512x16x9x8, .f32⟩
  | .hbm, ⟨70, _⟩ => ⟨S512x16x7x7, .f32⟩
  | .hbm, ⟨71, _⟩ => ⟨S16x512x7x7, .f32⟩
  | .hbm, ⟨72, _⟩ => ⟨S256x16x9x8, .f32⟩
  | .hbm, ⟨73, _⟩ => ⟨S256x16x7x7, .f32⟩
  | .hbm, ⟨74, _⟩ => ⟨S16x256x7x7, .f32⟩
  | .hbm, ⟨75, _⟩ => ⟨S256x16x9x8, .f32⟩
  | .hbm, ⟨76, _⟩ => ⟨S256x16x7x7, .f32⟩
  | .hbm, ⟨77, _⟩ => ⟨S16x256x7x7, .f32⟩
  | .local _ .vmem, ⟨0, _⟩ => ⟨S1184x512, .bf16⟩
  | .local _ .vmem, ⟨1, _⟩ => ⟨S1152x1, .f32⟩
  | .local _ .vmem, ⟨2, _⟩ => ⟨S1x1152, .f32⟩
  | .local _ .vmem, ⟨3, _⟩ => ⟨S9x256x512, .bf16⟩
  | .local _ .vmem, ⟨4, _⟩ => ⟨S1x256, .f32⟩
  | .local _ .vmem, ⟨5, _⟩ => ⟨S9x256x256, .bf16⟩
  | .local _ .vmem, ⟨6, _⟩ => ⟨S1x256, .f32⟩
  | .local _ .vmem, ⟨7, _⟩ => ⟨S9x256x256, .bf16⟩
  | .local _ .vmem, ⟨8, _⟩ => ⟨S1x256, .f32⟩
  | .local _ .vmem, ⟨9, _⟩ => ⟨S256x256, .bf16⟩
  | .local _ .vmem, ⟨10, _⟩ => ⟨S1x256, .f32⟩
  | .local _ .vmem, ⟨11, _⟩ => ⟨S512x256, .bf16⟩
  | .local _ .vmem, ⟨12, _⟩ => ⟨S512x1, .f32⟩
  | .local _ .vmem, ⟨13, _⟩ => ⟨S256x512, .f32⟩
  | .local _ .vmem, ⟨14, _⟩ => ⟨S9x256x256, .bf16⟩
  | .local _ .vmem, ⟨15, _⟩ => ⟨S1x256, .f32⟩
  | .local _ .vmem, ⟨16, _⟩ => ⟨S9x256x256, .bf16⟩
  | .local _ .vmem, ⟨17, _⟩ => ⟨S1x256, .f32⟩
  | .local _ .vmem, ⟨18, _⟩ => ⟨S256x256, .bf16⟩
  | .local _ .vmem, ⟨19, _⟩ => ⟨S1x256, .f32⟩
  | .local _ .vmem, ⟨20, _⟩ => ⟨S9x256x512, .bf16⟩
  | .local _ .vmem, ⟨21, _⟩ => ⟨S1x512, .f32⟩
  | .local _ .vmem, ⟨22, _⟩ => ⟨S512x1152, .f32⟩
  | .local _ .vmem, ⟨23, _⟩ => ⟨S256x1152, .f32⟩
  | .local _ .vmem, ⟨24, _⟩ => ⟨S256x1152, .f32⟩
  | _, _ => ⟨S16x49x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_cst_0 : Ref sig .tc := ⟨.hbm, 19, rfl⟩
abbrev main_v0 : Ref sig .tc := ⟨.hbm, 20, rfl⟩
abbrev main_v1 : Ref sig .tc := ⟨.hbm, 21, rfl⟩
abbrev main_c : Ref sig .tc := ⟨.hbm, 22, rfl⟩
abbrev main_call0_v0 : Ref sig .tc := ⟨.hbm, 23, rfl⟩
abbrev main_v2 : Ref sig .tc := ⟨.hbm, 24, rfl⟩
abbrev main_v3 : Ref sig .tc := ⟨.hbm, 25, rfl⟩
abbrev main_c_1 : Ref sig .tc := ⟨.hbm, 26, rfl⟩
abbrev main_call1_v0 : Ref sig .tc := ⟨.hbm, 27, rfl⟩
abbrev main_v4 : Ref sig .tc := ⟨.hbm, 28, rfl⟩
abbrev main_v5 : Ref sig .tc := ⟨.hbm, 29, rfl⟩
abbrev main_cst_2 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41_0 : Ref sig .tc := ⟨.hbm, 66, rfl⟩
abbrev main_v41_1 : Ref sig .tc := ⟨.hbm, 67, rfl⟩
abbrev main_v41_2 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24

abbrev nD : Nat := 1
abbrev τ : Topo := Topo.v7x

variable {F : FTy → Type} [FloatOps F]

abbrev grid0 : Pipeline.Grid := .none

abbrev stage0_0 : Fin 1 → Memref sig .tc .vmem S1184x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S9x256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S9x256x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S9x256x512 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S512x1152 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S256x1152 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S256x1152 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
-- ==== ReferenceIdeal.lean ====
abbrev S16x49x512 : Shape := ⟨3, ![16, 49, 512]⟩
abbrev S256x512x3x3 : Shape := ⟨4, ![256, 512, 3, 3]⟩
abbrev S256 : Shape := ⟨1, ![256]⟩
abbrev S256x256x3x3 : Shape := ⟨4, ![256, 256, 3, 3]⟩
abbrev S256x256x1x1 : Shape := ⟨4, ![256, 256, 1, 1]⟩
abbrev S512x256 : Shape := ⟨2, ![512, 256]⟩
abbrev S512 : Shape := ⟨1, ![512]⟩
abbrev S16x512x49 : Shape := ⟨3, ![16, 512, 49]⟩
abbrev S16x512x7x7 : Shape := ⟨4, ![16, 512, 7, 7]⟩
abbrev S_ : Shape := ⟨0, ![]⟩
abbrev S16x512x9x9 : Shape := ⟨4, ![16, 512, 9, 9]⟩
abbrev S16x256x7x7 : Shape := ⟨4, ![16, 256, 7, 7]⟩
abbrev S256x512x1x1 : Shape := ⟨4, ![256, 512, 1, 1]⟩
abbrev S256x512 : Shape := ⟨2, ![256, 512]⟩
abbrev S256x16x7x7 : Shape := ⟨4, ![256, 16, 7, 7]⟩
abbrev S1x256x1x1 : Shape := ⟨4, ![1, 256, 1, 1]⟩
abbrev S16x256x9x9 : Shape := ⟨4, ![16, 256, 9, 9]⟩
abbrev S256x256 : Shape := ⟨2, ![256, 256]⟩
abbrev S1x512x256x1x1 : Shape := ⟨5, ![1, 512, 256, 1, 1]⟩
abbrev S16x1x256x7x7 : Shape := ⟨5, ![16, 1, 256, 7, 7]⟩
abbrev S16x512x256x7x7 : Shape := ⟨5, ![16, 512, 256, 7, 7]⟩
abbrev S16x7x7 : Shape := ⟨3, ![16, 7, 7]⟩
abbrev S16x1x7x7 : Shape := ⟨4, ![16, 1, 7, 7]⟩
abbrev S16x7x7x1 : Shape := ⟨4, ![16, 7, 7, 1]⟩
abbrev S16x7x7x256 : Shape := ⟨4, ![16, 7, 7, 256]⟩
abbrev S512x256x3x3 : Shape := ⟨4, ![512, 256, 3, 3]⟩
abbrev S512x256x1x1 : Shape := ⟨4, ![512, 256, 1, 1]⟩
abbrev S512x16x7x7 : Shape := ⟨4, ![512, 16, 7, 7]⟩
abbrev S1x512x1x1 : Shape := ⟨4, ![1, 512, 1, 1]⟩

abbrev nBuf : Space → Nat
  | .hbm => 467
  | .vmem => 0
  | .smem => 0
  | _ => 0

abbrev hbmTy0_0 (i : Nat) : BufTy := match i % 128 with
  | 0 => ⟨S16x49x512, .f32⟩
  | 1 => ⟨S256x512x3x3, .f32⟩
  | 2 => ⟨S256, .f32⟩
  | 3 => ⟨S256x256x3x3, .f32⟩
  | 4 => ⟨S256, .f32⟩
  | 5 => ⟨S256x256x3x3, .f32⟩
  | 6 => ⟨S256, .f32⟩
  | 7 => ⟨S256x256x1x1, .f32⟩
  | 8 => ⟨S256, .f32⟩
  | 9 => ⟨S512x256, .f32⟩
  | 10 => ⟨S256x256x3x3, .f32⟩
  | 11 => ⟨S256, .f32⟩
  | 12 => ⟨S256x256x3x3, .f32⟩
  | 13 => ⟨S256, .f32⟩
  | 14 => ⟨S256x256x1x1, .f32⟩
  | 15 => ⟨S256, .f32⟩
  | 16 => ⟨S256x512x3x3, .f32⟩
  | 17 => ⟨S512, .f32⟩
  | 18 => ⟨S16x512x49, .f32⟩
  | 19 => ⟨S16x512x7x7, .f32⟩
  | 20 => ⟨S_, .i32⟩
  | 21 => ⟨S_, .f32⟩
  | 22 => ⟨S16x512x9x9, .f32⟩
  | 23 => ⟨S_, .f32⟩
  | 24 => ⟨S16x256x7x7, .f32⟩
  | 25 => ⟨S16x512x7x7, .f32⟩
  | 26 => ⟨S256x512x1x1, .f32⟩
  | 27 => ⟨S256x512, .f32⟩
  | 28 => ⟨S256x16x7x7, .f32⟩
  | 29 => ⟨S16x256x7x7, .f32⟩
  | 30 => ⟨S16x256x7x7, .f32⟩
  | 31 => ⟨S16x512x7x7, .f32⟩
  | 32 => ⟨S256x512x1x1, .f32⟩
  | 33 => ⟨S256x512, .f32⟩
  | 34 => ⟨S256x16x7x7, .f32⟩
  | 35 => ⟨S16x256x7x7, .f32⟩
  | 36 => ⟨S16x256x7x7, .f32⟩
  | 37 => ⟨S16x512x7x7, .f32⟩
  | 38 => ⟨S256x512x1x1, .f32⟩
  | 39 => ⟨S256x512, .f32⟩
  | 40 => ⟨S256x16x7x7, .f32⟩
  | 41 => ⟨S16x256x7x7, .f32⟩
  | 42 => ⟨S16x256x7x7, .f32⟩
  | 43 => ⟨S16x512x7x7, .f32⟩
  | 44 => ⟨S256x512x1x1, .f32⟩
  | 45 => ⟨S256x512, .f32⟩
  | 46 => ⟨S256x16x7x7, .f32⟩
  | 47 => ⟨S16x256x7x7, .f32⟩
  | 48 => ⟨S16x256x7x7, .f32⟩
  | 49 => ⟨S16x512x7x7, .f32⟩
  | 50 => ⟨S256x512x1x1, .f32⟩
  | 51 => ⟨S256x512, .f32⟩
  | 52 => ⟨S256x16x7x7, .f32⟩
  | 53 => ⟨S16x256x7x7, .f32⟩
  | 54 => ⟨S16x256x7x7, .f32⟩
  | 55 => ⟨S16x512x7x7, .f32⟩
  | 56 => ⟨S256x512x1x1, .f32⟩
  | 57 => ⟨S256x512, .f32⟩
  | 58 => ⟨S256x16x7x7, .f32⟩
  | 59 => ⟨S16x256x7x7, .f32⟩
  | 60 => ⟨S16x256x7x7, .f32⟩
  | 61 => ⟨S16x512x7x7, .f32⟩
  | 62 => ⟨S256x512x1x1, .f32⟩
  | 63 => ⟨S256x512, .f32⟩
  | 64 => ⟨S256x16x7x7, .f32⟩
  | 65 => ⟨S16x256x7x7, .f32⟩
  | 66 => ⟨S16x256x7x7, .f32⟩
  | 67 => ⟨S16x512x7x7, .f32⟩
  | 68 => ⟨S256x512x1x1, .f32⟩
  | 69 => ⟨S256x512, .f32⟩
  | 70 => ⟨S256x16x7x7, .f32⟩
  | 71 => ⟨S16x256x7x7, .f32⟩
  | 72 => ⟨S16x256x7x7, .f32⟩
  | 73 => ⟨S16x512x7x7, .f32⟩
  | 74 => ⟨S256x512x1x1, .f32⟩
  | 75 => ⟨S256x512, .f32⟩
  | 76 => ⟨S256x16x7x7, .f32⟩
  | 77 => ⟨S16x256x7x7, .f32⟩
  | 78 => ⟨S16x256x7x7, .f32⟩
  | 79 => ⟨S1x256x1x1, .f32⟩
  | 80 => ⟨S16x256x7x7, .f32⟩
  | 81 => ⟨S16x256x7x7, .f32⟩
  | 82 => ⟨S_, .f32⟩
  | 83 => ⟨S16x256x7x7, .f32⟩
  | 84 => ⟨S16x256x7x7, .f32⟩
  | 85 => ⟨S_, .i32⟩
  | 86 => ⟨S_, .f32⟩
  | 87 => ⟨S16x256x9x9, .f32⟩
  | 88 => ⟨S_, .f32⟩
  | 89 => ⟨S16x256x7x7, .f32⟩
  | 90 => ⟨S16x256x7x7, .f32⟩
  | 91 => ⟨S256x256x1x1, .f32⟩
  | 92 => ⟨S256x256, .f32⟩
  | 93 => ⟨S256x16x7x7, .f32⟩
  | 94 => ⟨S16x256x7x7, .f32⟩
  | 95 => ⟨S16x256x7x7, .f32⟩
  | 96 => ⟨S16x256x7x7, .f32⟩
  | 97 => ⟨S256x256x1x1, .f32⟩
  | 98 => ⟨S256x256, .f32⟩
  | 99 => ⟨S256x16x7x7, .f32⟩
  | 100 => ⟨S16x256x7x7, .f32⟩
  | 101 => ⟨S16x256x7x7, .f32⟩
  | 102 => ⟨S16x256x7x7, .f32⟩
  | 103 => ⟨S256x256x1x1, .f32⟩
  | 104 => ⟨S256x256, .f32⟩
  | 105 => ⟨S256x16x7x7, .f32⟩
  | 106 => ⟨S16x256x7x7, .f32⟩
  | 107 => ⟨S16x256x7x7, .f32⟩
  | 108 => ⟨S16x256x7x7, .f32⟩
  | 109 => ⟨S256x256x1x1, .f32⟩
  | 110 => ⟨S256x256, .f32⟩
  | 111 => ⟨S256x16x7x7, .f32⟩
  | 112 => ⟨S16x256x7x7, .f32⟩
  | 113 => ⟨S16x256x7x7, .f32⟩
  | 114 => ⟨S16x256x7x7, .f32⟩
  | 115 => ⟨S256x256x1x1, .f32⟩
  | 116 => ⟨S256x256, .f32⟩
  | 117 => ⟨S256x16x7x7, .f32⟩
  | 118 => ⟨S16x256x7x7, .f32⟩
  | 119 => ⟨S16x256x7x7, .f32⟩
  | 120 => ⟨S16x256x7x7, .f32⟩
  | 121 => ⟨S256x256x1x1, .f32⟩
  | 122 => ⟨S256x256, .f32⟩
  | 123 => ⟨S256x16x7x7, .f32⟩
  | 124 => ⟨S16x256x7x7, .f32⟩
  | 125 => ⟨S16x256x7x7, .f32⟩
  | 126 => ⟨S16x256x7x7, .f32⟩
  | 127 => ⟨S256x256x1x1, .f32⟩
  | _ => ⟨S16x49x512, .f32⟩

abbrev hbmTy0_1 (i : Nat) : BufTy := match i % 128 with
  | 0 => ⟨S256x256, .f32⟩
  | 1 => ⟨S256x16x7x7, .f32⟩
  | 2 => ⟨S16x256x7x7, .f32⟩
  | 3 => ⟨S16x256x7x7, .f32⟩
  | 4 => ⟨S16x256x7x7, .f32⟩
  | 5 => ⟨S256x256x1x1, .f32⟩
  | 6 => ⟨S256x256, .f32⟩
  | 7 => ⟨S256x16x7x7, .f32⟩
  | 8 => ⟨S16x256x7x7, .f32⟩
  | 9 => ⟨S16x256x7x7, .f32⟩
  | 10 => ⟨S16x256x7x7, .f32⟩
  | 11 => ⟨S256x256x1x1, .f32⟩
  | 12 => ⟨S256x256, .f32⟩
  | 13 => ⟨S256x16x7x7, .f32⟩
  | 14 => ⟨S16x256x7x7, .f32⟩
  | 15 => ⟨S16x256x7x7, .f32⟩
  | 16 => ⟨S1x256x1x1, .f32⟩
  | 17 => ⟨S16x256x7x7, .f32⟩
  | 18 => ⟨S16x256x7x7, .f32⟩
  | 19 => ⟨S_, .f32⟩
  | 20 => ⟨S16x256x7x7, .f32⟩
  | 21 => ⟨S16x256x7x7, .f32⟩
  | 22 => ⟨S_, .i32⟩
  | 23 => ⟨S_, .f32⟩
  | 24 => ⟨S16x256x9x9, .f32⟩
  | 25 => ⟨S_, .f32⟩
  | 26 => ⟨S16x256x7x7, .f32⟩
  | 27 => ⟨S16x256x7x7, .f32⟩
  | 28 => ⟨S256x256x1x1, .f32⟩
  | 29 => ⟨S256x256, .f32⟩
  | 30 => ⟨S256x16x7x7, .f32⟩
  | 31 => ⟨S16x256x7x7, .f32⟩
  | 32 => ⟨S16x256x7x7, .f32⟩
  | 33 => ⟨S16x256x7x7, .f32⟩
  | 34 => ⟨S256x256x1x1, .f32⟩
  | 35 => ⟨S256x256, .f32⟩
  | 36 => ⟨S256x16x7x7, .f32⟩
  | 37 => ⟨S16x256x7x7, .f32⟩
  | 38 => ⟨S16x256x7x7, .f32⟩
  | 39 => ⟨S16x256x7x7, .f32⟩
  | 40 => ⟨S256x256x1x1, .f32⟩
  | 41 => ⟨S256x256, .f32⟩
  | 42 => ⟨S256x16x7x7, .f32⟩
  | 43 => ⟨S16x256x7x7, .f32⟩
  | 44 => ⟨S16x256x7x7, .f32⟩
  | 45 => ⟨S16x256x7x7, .f32⟩
  | 46 => ⟨S256x256x1x1, .f32⟩
  | 47 => ⟨S256x256, .f32⟩
  | 48 => ⟨S256x16x7x7, .f32⟩
  | 49 => ⟨S16x256x7x7, .f32⟩
  | 50 => ⟨S16x256x7x7, .f32⟩
  | 51 => ⟨S16x256x7x7, .f32⟩
  | 52 => ⟨S256x256x1x1, .f32⟩
  | 53 => ⟨S256x256, .f32⟩
  | 54 => ⟨S256x16x7x7, .f32⟩
  | 55 => ⟨S16x256x7x7, .f32⟩
  | 56 => ⟨S16x256x7x7, .f32⟩
  | 57 => ⟨S16x256x7x7, .f32⟩
  | 58 => ⟨S256x256x1x1, .f32⟩
  | 59 => ⟨S256x256, .f32⟩
  | 60 => ⟨S256x16x7x7, .f32⟩
  | 61 => ⟨S16x256x7x7, .f32⟩
  | 62 => ⟨S16x256x7x7, .f32⟩
  | 63 => ⟨S16x256x7x7, .f32⟩
  | 64 => ⟨S256x256x1x1, .f32⟩
  | 65 => ⟨S256x256, .f32⟩
  | 66 => ⟨S256x16x7x7, .f32⟩
  | 67 => ⟨S16x256x7x7, .f32⟩
  | 68 => ⟨S16x256x7x7, .f32⟩
  | 69 => ⟨S16x256x7x7, .f32⟩
  | 70 => ⟨S256x256x1x1, .f32⟩
  | 71 => ⟨S256x256, .f32⟩
  | 72 => ⟨S256x16x7x7, .f32⟩
  | 73 => ⟨S16x256x7x7, .f32⟩
  | 74 => ⟨S16x256x7x7, .f32⟩
  | 75 => ⟨S16x256x7x7, .f32⟩
  | 76 => ⟨S256x256x1x1, .f32⟩
  | 77 => ⟨S256x256, .f32⟩
  | 78 => ⟨S256x16x7x7, .f32⟩
  | 79 => ⟨S16x256x7x7, .f32⟩
  | 80 => ⟨S16x256x7x7, .f32⟩
  | 81 => ⟨S1x256x1x1, .f32⟩
  | 82 => ⟨S16x256x7x7, .f32⟩
  | 83 => ⟨S16x256x7x7, .f32⟩
  | 84 => ⟨S_, .f32⟩
  | 85 => ⟨S16x256x7x7, .f32⟩
  | 86 => ⟨S16x256x7x7, .f32⟩
  | 87 => ⟨S_, .i32⟩
  | 88 => ⟨S_, .f32⟩
  | 89 => ⟨S16x256x7x7, .f32⟩
  | 90 => ⟨S_, .f32⟩
  | 91 => ⟨S16x256x7x7, .f32⟩
  | 92 => ⟨S256x256, .f32⟩
  | 93 => ⟨S256x16x7x7, .f32⟩
  | 94 => ⟨S16x256x7x7, .f32⟩
  | 95 => ⟨S16x256x7x7, .f32⟩
  | 96 => ⟨S1x256x1x1, .f32⟩
  | 97 => ⟨S16x256x7x7, .f32⟩
  | 98 => ⟨S16x256x7x7, .f32⟩
  | 99 => ⟨S16x256x7x7, .f32⟩
  | 100 => ⟨S1x512x256x1x1, .f32⟩
  | 101 => ⟨S16x1x256x7x7, .f32⟩
  | 102 => ⟨S16x512x256x7x7, .f32⟩
  | 103 => ⟨S16x512x256x7x7, .f32⟩
  | 104 => ⟨S16x512x256x7x7, .f32⟩
  | 105 => ⟨S16x512x256x7x7, .f32⟩
  | 106 => ⟨S_, .f32⟩
  | 107 => ⟨S16x512x7x7, .f32⟩
  | 108 => ⟨S_, .f32⟩
  | 109 => ⟨S16x7x7, .f32⟩
  | 110 => ⟨S16x1x7x7, .f32⟩
  | 111 => ⟨S16x512x7x7, .f32⟩
  | 112 => ⟨S16x512x7x7, .i1⟩
  | 113 => ⟨S16x512x7x7, .i32⟩
  | 114 => ⟨S_, .i32⟩
  | 115 => ⟨S_, .i32⟩
  | 116 => ⟨S16x512x7x7, .i32⟩
  | 117 => ⟨S16x512x7x7, .i32⟩
  | 118 => ⟨S_, .i32⟩
  | 119 => ⟨S16x7x7, .i32⟩
  | 120 => ⟨S_, .i32⟩
  | 121 => ⟨S16x7x7, .i32⟩
  | 122 => ⟨S16x7x7, .i1⟩
  | 123 => ⟨S_, .i32⟩
  | 124 => ⟨S16x7x7, .i32⟩
  | 125 => ⟨S16x7x7, .i32⟩
  | 126 => ⟨S16x7x7, .i32⟩
  | 127 => ⟨S16x7x7x1, .i32⟩
  | _ => ⟨S16x49x512, .f32⟩

abbrev hbmTy0_2 (i : Nat) : BufTy := match i % 128 with
  | 0 => ⟨S16x7x7x256, .f32⟩
  | 1 => ⟨S16x256x7x7, .f32⟩
  | 2 => ⟨S16x256x7x7, .f32⟩
  | 3 => ⟨S16x256x7x7, .f32⟩
  | 4 => ⟨S_, .i32⟩
  | 5 => ⟨S_, .f32⟩
  | 6 => ⟨S16x256x9x9, .f32⟩
  | 7 => ⟨S_, .f32⟩
  | 8 => ⟨S16x256x7x7, .f32⟩
  | 9 => ⟨S16x256x7x7, .f32⟩
  | 10 => ⟨S256x256x1x1, .f32⟩
  | 11 => ⟨S256x256, .f32⟩
  | 12 => ⟨S256x16x7x7, .f32⟩
  | 13 => ⟨S16x256x7x7, .f32⟩
  | 14 => ⟨S16x256x7x7, .f32⟩
  | 15 => ⟨S16x256x7x7, .f32⟩
  | 16 => ⟨S256x256x1x1, .f32⟩
  | 17 => ⟨S256x256, .f32⟩
  | 18 => ⟨S256x16x7x7, .f32⟩
  | 19 => ⟨S16x256x7x7, .f32⟩
  | 20 => ⟨S16x256x7x7, .f32⟩
  | 21 => ⟨S16x256x7x7, .f32⟩
  | 22 => ⟨S256x256x1x1, .f32⟩
  | 23 => ⟨S256x256, .f32⟩
  | 24 => ⟨S256x16x7x7, .f32⟩
  | 25 => ⟨S16x256x7x7, .f32⟩
  | 26 => ⟨S16x256x7x7, .f32⟩
  | 27 => ⟨S16x256x7x7, .f32⟩
  | 28 => ⟨S256x256x1x1, .f32⟩
  | 29 => ⟨S256x256, .f32⟩
  | 30 => ⟨S256x16x7x7, .f32⟩
  | 31 => ⟨S16x256x7x7, .f32⟩
  | 32 => ⟨S16x256x7x7, .f32⟩
  | 33 => ⟨S16x256x7x7, .f32⟩
  | 34 => ⟨S256x256x1x1, .f32⟩
  | 35 => ⟨S256x256, .f32⟩
  | 36 => ⟨S256x16x7x7, .f32⟩
  | 37 => ⟨S16x256x7x7, .f32⟩
  | 38 => ⟨S16x256x7x7, .f32⟩
  | 39 => ⟨S16x256x7x7, .f32⟩
  | 40 => ⟨S256x256x1x1, .f32⟩
  | 41 => ⟨S256x256, .f32⟩
  | 42 => ⟨S256x16x7x7, .f32⟩
  | 43 => ⟨S16x256x7x7, .f32⟩
  | 44 => ⟨S16x256x7x7, .f32⟩
  | 45 => ⟨S16x256x7x7, .f32⟩
  | 46 => ⟨S256x256x1x1, .f32⟩
  | 47 => ⟨S256x256, .f32⟩
  | 48 => ⟨S256x16x7x7, .f32⟩
  | 49 => ⟨S16x256x7x7, .f32⟩
  | 50 => ⟨S16x256x7x7, .f32⟩
  | 51 => ⟨S16x256x7x7, .f32⟩
  | 52 => ⟨S256x256x1x1, .f32⟩
  | 53 => ⟨S256x256, .f32⟩
  | 54 => ⟨S256x16x7x7, .f32⟩
  | 55 => ⟨S16x256x7x7, .f32⟩
  | 56 => ⟨S16x256x7x7, .f32⟩
  | 57 => ⟨S16x256x7x7, .f32⟩
  | 58 => ⟨S256x256x1x1, .f32⟩
  | 59 => ⟨S256x256, .f32⟩
  | 60 => ⟨S256x16x7x7, .f32⟩
  | 61 => ⟨S16x256x7x7, .f32⟩
  | 62 => ⟨S16x256x7x7, .f32⟩
  | 63 => ⟨S1x256x1x1, .f32⟩
  | 64 => ⟨S16x256x7x7, .f32⟩
  | 65 => ⟨S16x256x7x7, .f32⟩
  | 66 => ⟨S_, .f32⟩
  | 67 => ⟨S16x256x7x7, .f32⟩
  | 68 => ⟨S16x256x7x7, .f32⟩
  | 69 => ⟨S_, .i32⟩
  | 70 => ⟨S_, .f32⟩
  | 71 => ⟨S16x256x9x9, .f32⟩
  | 72 => ⟨S_, .f32⟩
  | 73 => ⟨S16x256x7x7, .f32⟩
  | 74 => ⟨S16x256x7x7, .f32⟩
  | 75 => ⟨S256x256x1x1, .f32⟩
  | 76 => ⟨S256x256, .f32⟩
  | 77 => ⟨S256x16x7x7, .f32⟩
  | 78 => ⟨S16x256x7x7, .f32⟩
  | 79 => ⟨S16x256x7x7, .f32⟩
  | 80 => ⟨S16x256x7x7, .f32⟩
  | 81 => ⟨S256x256x1x1, .f32⟩
  | 82 => ⟨S256x256, .f32⟩
  | 83 => ⟨S256x16x7x7, .f32⟩
  | 84 => ⟨S16x256x7x7, .f32⟩
  | 85 => ⟨S16x256x7x7, .f32⟩
  | 86 => ⟨S16x256x7x7, .f32⟩
  | 87 => ⟨S256x256x1x1, .f32⟩
  | 88 => ⟨S256x256, .f32⟩
  | 89 => ⟨S256x16x7x7, .f32⟩
  | 90 => ⟨S16x256x7x7, .f32⟩
  | 91 => ⟨S16x256x7x7, .f32⟩
  | 92 => ⟨S16x256x7x7, .f32⟩
  | 93 => ⟨S256x256x1x1, .f32⟩
  | 94 => ⟨S256x256, .f32⟩
  | 95 => ⟨S256x16x7x7, .f32⟩
  | 96 => ⟨S16x256x7x7, .f32⟩
  | 97 => ⟨S16x256x7x7, .f32⟩
  | 98 => ⟨S16x256x7x7, .f32⟩
  | 99 => ⟨S256x256x1x1, .f32⟩
  | 100 => ⟨S256x256, .f32⟩
  | 101 => ⟨S256x16x7x7, .f32⟩
  | 102 => ⟨S16x256x7x7, .f32⟩
  | 103 => ⟨S16x256x7x7, .f32⟩
  | 104 => ⟨S16x256x7x7, .f32⟩
  | 105 => ⟨S256x256x1x1, .f32⟩
  | 106 => ⟨S256x256, .f32⟩
  | 107 => ⟨S256x16x7x7, .f32⟩
  | 108 => ⟨S16x256x7x7, .f32⟩
  | 109 => ⟨S16x256x7x7, .f32⟩
  | 110 => ⟨S16x256x7x7, .f32⟩
  | 111 => ⟨S256x256x1x1, .f32⟩
  | 112 => ⟨S256x256, .f32⟩
  | 113 => ⟨S256x16x7x7, .f32⟩
  | 114 => ⟨S16x256x7x7, .f32⟩
  | 115 => ⟨S16x256x7x7, .f32⟩
  | 116 => ⟨S16x256x7x7, .f32⟩
  | 117 => ⟨S256x256x1x1, .f32⟩
  | 118 => ⟨S256x256, .f32⟩
  | 119 => ⟨S256x16x7x7, .f32⟩
  | 120 => ⟨S16x256x7x7, .f32⟩
  | 121 => ⟨S16x256x7x7, .f32⟩
  | 122 => ⟨S16x256x7x7, .f32⟩
  | 123 => ⟨S256x256x1x1, .f32⟩
  | 124 => ⟨S256x256, .f32⟩
  | 125 => ⟨S256x16x7x7, .f32⟩
  | 126 => ⟨S16x256x7x7, .f32⟩
  | 127 => ⟨S16x256x7x7, .f32⟩
  | _ => ⟨S16x49x512, .f32⟩

abbrev hbmTy0_3 (i : Nat) : BufTy := match i % 128 with
  | 0 => ⟨S1x256x1x1, .f32⟩
  | 1 => ⟨S16x256x7x7, .f32⟩
  | 2 => ⟨S16x256x7x7, .f32⟩
  | 3 => ⟨S_, .f32⟩
  | 4 => ⟨S16x256x7x7, .f32⟩
  | 5 => ⟨S16x256x7x7, .f32⟩
  | 6 => ⟨S_, .i32⟩
  | 7 => ⟨S_, .f32⟩
  | 8 => ⟨S16x256x7x7, .f32⟩
  | 9 => ⟨S_, .f32⟩
  | 10 => ⟨S16x256x7x7, .f32⟩
  | 11 => ⟨S256x256, .f32⟩
  | 12 => ⟨S256x16x7x7, .f32⟩
  | 13 => ⟨S16x256x7x7, .f32⟩
  | 14 => ⟨S16x256x7x7, .f32⟩
  | 15 => ⟨S1x256x1x1, .f32⟩
  | 16 => ⟨S16x256x7x7, .f32⟩
  | 17 => ⟨S16x256x7x7, .f32⟩
  | 18 => ⟨S16x256x7x7, .f32⟩
  | 19 => ⟨S256x512x3x3, .f32⟩
  | 20 => ⟨S512x256x3x3, .f32⟩
  | 21 => ⟨S_, .i32⟩
  | 22 => ⟨S_, .f32⟩
  | 23 => ⟨S16x256x9x9, .f32⟩
  | 24 => ⟨S_, .f32⟩
  | 25 => ⟨S16x512x7x7, .f32⟩
  | 26 => ⟨S16x256x7x7, .f32⟩
  | 27 => ⟨S512x256x1x1, .f32⟩
  | 28 => ⟨S512x256, .f32⟩
  | 29 => ⟨S512x16x7x7, .f32⟩
  | 30 => ⟨S16x512x7x7, .f32⟩
  | 31 => ⟨S16x512x7x7, .f32⟩
  | 32 => ⟨S16x256x7x7, .f32⟩
  | 33 => ⟨S512x256x1x1, .f32⟩
  | 34 => ⟨S512x256, .f32⟩
  | 35 => ⟨S512x16x7x7, .f32⟩
  | 36 => ⟨S16x512x7x7, .f32⟩
  | 37 => ⟨S16x512x7x7, .f32⟩
  | 38 => ⟨S16x256x7x7, .f32⟩
  | 39 => ⟨S512x256x1x1, .f32⟩
  | 40 => ⟨S512x256, .f32⟩
  | 41 => ⟨S512x16x7x7, .f32⟩
  | 42 => ⟨S16x512x7x7, .f32⟩
  | 43 => ⟨S16x512x7x7, .f32⟩
  | 44 => ⟨S16x256x7x7, .f32⟩
  | 45 => ⟨S512x256x1x1, .f32⟩
  | 46 => ⟨S512x256, .f32⟩
  | 47 => ⟨S512x16x7x7, .f32⟩
  | 48 => ⟨S16x512x7x7, .f32⟩
  | 49 => ⟨S16x512x7x7, .f32⟩
  | 50 => ⟨S16x256x7x7, .f32⟩
  | 51 => ⟨S512x256x1x1, .f32⟩
  | 52 => ⟨S512x256, .f32⟩
  | 53 => ⟨S512x16x7x7, .f32⟩
  | 54 => ⟨S16x512x7x7, .f32⟩
  | 55 => ⟨S16x512x7x7, .f32⟩
  | 56 => ⟨S16x256x7x7, .f32⟩
  | 57 => ⟨S512x256x1x1, .f32⟩
  | 58 => ⟨S512x256, .f32⟩
  | 59 => ⟨S512x16x7x7, .f32⟩
  | 60 => ⟨S16x512x7x7, .f32⟩
  | 61 => ⟨S16x512x7x7, .f32⟩
  | 62 => ⟨S16x256x7x7, .f32⟩
  | 63 => ⟨S512x256x1x1, .f32⟩
  | 64 => ⟨S512x256, .f32⟩
  | 65 => ⟨S512x16x7x7, .f32⟩
  | 66 => ⟨S16x512x7x7, .f32⟩
  | 67 => ⟨S16x512x7x7, .f32⟩
  | 68 => ⟨S16x256x7x7, .f32⟩
  | 69 => ⟨S512x256x1x1, .f32⟩
  | 70 => ⟨S512x256, .f32⟩
  | 71 => ⟨S512x16x7x7, .f32⟩
  | 72 => ⟨S16x512x7x7, .f32⟩
  | 73 => ⟨S16x512x7x7, .f32⟩
  | 74 => ⟨S16x256x7x7, .f32⟩
  | 75 => ⟨S512x256x1x1, .f32⟩
  | 76 => ⟨S512x256, .f32⟩
  | 77 => ⟨S512x16x7x7, .f32⟩
  | 78 => ⟨S16x512x7x7, .f32⟩
  | 79 => ⟨S16x512x7x7, .f32⟩
  | 80 => ⟨S1x512x1x1, .f32⟩
  | 81 => ⟨S16x512x7x7, .f32⟩
  | 82 => ⟨S16x512x7x7, .f32⟩
  | _ => ⟨S16x49x512, .f32⟩

abbrev hbmTy (i : Nat) : BufTy := match i / 128 with
  | 0 => hbmTy0_0 i
  | 1 => hbmTy0_1 i
  | 2 => hbmTy0_2 i
  | 3 => hbmTy0_3 i
  | _ => ⟨S16x49x512, .f32⟩

abbrev bufTy : (tb : Table) → Fin (tcTables nBuf tb) → BufTy
  | .hbm, ⟨i, _⟩ => hbmTy i
  | _, _ => ⟨S16x49x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_call0_v0 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call1_cst : Ref sig .tc := ⟨.hbm, 82, rfl⟩
abbrev main_call1_v0 : Ref sig .tc := ⟨.hbm, 83, rfl⟩
abbrev main_v61 : Ref sig .tc := ⟨.hbm, 84, rfl⟩
abbrev main_c_0 : Ref sig .tc := ⟨.hbm, 85, rfl⟩
abbrev main_call2_v0 : Ref sig .tc := ⟨.hbm, 86, rfl⟩
abbrev main_v62 : Ref sig .tc := ⟨.hbm, 87, rfl⟩
abbrev main_cst_1 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_call3_cst : Ref sig .tc := ⟨.hbm, 147, rfl⟩
abbrev main_call3_v0 : Ref sig .tc := ⟨.hbm, 148, rfl⟩
abbrev main_v121 : Ref sig .tc := ⟨.hbm, 149, rfl⟩
abbrev main_c_2 : Ref sig .tc := ⟨.hbm, 150, rfl⟩
abbrev main_call4_v0 : Ref sig .tc := ⟨.hbm, 151, rfl⟩
abbrev main_v122 : Ref sig .tc := ⟨.hbm, 152, rfl⟩
abbrev main_cst_3 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_v159 : Ref sig .tc := ⟨.hbm, 190, rfl⟩
abbrev main_v160 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_v164 : Ref sig .tc := ⟨.hbm, 195, rfl⟩
abbrev main_v165 : Ref sig .tc := ⟨.hbm, 196, rfl⟩
abbrev main_v166 : Ref sig .tc := ⟨.hbm, 197, rfl⟩
abbrev main_v167 : Ref sig .tc := ⟨.hbm, 198, rfl⟩
abbrev main_v168 : Ref sig .tc := ⟨.hbm, 199, rfl⟩
abbrev main_v169 : Ref sig .tc := ⟨.hbm, 200, rfl⟩
abbrev main_v170 : Ref sig .tc := ⟨.hbm, 201, rfl⟩
abbrev main_v171 : Ref sig .tc := ⟨.hbm, 202, rfl⟩
abbrev main_v172 : Ref sig .tc := ⟨.hbm, 203, rfl⟩
abbrev main_v173 : Ref sig .tc := ⟨.hbm, 204, rfl⟩
abbrev main_v174 : Ref sig .tc := ⟨.hbm, 205, rfl⟩
abbrev main_v175 : Ref sig .tc := ⟨.hbm, 206, rfl⟩
abbrev main_v176 : Ref sig .tc := ⟨.hbm, 207, rfl⟩
abbrev main_v177 : Ref sig .tc := ⟨.hbm, 208, rfl⟩
abbrev main_v178 : Ref sig .tc := ⟨.hbm, 209, rfl⟩
abbrev main_v179 : Ref sig .tc := ⟨.hbm, 210, rfl⟩
abbrev main_v180 : Ref sig .tc := ⟨.hbm, 211, rfl⟩
abbrev main_call5_cst : Ref sig .tc := ⟨.hbm, 212, rfl⟩
abbrev main_call5_v0 : Ref sig .tc := ⟨.hbm, 213, rfl⟩
abbrev main_v181 : Ref sig .tc := ⟨.hbm, 214, rfl⟩
abbrev main_c_4 : Ref sig .tc := ⟨.hbm, 215, rfl⟩
abbrev main_call6_v0 : Ref sig .tc := ⟨.hbm, 216, rfl⟩
abbrev main_v182 : Ref sig .tc := ⟨.hbm, 217, rfl⟩
abbrev main_cst_5 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_v190 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_cst_6 : Ref sig .tc := ⟨.hbm, 234, rfl⟩
abbrev main_v198 : Ref sig .tc := ⟨.hbm, 235, rfl⟩
abbrev main_cst_7 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_c_8 : Ref sig .tc := ⟨.hbm, 242, rfl⟩
abbrev main_call7_v0 : Ref sig .tc := ⟨.hbm, 243, rfl⟩
abbrev main_call7_v1 : Ref sig .tc := ⟨.hbm, 244, rfl⟩
abbrev main_v204 : Ref sig .tc := ⟨.hbm, 245, rfl⟩
abbrev main_c_9 : Ref sig .tc := ⟨.hbm, 246, rfl⟩
abbrev main_v205 : Ref sig .tc := ⟨.hbm, 247, rfl⟩
abbrev main_c_10 : Ref sig .tc := ⟨.hbm, 248, rfl⟩
abbrev main_v206 : Ref sig .tc := ⟨.hbm, 249, rfl⟩
abbrev main_v207 : Ref sig .tc := ⟨.hbm, 250, rfl⟩
abbrev main_c_11 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_c_12 : Ref sig .tc := ⟨.hbm, 260, rfl⟩
abbrev main_call8_v0 : Ref sig .tc := ⟨.hbm, 261, rfl⟩
abbrev main_v216 : Ref sig .tc := ⟨.hbm, 262, rfl⟩
abbrev main_cst_13 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩
abbrev main_v227 : Ref sig .tc := ⟨.hbm, 274, rfl⟩
abbrev main_v228 : Ref sig .tc := ⟨.hbm, 275, rfl⟩
abbrev main_v229 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_v235 : Ref sig .tc := ⟨.hbm, 282, rfl⟩
abbrev main_v236 : Ref sig .tc := ⟨.hbm, 283, rfl⟩
abbrev main_v237 : Ref sig .tc := ⟨.hbm, 284, rfl⟩
abbrev main_v238 : Ref sig .tc := ⟨.hbm, 285, rfl⟩
abbrev main_v239 : Ref sig .tc := ⟨.hbm, 286, rfl⟩
abbrev main_v240 : Ref sig .tc := ⟨.hbm, 287, rfl⟩
abbrev main_v241 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_v247 : Ref sig .tc := ⟨.hbm, 294, rfl⟩
abbrev main_v248 : Ref sig .tc := ⟨.hbm, 295, rfl⟩
abbrev main_v249 : Ref sig .tc := ⟨.hbm, 296, rfl⟩
abbrev main_v250 : Ref sig .tc := ⟨.hbm, 297, rfl⟩
abbrev main_v251 : Ref sig .tc := ⟨.hbm, 298, rfl⟩
abbrev main_v252 : Ref sig .tc := ⟨.hbm, 299, rfl⟩
abbrev main_v253 : Ref sig .tc := ⟨.hbm, 300, rfl⟩
abbrev main_v254 : Ref sig .tc := ⟨.hbm, 301, rfl⟩
abbrev main_v255 : Ref sig .tc := ⟨.hbm, 302, rfl⟩
abbrev main_v256 : Ref sig .tc := ⟨.hbm, 303, rfl⟩
abbrev main_v257 : Ref sig .tc := ⟨.hbm, 304, rfl⟩
abbrev main_v258 : Ref sig .tc := ⟨.hbm, 305, rfl⟩
abbrev main_v259 : Ref sig .tc := ⟨.hbm, 306, rfl⟩
abbrev main_v260 : Ref sig .tc := ⟨.hbm, 307, rfl⟩
abbrev main_v261 : Ref sig .tc := ⟨.hbm, 308, rfl⟩
abbrev main_v262 : Ref sig .tc := ⟨.hbm, 309, rfl⟩
abbrev main_v263 : Ref sig .tc := ⟨.hbm, 310, rfl⟩
abbrev main_v264 : Ref sig .tc := ⟨.hbm, 311, rfl⟩
abbrev main_v265 : Ref sig .tc := ⟨.hbm, 312, rfl⟩
abbrev main_v266 : Ref sig .tc := ⟨.hbm, 313, rfl⟩
abbrev main_v267 : Ref sig .tc := ⟨.hbm, 314, rfl⟩
abbrev main_v268 : Ref sig .tc := ⟨.hbm, 315, rfl⟩
abbrev main_v269 : Ref sig .tc := ⟨.hbm, 316, rfl⟩
abbrev main_v270 : Ref sig .tc := ⟨.hbm, 317, rfl⟩
abbrev main_v271 : Ref sig .tc := ⟨.hbm, 318, rfl⟩
abbrev main_v272 : Ref sig .tc := ⟨.hbm, 319, rfl⟩
abbrev main_v273 : Ref sig .tc := ⟨.hbm, 320, rfl⟩
abbrev main_v274 : Ref sig .tc := ⟨.hbm, 321, rfl⟩
abbrev main_call9_cst : Ref sig .tc := ⟨.hbm, 322, rfl⟩
abbrev main_call9_v0 : Ref sig .tc := ⟨.hbm, 323, rfl⟩
abbrev main_v275 : Ref sig .tc := ⟨.hbm, 324, rfl⟩
abbrev main_c_14 : Ref sig .tc := ⟨.hbm, 325, rfl⟩
abbrev main_call10_v0 : Ref sig .tc := ⟨.hbm, 326, rfl⟩
abbrev main_v276 : Ref sig .tc := ⟨.hbm, 327, rfl⟩
abbrev main_cst_15 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩
abbrev main_v296 : Ref sig .tc := ⟨.hbm, 348, rfl⟩
abbrev main_v297 : Ref sig .tc := ⟨.hbm, 349, rfl⟩
abbrev main_v298 : Ref sig .tc := ⟨.hbm, 350, rfl⟩
abbrev main_v299 : Ref sig .tc := ⟨.hbm, 351, rfl⟩
abbrev main_v300 : Ref sig .tc := ⟨.hbm, 352, rfl⟩
abbrev main_v301 : Ref sig .tc := ⟨.hbm, 353, rfl⟩
abbrev main_v302 : Ref sig .tc := ⟨.hbm, 354, rfl⟩
abbrev main_v303 : Ref sig .tc := ⟨.hbm, 355, rfl⟩
abbrev main_v304 : Ref sig .tc := ⟨.hbm, 356, rfl⟩
abbrev main_v305 : Ref sig .tc := ⟨.hbm, 357, rfl⟩
abbrev main_v306 : Ref sig .tc := ⟨.hbm, 358, rfl⟩
abbrev main_v307 : Ref sig .tc := ⟨.hbm, 359, rfl⟩
abbrev main_v308 : Ref sig .tc := ⟨.hbm, 360, rfl⟩
abbrev main_v309 : Ref sig .tc := ⟨.hbm, 361, rfl⟩
abbrev main_v310 : Ref sig .tc := ⟨.hbm, 362, rfl⟩
abbrev main_v311 : Ref sig .tc := ⟨.hbm, 363, rfl⟩
abbrev main_v312 : Ref sig .tc := ⟨.hbm, 364, rfl⟩
abbrev main_v313 : Ref sig .tc := ⟨.hbm, 365, rfl⟩
abbrev main_v314 : Ref sig .tc := ⟨.hbm, 366, rfl⟩
abbrev main_v315 : Ref sig .tc := ⟨.hbm, 367, rfl⟩
abbrev main_v316 : Ref sig .tc := ⟨.hbm, 368, rfl⟩
abbrev main_v317 : Ref sig .tc := ⟨.hbm, 369, rfl⟩
abbrev main_v318 : Ref sig .tc := ⟨.hbm, 370, rfl⟩
abbrev main_v319 : Ref sig .tc := ⟨.hbm, 371, rfl⟩
abbrev main_v320 : Ref sig .tc := ⟨.hbm, 372, rfl⟩
abbrev main_v321 : Ref sig .tc := ⟨.hbm, 373, rfl⟩
abbrev main_v322 : Ref sig .tc := ⟨.hbm, 374, rfl⟩
abbrev main_v323 : Ref sig .tc := ⟨.hbm, 375, rfl⟩
abbrev main_v324 : Ref sig .tc := ⟨.hbm, 376, rfl⟩
abbrev main_v325 : Ref sig .tc := ⟨.hbm, 377, rfl⟩
abbrev main_v326 : Ref sig .tc := ⟨.hbm, 378, rfl⟩
abbrev main_v327 : Ref sig .tc := ⟨.hbm, 379, rfl⟩
abbrev main_v328 : Ref sig .tc := ⟨.hbm, 380, rfl⟩
abbrev main_v329 : Ref sig .tc := ⟨.hbm, 381, rfl⟩
abbrev main_v330 : Ref sig .tc := ⟨.hbm, 382, rfl⟩
abbrev main_v331 : Ref sig .tc := ⟨.hbm, 383, rfl⟩
abbrev main_v332 : Ref sig .tc := ⟨.hbm, 384, rfl⟩
abbrev main_v333 : Ref sig .tc := ⟨.hbm, 385, rfl⟩
abbrev main_v334 : Ref sig .tc := ⟨.hbm, 386, rfl⟩
abbrev main_call11_cst : Ref sig .tc := ⟨.hbm, 387, rfl⟩
abbrev main_call11_v0 : Ref sig .tc := ⟨.hbm, 388, rfl⟩
abbrev main_v335 : Ref sig .tc := ⟨.hbm, 389, rfl⟩
abbrev main_c_16 : Ref sig .tc := ⟨.hbm, 390, rfl⟩
abbrev main_call12_v0 : Ref sig .tc := ⟨.hbm, 391, rfl⟩
abbrev main_v336 : Ref sig .tc := ⟨.hbm, 392, rfl⟩
abbrev main_cst_17 : Ref sig .tc := ⟨.hbm, 393, rfl⟩
abbrev main_v337 : Ref sig .tc := ⟨.hbm, 394, rfl⟩
abbrev main_v338 : Ref sig .tc := ⟨.hbm, 395, rfl⟩
abbrev main_v339 : Ref sig .tc := ⟨.hbm, 396, rfl⟩
abbrev main_v340 : Ref sig .tc := ⟨.hbm, 397, rfl⟩
abbrev main_v341 : Ref sig .tc := ⟨.hbm, 398, rfl⟩
abbrev main_v342 : Ref sig .tc := ⟨.hbm, 399, rfl⟩
abbrev main_v343 : Ref sig .tc := ⟨.hbm, 400, rfl⟩
abbrev main_v344 : Ref sig .tc := ⟨.hbm, 401, rfl⟩
abbrev main_v345 : Ref sig .tc := ⟨.hbm, 402, rfl⟩
abbrev main_v346 : Ref sig .tc := ⟨.hbm, 403, rfl⟩
abbrev main_v347 : Ref sig .tc := ⟨.hbm, 404, rfl⟩
abbrev main_c_18 : Ref sig .tc := ⟨.hbm, 405, rfl⟩
abbrev main_call14_v0 : Ref sig .tc := ⟨.hbm, 406, rfl⟩
abbrev main_v348 : Ref sig .tc := ⟨.hbm, 407, rfl⟩
abbrev main_cst_19 : Ref sig .tc := ⟨.hbm, 408, rfl⟩
abbrev main_v349 : Ref sig .tc := ⟨.hbm, 409, rfl⟩
abbrev main_v350 : Ref sig .tc := ⟨.hbm, 410, rfl⟩
abbrev main_v351 : Ref sig .tc := ⟨.hbm, 411, rfl⟩
abbrev main_v352 : Ref sig .tc := ⟨.hbm, 412, rfl⟩
abbrev main_v353 : Ref sig .tc := ⟨.hbm, 413, rfl⟩
abbrev main_v354 : Ref sig .tc := ⟨.hbm, 414, rfl⟩
abbrev main_v355 : Ref sig .tc := ⟨.hbm, 415, rfl⟩
abbrev main_v356 : Ref sig .tc := ⟨.hbm, 416, rfl⟩
abbrev main_v357 : Ref sig .tc := ⟨.hbm, 417, rfl⟩
abbrev main_v358 : Ref sig .tc := ⟨.hbm, 418, rfl⟩
abbrev main_v359 : Ref sig .tc := ⟨.hbm, 419, rfl⟩
abbrev main_v360 : Ref sig .tc := ⟨.hbm, 420, rfl⟩
abbrev main_v361 : Ref sig .tc := ⟨.hbm, 421, rfl⟩
abbrev main_v362 : Ref sig .tc := ⟨.hbm, 422, rfl⟩
abbrev main_v363 : Ref sig .tc := ⟨.hbm, 423, rfl⟩
abbrev main_v364 : Ref sig .tc := ⟨.hbm, 424, rfl⟩
abbrev main_v365 : Ref sig .tc := ⟨.hbm, 425, rfl⟩
abbrev main_v366 : Ref sig .tc := ⟨.hbm, 426, rfl⟩
abbrev main_v367 : Ref sig .tc := ⟨.hbm, 427, rfl⟩
abbrev main_v368 : Ref sig .tc := ⟨.hbm, 428, rfl⟩
abbrev main_v369 : Ref sig .tc := ⟨.hbm, 429, rfl⟩
abbrev main_v370 : Ref sig .tc := ⟨.hbm, 430, rfl⟩
abbrev main_v371 : Ref sig .tc := ⟨.hbm, 431, rfl⟩
abbrev main_v372 : Ref sig .tc := ⟨.hbm, 432, rfl⟩
abbrev main_v373 : Ref sig .tc := ⟨.hbm, 433, rfl⟩
abbrev main_v374 : Ref sig .tc := ⟨.hbm, 434, rfl⟩
abbrev main_v375 : Ref sig .tc := ⟨.hbm, 435, rfl⟩
abbrev main_v376 : Ref sig .tc := ⟨.hbm, 436, rfl⟩
abbrev main_v377 : Ref sig .tc := ⟨.hbm, 437, rfl⟩
abbrev main_v378 : Ref sig .tc := ⟨.hbm, 438, rfl⟩
abbrev main_v379 : Ref sig .tc := ⟨.hbm, 439, rfl⟩
abbrev main_v380 : Ref sig .tc := ⟨.hbm, 440, rfl⟩
abbrev main_v381 : Ref sig .tc := ⟨.hbm, 441, rfl⟩
abbrev main_v382 : Ref sig .tc := ⟨.hbm, 442, rfl⟩
abbrev main_v383 : Ref sig .tc := ⟨.hbm, 443, rfl⟩
abbrev main_v384 : Ref sig .tc := ⟨.hbm, 444, rfl⟩
abbrev main_v385 : Ref sig .tc := ⟨.hbm, 445, rfl⟩
abbrev main_v386 : Ref sig .tc := ⟨.hbm, 446, rfl⟩
abbrev main_v387 : Ref sig .tc := ⟨.hbm, 447, rfl⟩
abbrev main_v388 : Ref sig .tc := ⟨.hbm, 448, rfl⟩
abbrev main_v389 : Ref sig .tc := ⟨.hbm, 449, rfl⟩
abbrev main_v390 : Ref sig .tc := ⟨.hbm, 450, rfl⟩
abbrev main_v391 : Ref sig .tc := ⟨.hbm, 451, rfl⟩
abbrev main_v392 : Ref sig .tc := ⟨.hbm, 452, rfl⟩
abbrev main_v393 : Ref sig .tc := ⟨.hbm, 453, rfl⟩
abbrev main_v394 : Ref sig .tc := ⟨.hbm, 454, rfl⟩
abbrev main_v395 : Ref sig .tc := ⟨.hbm, 455, rfl⟩
abbrev main_v396 : Ref sig .tc := ⟨.hbm, 456, rfl⟩
abbrev main_v397 : Ref sig .tc := ⟨.hbm, 457, rfl⟩
abbrev main_v398 : Ref sig .tc := ⟨.hbm, 458, rfl⟩
abbrev main_v399 : Ref sig .tc := ⟨.hbm, 459, rfl⟩
abbrev main_v400 : Ref sig .tc := ⟨.hbm, 460, rfl⟩
abbrev main_v401 : Ref sig .tc := ⟨.hbm, 461, rfl⟩
abbrev main_v402 : Ref sig .tc := ⟨.hbm, 462, rfl⟩
abbrev main_v403 : Ref sig .tc := ⟨.hbm, 463, rfl⟩
abbrev main_v404 : Ref sig .tc := ⟨.hbm, 464, rfl⟩
abbrev main_v405 : Ref sig .tc := ⟨.hbm, 465, rfl⟩
abbrev main_v406 : Ref sig .tc := ⟨.hbm, 466, rfl⟩

abbrev nD : Nat := 1
abbrev τ : Topo := Topo.v7x

variable {F : FTy → Type} [FloatOps F]
-- ==== Proof.FrameI.lean ====
/- The body of KernelIdeal's one launch: what it leaves in each output window, its triple, the run and the frame.
   The text follows the launch set-up the generator writes; only the body obligation's budget is larger. -/
module

public import proofs.«01_k».proof.Proof.Gen.KernelIdeal.Frame
public import proofs.«01_k».proof.Proof.Gen.KernelIdeal.Skeleton
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

abbrev r0_0 : Rect S1152x1 := Rect.unit (s := S1152x1) ![0, 0] S1152x1.size inb_S1152x1_S1152x1_0_0
abbrev r0_1 : Rect S1184x512 := Rect.unit (s := S1184x512) ![0, 0] S1184x512.size inb_S1184x512_S1184x512_0_0
abbrev r0_2 : Rect S1x256 := Rect.unit (s := S1x256) ![0, 0] S1x256.size inb_S1x256_S1x256_0_0
abbrev r0_3 : Rect S9x256x512 := Rect.unit (s := S9x256x512) ![0, 0, 0] S1x256x512.size inb_S9x256x512_S1x256x512_0_0_0
abbrev r0_4 : Rect S9x256x512 := Rect.unit (s := S9x256x512) ![1, 0, 0] S1x256x512.size inb_S9x256x512_S1x256x512_1_0_0
abbrev r0_5 : Rect S9x256x512 := Rect.unit (s := S9x256x512) ![2, 0, 0] S1x256x512.size inb_S9x256x512_S1x256x512_2_0_0
abbrev r0_6 : Rect S9x256x512 := Rect.unit (s := S9x256x512) ![3, 0, 0] S1x256x512.size inb_S9x256x512_S1x256x512_3_0_0
abbrev r0_7 : Rect S9x256x512 := Rect.unit (s := S9x256x512) ![4, 0, 0] S1x256x512.size inb_S9x256x512_S1x256x512_4_0_0
abbrev r0_8 : Rect S9x256x512 := Rect.unit (s := S9x256x512) ![5, 0, 0] S1x256x512.size inb_S9x256x512_S1x256x512_5_0_0
abbrev r0_9 : Rect S9x256x512 := Rect.unit (s := S9x256x512) ![6, 0, 0] S1x256x512.size inb_S9x256x512_S1x256x512_6_0_0
abbrev r0_10 : Rect S9x256x512 := Rect.unit (s := S9x256x512) ![7, 0, 0] S1x256x512.size inb_S9x256x512_S1x256x512_7_0_0
abbrev r0_11 : Rect S9x256x512 := Rect.unit (s := S9x256x512) ![8, 0, 0] S1x256x512.size inb_S9x256x512_S1x256x512_8_0_0
abbrev r0_12 : Rect S9x256x256 := Rect.unit (s := S9x256x256) ![0, 0, 0] S1x256x256.size inb_S9x256x256_S1x256x256_0_0_0
abbrev r0_13 : Rect S9x256x256 := Rect.unit (s := S9x256x256) ![1, 0, 0] S1x256x256.size inb_S9x256x256_S1x256x256_1_0_0
abbrev r0_14 : Rect S9x256x256 := Rect.unit (s := S9x256x256) ![2, 0, 0] S1x256x256.size inb_S9x256x256_S1x256x256_2_0_0
abbrev r0_15 : Rect S9x256x256 := Rect.unit (s := S9x256x256) ![3, 0, 0] S1x256x256.size inb_S9x256x256_S1x256x256_3_0_0
abbrev r0_16 : Rect S9x256x256 := Rect.unit (s := S9x256x256) ![4, 0, 0] S1x256x256.size inb_S9x256x256_S1x256x256_4_0_0
abbrev r0_17 : Rect S9x256x256 := Rect.unit (s := S9x256x256) ![5, 0, 0] S1x256x256.size inb_S9x256x256_S1x256x256_5_0_0
abbrev r0_18 : Rect S9x256x256 := Rect.unit (s := S9x256x256) ![6, 0, 0] S1x256x256.size inb_S9x256x256_S1x256x256_6_0_0
abbrev r0_19 : Rect S9x256x256 := Rect.unit (s := S9x256x256) ![7, 0, 0] S1x256x256.size inb_S9x256x256_S1x256x256_7_0_0
abbrev r0_20 : Rect S9x256x256 := Rect.unit (s := S9x256x256) ![8, 0, 0] S1x256x256.size inb_S9x256x256_S1x256x256_8_0_0
abbrev r0_21 : Rect S256x256 := Rect.unit (s := S256x256) ![0, 0] S256x256.size inb_S256x256_S256x256_0_0
abbrev r0_22 : Rect S256x1152 := Rect.unit (s := S256x1152) ![0, 0] S256x1152.size inb_S256x1152_S256x1152_0_0
abbrev r0_23 : Rect S512x1 := Rect.unit (s := S512x1) ![0, 0] S512x1.size inb_S512x1_S512x1_0_0
abbrev r0_24 : Rect S512x256 := Rect.unit (s := S512x256) ![0, 0] S512x256.size inb_S512x256_S512x256_0_0
abbrev r0_25 : Rect S256x512 := Rect.unit (s := S256x512) ![0, 0] S256x512.size inb_S256x512_S256x512_0_0
abbrev r0_26 : Rect S1x1152 := Rect.unit (s := S1x1152) ![0, 0] S1x1152.size inb_S1x1152_S1x1152_0_0
abbrev r0_27 : Rect S1x512 := Rect.unit (s := S1x512) ![0, 0] S1x512.size inb_S1x512_S1x512_0_0
abbrev r0_28 : Rect S512x1152 := Rect.unit (s := S512x1152) ![0, 0] S512x1152.size inb_S512x1152_S512x1152_0_0

/-! ## What the body leaves in each output window's buffer -/

/-! ### Values of the body that the stores' payloads, spelt out, would write more than once

    Each is a vector the body binds (often a part call's result), stated over the input windows' blocks and
    numbered on from the skeleton's payload functions (`k0_pay69` …, after `k0_pay68`), so that
    `out0_W` and the values after it name it instead of spelling it out; the comment after each is the printed function's
    name for the value (a count appended where that name is bound again). -/

def k0_pay69 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1184x512 .bf16 :=
  k0_pay2 (View.ld x0 r0_1) -- `v2`
def k0_pay70 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1x256 .f32 :=
  k0_pay3 (View.ld x4 r0_2) -- `v4`
def k0_pay71 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152x256 .f32 :=
  k0_pay4 (View.ld x0 r0_1) (View.ld x3 r0_3) (View.ld x3 r0_4) (View.ld x3 r0_5) (View.ld x3 r0_6) (View.ld x3 r0_7) -- `v28`
def k0_pay72 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152x512 .bf16 :=
  k0_pay5 (View.ld x0 r0_1) -- `v29`
def k0_pay73 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1184x256 .bf16 :=
  k0_pay6 (View.ld x1 r0_0) (k0_pay69 x0 x1 x2 x3 x4 x5 x6 x7 x8 x9 x10 x11 x12 x13 x14 x15 x16 x17 x18 x19 x20 x21) (k0_pay70 x0 x1 x2 x3 x4 x5 x6 x7 x8 x9 x10 x11 x12 x13 x14 x15 x16 x17 x18 x19 x20 x21) (k0_pay71 x0 x1 x2 x3 x4 x5 x6 x7 x8 x9 x10 x11 x12 x13 x14 x15 x16 x17 x18 x19 x20 x21) (k0_pay72 x0 x1 x2 x3 x4 x5 x6 x7 x8 x9 x10 x11 x12 x13 x14 x15 x16 x17 x18 x19 x20 x21) (View.ld x3 r0_8) (View.ld x3 r0_9) (View.ld x3 r0_10) (View.ld x3 r0_11) -- `v57`
def k0_pay74 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1x256 .f32 :=
  k0_pay7 (View.ld x6 r0_2) -- `v59`
def k0_pay75 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152x256 .f32 :=
  k0_pay11 (k0_pay73 x0 x1 x2 x3 x4 x5 x6 x7 x8 x9 x10 x11 x12 x13 x14 x15 x16 x17 x18 x19 x20 x21) (k0_pay8 (View.ld x1 r0_0) (k0_pay69 x0 x1 x2 x3 x4 x5 x6 x7 x8 x9 x10 x11 x12 x13 x14 x15 x16 x17 x18 x19 x20 x21) (k0_pay70 x0 x1 x2 x3 x4 x5 x6 x7 x8 x9 x10 x11 x12 x13 x14 x15 x16 x17 x18 x19 x20 x21) (k0_pay71 x0 x1 x2 x3 x4 x5 x6 x7 x8 x9 x10 x11 x12 x13 x14 x15 x16 x17 x18 x19 x20 x21) (k0_pay72 x0 x1 x2 x3 x4 x5 x6 x7 x8 x9 x10 x11 x12 x13 x14 x15 x16 x17 x18 x19 x20 x21) (View.ld x3 r0_8) (View.ld x3 r0_9) (View.ld x3 r0_10) (View.ld x3 r0_11) (View.ld x5 r0_12)) (k0_pay9 (View.ld x1 r0_0) (k0_pay69 x0 x1 x2 x3 x4 x5 x6 x7 x8 x9 x10 x11 x12 x13 x14 x15 x16 x17 x18 x19 x20 x21) (k0_pay70 x0 x1 x2 x3 x4 x5 x6 x7 x8 x9 x10 x11 x12 x13 x14 x15 x16 x17 x18 x19 x20 x21) (k0_pay71 x0 x1 x2 x3 x4 x5 x6 x7 x8 x9 x10 x11 x12 x13 x14 x15 x16 x17 x18 x19 x20 x21) (k0_pay72 x0 x1 x2 x3 x4 x5 x6 x7 x8 x9 x10 x11 x12 x13 x14 x15 x16 x17 x18 x19 x20 x21) (View.ld x3 r0_8) (View.ld x3 r0_9) (View.ld x3 r0_10) (View.ld x3 r0_11)) (k0_pay10 (View.ld x5 r0_13)) (View.ld x5 r0_14) (View.ld x5 r0_15) (View.ld x5 r0_16) (View.ld x5 r0_17) (View.ld x5 r0_18) (View.ld x5 r0_19) -- `v98`
def k0_pay76 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152x256 .bf16 :=
  k0_pay12 (k0_pay73 x0 x1 x2 x3 x4 x5 x6 x7 x8 x9 x10 x11 x12 x13 x14 x15 x16 x17 x18 x19 x20 x21) -- `v99`
def k0_pay77 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152x256 .f32 :=
  k0_pay13 (View.ld x1 r0_0) (k0_pay74 x0 x1 x2 x3 x4 x5 x6 x7 x8 x9 x10 x11 x12 x13 x14 x15 x16 x17 x18 x19 x20 x21) (k0_pay75 x0 x1 x2 x3 x4 x5 x6 x7 x8 x9 x10 x11 x12 x13 x14 x15 x16 x17 x18 x19 x20 x21) (k0_pay76 x0 x1 x2 x3 x4 x5 x6 x7 x8 x9 x10 x11 x12 x13 x14 x15 x16 x17 x18 x19 x20 x21) (View.ld x5 r0_20) -- `v107`
def k0_pay78 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152x256 .f32 :=
  k0_pay18 (View.ld x1 r0_0) (k0_pay14 (View.ld x1 r0_0) (k0_pay74 x0 x1 x2 x3 x4 x5 x6 x7 x8 x9 x10 x11 x12 x13 x14 x15 x16 x17 x18 x19 x20 x21) (k0_pay75 x0 x1 x2 x3 x4 x5 x6 x7 x8 x9 x10 x11 x12 x13 x14 x15 x16 x17 x18 x19 x20 x21) (k0_pay76 x0 x1 x2 x3 x4 x5 x6 x7 x8 x9 x10 x11 x12 x13 x14 x15 x16 x17 x18 x19 x20 x21) (View.ld x5 r0_20)) (k0_pay15 (View.ld x8 r0_2)) (k0_pay16 (View.ld x1 r0_0) (k0_pay74 x0 x1 x2 x3 x4 x5 x6 x7 x8 x9 x10 x11 x12 x13 x14 x15 x16 x17 x18 x19 x20 x21) (k0_pay75 x0 x1 x2 x3 x4 x5 x6 x7 x8 x9 x10 x11 x12 x13 x14 x15 x16 x17 x18 x19 x20 x21) (k0_pay76 x0 x1 x2 x3 x4 x5 x6 x7 x8 x9 x10 x11 x12 x13 x14 x15 x16 x17 x18 x19 x20 x21) (View.ld x5 r0_20) (View.ld x7 r0_12) (View.ld x7 r0_13) (View.ld x7 r0_14) (View.ld x7 r0_15)) (k0_pay17 (View.ld x1 r0_0) (k0_pay74 x0 x1 x2 x3 x4 x5 x6 x7 x8 x9 x10 x11 x12 x13 x14 x15 x16 x17 x18 x19 x20 x21) (k0_pay75 x0 x1 x2 x3 x4 x5 x6 x7 x8 x9 x10 x11 x12 x13 x14 x15 x16 x17 x18 x19 x20 x21) (k0_pay76 x0 x1 x2 x3 x4 x5 x6 x7 x8 x9 x10 x11 x12 x13 x14 x15 x16 x17 x18 x19 x20 x21) (View.ld x5 r0_20)) (View.ld x7 r0_16) (View.ld x7 r0_17) (View.ld x7 r0_18) (View.ld x7 r0_19) (View.ld x7 r0_20) (View.ld x9 r0_21) -- `v168`
def k0_pay79 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152x256 .f32 :=
  k0_pay19 (View.ld x10 r0_2) -- `v171`
def k0_pay80 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : IVec S512x1152 32 :=
  iota .tc S512x1152 32 [0] iota_S512x1152_d0_w32 -- `v188`
def k0_pay81 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S256x1152 .f32 :=
  k0_pay20 (View.ld x1 r0_0) (k0_pay77 x0 x1 x2 x3 x4 x5 x6 x7 x8 x9 x10 x11 x12 x13 x14 x15 x16 x17 x18 x19 x20 x21) (k0_pay78 x0 x1 x2 x3 x4 x5 x6 x7 x8 x9 x10 x11 x12 x13 x14 x15 x16 x17 x18 x19 x20 x21) (k0_pay79 x0 x1 x2 x3 x4 x5 x6 x7 x8 x9 x10 x11 x12 x13 x14 x15 x16 x17 x18 x19 x20 x21) -- `v176`
def k0_pay82 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : IVec S1x1152 32 :=
  k0_pay22 (View.ld x1 r0_0) (k0_pay77 x0 x1 x2 x3 x4 x5 x6 x7 x8 x9 x10 x11 x12 x13 x14 x15 x16 x17 x18 x19 x20 x21) (k0_pay78 x0 x1 x2 x3 x4 x5 x6 x7 x8 x9 x10 x11 x12 x13 x14 x15 x16 x17 x18 x19 x20 x21) (k0_pay79 x0 x1 x2 x3 x4 x5 x6 x7 x8 x9 x10 x11 x12 x13 x14 x15 x16 x17 x18 x19 x20 x21) (View.ld x12 r0_23) (View.ld x11 r0_24) -- `v196`
def k0_pay83 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : IVec S1x1152 32 :=
  k0_pay24 (View.ld x1 r0_0) (k0_pay77 x0 x1 x2 x3 x4 x5 x6 x7 x8 x9 x10 x11 x12 x13 x14 x15 x16 x17 x18 x19 x20 x21) (k0_pay78 x0 x1 x2 x3 x4 x5 x6 x7 x8 x9 x10 x11 x12 x13 x14 x15 x16 x17 x18 x19 x20 x21) (k0_pay79 x0 x1 x2 x3 x4 x5 x6 x7 x8 x9 x10 x11 x12 x13 x14 x15 x16 x17 x18 x19 x20 x21) (View.ld x12 r0_23) (View.ld x11 r0_24) -- `v208`
def k0_pay84 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S512x1152 .f32 :=
  k0_pay25 (View.ld x1 r0_0) (k0_pay77 x0 x1 x2 x3 x4 x5 x6 x7 x8 x9 x10 x11 x12 x13 x14 x15 x16 x17 x18 x19 x20 x21) (k0_pay78 x0 x1 x2 x3 x4 x5 x6 x7 x8 x9 x10 x11 x12 x13 x14 x15 x16 x17 x18 x19 x20 x21) (k0_pay79 x0 x1 x2 x3 x4 x5 x6 x7 x8 x9 x10 x11 x12 x13 x14 x15 x16 x17 x18 x19 x20 x21) (View.ld x12 r0_23) (View.ld x11 r0_24) -- `v212`
def k0_pay85 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152 .f32 :=
  k0_pay26 (View.ld x1 r0_0) (k0_pay77 x0 x1 x2 x3 x4 x5 x6 x7 x8 x9 x10 x11 x12 x13 x14 x15 x16 x17 x18 x19 x20 x21) (k0_pay78 x0 x1 x2 x3 x4 x5 x6 x7 x8 x9 x10 x11 x12 x13 x14 x15 x16 x17 x18 x19 x20 x21) (k0_pay79 x0 x1 x2 x3 x4 x5 x6 x7 x8 x9 x10 x11 x12 x13 x14 x15 x16 x17 x18 x19 x20 x21) (View.ld x12 r0_23) (View.ld x11 r0_24) -- `v213`
def k0_pay86 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : IVec S1x1152 32 :=
  k0_pay27 (k0_pay80 x0 x1 x2 x3 x4 x5 x6 x7 x8 x9 x10 x11 x12 x13 x14 x15 x16 x17 x18 x19 x20 x21) (k0_pay84 x0 x1 x2 x3 x4 x5 x6 x7 x8 x9 x10 x11 x12 x13 x14 x15 x16 x17 x18 x19 x20 x21) (k0_pay85 x0 x1 x2 x3 x4 x5 x6 x7 x8 x9 x10 x11 x12 x13 x14 x15 x16 x17 x18 x19 x20 x21) -- `v220`
def k0_pay87 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S256x1152 .f32 :=
  k0_pay29 (k0_pay80 x0 x1 x2 x3 x4 x5 x6 x7 x8 x9 x10 x11 x12 x13 x14 x15 x16 x17 x18 x19 x20 x21) (k0_pay82 x0 x1 x2 x3 x4 x5 x6 x7 x8 x9 x10 x11 x12 x13 x14 x15 x16 x17 x18 x19 x20 x21) (View.ld x13 r0_25) -- `v227`
def k0_pay88 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S256x1152 .f32 :=
  k0_pay30 (k0_pay80 x0 x1 x2 x3 x4 x5 x6 x7 x8 x9 x10 x11 x12 x13 x14 x15 x16 x17 x18 x19 x20 x21) (k0_pay83 x0 x1 x2 x3 x4 x5 x6 x7 x8 x9 x10 x11 x12 x13 x14 x15 x16 x17 x18 x19 x20 x21) (View.ld x13 r0_25) -- `v232`
def k0_pay89 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S256x1152 .f32 :=
  k0_pay31 (k0_pay80 x0 x1 x2 x3 x4 x5 x6 x7 x8 x9 x10 x11 x12 x13 x14 x15 x16 x17 x18 x19 x20 x21) (k0_pay84 x0 x1 x2 x3 x4 x5 x6 x7 x8 x9 x10 x11 x12 x13 x14 x15 x16 x17 x18 x19 x20 x21) (k0_pay85 x0 x1 x2 x3 x4 x5 x6 x7 x8 x9 x10 x11 x12 x13 x14 x15 x16 x17 x18 x19 x20 x21) (View.ld x13 r0_25) -- `v237`
def k0_pay90 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S256x1152 .f32 :=
  k0_pay32 (k0_pay81 x0 x1 x2 x3 x4 x5 x6 x7 x8 x9 x10 x11 x12 x13 x14 x15 x16 x17 x18 x19 x20 x21) (k0_pay80 x0 x1 x2 x3 x4 x5 x6 x7 x8 x9 x10 x11 x12 x13 x14 x15 x16 x17 x18 x19 x20 x21) (k0_pay82 x0 x1 x2 x3 x4 x5 x6 x7 x8 x9 x10 x11 x12 x13 x14 x15 x16 x17 x18 x19 x20 x21) (View.ld x13 r0_25) -- `v239`
def k0_pay91 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1x1152 .f32 :=
  k0_pay42 (k0_pay34 (k0_pay90 x0 x1 x2 x3 x4 x5 x6 x7 x8 x9 x10 x11 x12 x13 x14 x15 x16 x17 x18 x19 x20 x21) (k0_pay33 (k0_pay81 x0 x1 x2 x3 x4 x5 x6 x7 x8 x9 x10 x11 x12 x13 x14 x15 x16 x17 x18 x19 x20 x21) (k0_pay80 x0 x1 x2 x3 x4 x5 x6 x7 x8 x9 x10 x11 x12 x13 x14 x15 x16 x17 x18 x19 x20 x21) (k0_pay82 x0 x1 x2 x3 x4 x5 x6 x7 x8 x9 x10 x11 x12 x13 x14 x15 x16 x17 x18 x19 x20 x21) (View.ld x13 r0_25))) (k0_pay36 (k0_pay90 x0 x1 x2 x3 x4 x5 x6 x7 x8 x9 x10 x11 x12 x13 x14 x15 x16 x17 x18 x19 x20 x21)) (k0_pay37 (k0_pay90 x0 x1 x2 x3 x4 x5 x6 x7 x8 x9 x10 x11 x12 x13 x14 x15 x16 x17 x18 x19 x20 x21)) (k0_pay38 (k0_pay90 x0 x1 x2 x3 x4 x5 x6 x7 x8 x9 x10 x11 x12 x13 x14 x15 x16 x17 x18 x19 x20 x21)) (k0_pay39 (k0_pay90 x0 x1 x2 x3 x4 x5 x6 x7 x8 x9 x10 x11 x12 x13 x14 x15 x16 x17 x18 x19 x20 x21)) (k0_pay40 (k0_pay90 x0 x1 x2 x3 x4 x5 x6 x7 x8 x9 x10 x11 x12 x13 x14 x15 x16 x17 x18 x19 x20 x21)) (k0_pay41 (k0_pay90 x0 x1 x2 x3 x4 x5 x6 x7 x8 x9 x10 x11 x12 x13 x14 x15 x16 x17 x18 x19 x20 x21)) -- `v332`
def k0_pay92 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1x1152 .f32 :=
  k0_pay47 (k0_pay43 (k0_pay81 x0 x1 x2 x3 x4 x5 x6 x7 x8 x9 x10 x11 x12 x13 x14 x15 x16 x17 x18 x19 x20 x21) (k0_pay88 x0 x1 x2 x3 x4 x5 x6 x7 x8 x9 x10 x11 x12 x13 x14 x15 x16 x17 x18 x19 x20 x21)) (k0_pay44 (k0_pay81 x0 x1 x2 x3 x4 x5 x6 x7 x8 x9 x10 x11 x12 x13 x14 x15 x16 x17 x18 x19 x20 x21) (k0_pay88 x0 x1 x2 x3 x4 x5 x6 x7 x8 x9 x10 x11 x12 x13 x14 x15 x16 x17 x18 x19 x20 x21)) (k0_pay45 (k0_pay81 x0 x1 x2 x3 x4 x5 x6 x7 x8 x9 x10 x11 x12 x13 x14 x15 x16 x17 x18 x19 x20 x21) (k0_pay88 x0 x1 x2 x3 x4 x5 x6 x7 x8 x9 x10 x11 x12 x13 x14 x15 x16 x17 x18 x19 x20 x21)) (k0_pay46 (k0_pay81 x0 x1 x2 x3 x4 x5 x6 x7 x8 x9 x10 x11 x12 x13 x14 x15 x16 x17 x18 x19 x20 x21) (k0_pay88 x0 x1 x2 x3 x4 x5 x6 x7 x8 x9 x10 x11 x12 x13 x14 x15 x16 x17 x18 x19 x20 x21)) -- `v427`
def k0_pay93 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S256x1152 .f32 :=
  k0_pay48 (k0_pay81 x0 x1 x2 x3 x4 x5 x6 x7 x8 x9 x10 x11 x12 x13 x14 x15 x16 x17 x18 x19 x20 x21) (k0_pay89 x0 x1 x2 x3 x4 x5 x6 x7 x8 x9 x10 x11 x12 x13 x14 x15 x16 x17 x18 x19 x20 x21) -- `v429`
def k0_pay94 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1x1152 .f32 :=
  k0_pay50 (k0_pay93 x0 x1 x2 x3 x4 x5 x6 x7 x8 x9 x10 x11 x12 x13 x14 x15 x16 x17 x18 x19 x20 x21) (k0_pay49 (k0_pay81 x0 x1 x2 x3 x4 x5 x6 x7 x8 x9 x10 x11 x12 x13 x14 x15 x16 x17 x18 x19 x20 x21) (k0_pay89 x0 x1 x2 x3 x4 x5 x6 x7 x8 x9 x10 x11 x12 x13 x14 x15 x16 x17 x18 x19 x20 x21)) -- `v475`
def k0_pay95 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S8x1152 .f32 :=
  k0_pay51 (k0_pay93 x0 x1 x2 x3 x4 x5 x6 x7 x8 x9 x10 x11 x12 x13 x14 x15 x16 x17 x18 x19 x20 x21) -- `v506`
def k0_pay96 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1184x256 .bf16 :=
  k0_pay53 (k0_pay81 x0 x1 x2 x3 x4 x5 x6 x7 x8 x9 x10 x11 x12 x13 x14 x15 x16 x17 x18 x19 x20 x21) (k0_pay82 x0 x1 x2 x3 x4 x5 x6 x7 x8 x9 x10 x11 x12 x13 x14 x15 x16 x17 x18 x19 x20 x21) (k0_pay83 x0 x1 x2 x3 x4 x5 x6 x7 x8 x9 x10 x11 x12 x13 x14 x15 x16 x17 x18 x19 x20 x21) (k0_pay86 x0 x1 x2 x3 x4 x5 x6 x7 x8 x9 x10 x11 x12 x13 x14 x15 x16 x17 x18 x19 x20 x21) (k0_pay87 x0 x1 x2 x3 x4 x5 x6 x7 x8 x9 x10 x11 x12 x13 x14 x15 x16 x17 x18 x19 x20 x21) (k0_pay88 x0 x1 x2 x3 x4 x5 x6 x7 x8 x9 x10 x11 x12 x13 x14 x15 x16 x17 x18 x19 x20 x21) (k0_pay89 x0 x1 x2 x3 x4 x5 x6 x7 x8 x9 x10 x11 x12 x13 x14 x15 x16 x17 x18 x19 x20 x21) (k0_pay91 x0 x1 x2 x3 x4 x5 x6 x7 x8 x9 x10 x11 x12 x13 x14 x15 x16 x17 x18 x19 x20 x21) (k0_pay92 x0 x1 x2 x3 x4 x5 x6 x7 x8 x9 x10 x11 x12 x13 x14 x15 x16 x17 x18 x19 x20 x21) (k0_pay94 x0 x1 x2 x3 x4 x5 x6 x7 x8 x9 x10 x11 x12 x13 x14 x15 x16 x17 x18 x19 x20 x21) (k0_pay95 x0 x1 x2 x3 x4 x5 x6 x7 x8 x9 x10 x11 x12 x13 x14 x15 x16 x17 x18 x19 x20 x21) (View.ld x2 r0_26) -- `v559`
def k0_pay97 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1x256 .f32 :=
  k0_pay54 (View.ld x15 r0_2) -- `v561`
def k0_pay98 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152x256 .f32 :=
  k0_pay55 (k0_pay96 x0 x1 x2 x3 x4 x5 x6 x7 x8 x9 x10 x11 x12 x13 x14 x15 x16 x17 x18 x19 x20 x21) (View.ld x14 r0_12) (View.ld x14 r0_13) (View.ld x14 r0_14) (View.ld x14 r0_15) (View.ld x14 r0_16) (View.ld x14 r0_17) -- `v590`
def k0_pay99 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152x256 .bf16 :=
  k0_pay56 (k0_pay96 x0 x1 x2 x3 x4 x5 x6 x7 x8 x9 x10 x11 x12 x13 x14 x15 x16 x17 x18 x19 x20 x21) -- `v591`
def k0_pay100 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152x256 .f32 :=
  k0_pay57 (View.ld x1 r0_0) (k0_pay96 x0 x1 x2 x3 x4 x5 x6 x7 x8 x9 x10 x11 x12 x13 x14 x15 x16 x17 x18 x19 x20 x21) (k0_pay97 x0 x1 x2 x3 x4 x5 x6 x7 x8 x9 x10 x11 x12 x13 x14 x15 x16 x17 x18 x19 x20 x21) (k0_pay98 x0 x1 x2 x3 x4 x5 x6 x7 x8 x9 x10 x11 x12 x13 x14 x15 x16 x17 x18 x19 x20 x21) (k0_pay99 x0 x1 x2 x3 x4 x5 x6 x7 x8 x9 x10 x11 x12 x13 x14 x15 x16 x17 x18 x19 x20 x21) (View.ld x14 r0_18) (View.ld x14 r0_19) (View.ld x14 r0_20) -- `v609`
def k0_pay101 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1152x256 .f32 :=
  k0_pay62 (k0_pay58 (View.ld x1 r0_0) (k0_pay96 x0 x1 x2 x3 x4 x5 x6 x7 x8 x9 x10 x11 x12 x13 x14 x15 x16 x17 x18 x19 x20 x21) (k0_pay97 x0 x1 x2 x3 x4 x5 x6 x7 x8 x9 x10 x11 x12 x13 x14 x15 x16 x17 x18 x19 x20 x21) (k0_pay98 x0 x1 x2 x3 x4 x5 x6 x7 x8 x9 x10 x11 x12 x13 x14 x15 x16 x17 x18 x19 x20 x21) (k0_pay99 x0 x1 x2 x3 x4 x5 x6 x7 x8 x9 x10 x11 x12 x13 x14 x15 x16 x17 x18 x19 x20 x21) (View.ld x14 r0_18) (View.ld x14 r0_19) (View.ld x14 r0_20)) (k0_pay59 (View.ld x17 r0_2)) (k0_pay60 (View.ld x1 r0_0) (k0_pay96 x0 x1 x2 x3 x4 x5 x6 x7 x8 x9 x10 x11 x12 x13 x14 x15 x16 x17 x18 x19 x20 x21) (k0_pay97 x0 x1 x2 x3 x4 x5 x6 x7 x8 x9 x10 x11 x12 x13 x14 x15 x16 x17 x18 x19 x20 x21) (k0_pay98 x0 x1 x2 x3 x4 x5 x6 x7 x8 x9 x10 x11 x12 x13 x14 x15 x16 x17 x18 x19 x20 x21) (k0_pay99 x0 x1 x2 x3 x4 x5 x6 x7 x8 x9 x10 x11 x12 x13 x14 x15 x16 x17 x18 x19 x20 x21) (View.ld x14 r0_18) (View.ld x14 r0_19) (View.ld x14 r0_20) (View.ld x16 r0_12) (View.ld x16 r0_13)) (k0_pay61 (View.ld x1 r0_0) (k0_pay96 x0 x1 x2 x3 x4 x5 x6 x7 x8 x9 x10 x11 x12 x13 x14 x15 x16 x17 x18 x19 x20 x21) (k0_pay97 x0 x1 x2 x3 x4 x5 x6 x7 x8 x9 x10 x11 x12 x13 x14 x15 x16 x17 x18 x19 x20 x21) (k0_pay98 x0 x1 x2 x3 x4 x5 x6 x7 x8 x9 x10 x11 x12 x13 x14 x15 x16 x17 x18 x19 x20 x21) (k0_pay99 x0 x1 x2 x3 x4 x5 x6 x7 x8 x9 x10 x11 x12 x13 x14 x15 x16 x17 x18 x19 x20 x21) (View.ld x14 r0_18) (View.ld x14 r0_19) (View.ld x14 r0_20)) (View.ld x16 r0_14) (View.ld x16 r0_15) (View.ld x16 r0_16) (View.ld x16 r0_17) (View.ld x16 r0_18) (View.ld x16 r0_19) (View.ld x16 r0_20) -- `v662`
def k0_pay102 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : FVec F S1184x256 .bf16 :=
  k0_pay63 (View.ld x1 r0_0) (k0_pay100 x0 x1 x2 x3 x4 x5 x6 x7 x8 x9 x10 x11 x12 x13 x14 x15 x16 x17 x18 x19 x20 x21) (k0_pay101 x0 x1 x2 x3 x4 x5 x6 x7 x8 x9 x10 x11 x12 x13 x14 x15 x16 x17 x18 x19 x20 x21) (View.ld x18 r0_21) (View.ld x19 r0_2) -- `v680`

/-- Window 22's staging buffer after the body, from the input windows' blocks: its 1 store as pieces, LAST
    FIRST (Lib/Pipeline/FrameBody.lean `View.canon`; the payloads are the skeleton's and the values stated above). -/
def out0_22 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : Vec F S512x1152 .f32 :=
  View.canon [⟨r0_28, k0_pay1 (View.ld x1 r0_0) (k0_pay64 (View.ld x21 r0_27)) (k0_pay67 (k0_pay102 x0 x1 x2 x3 x4 x5 x6 x7 x8 x9 x10 x11 x12 x13 x14 x15 x16 x17 x18 x19 x20 x21) (k0_pay65 (View.ld x1 r0_0) (k0_pay100 x0 x1 x2 x3 x4 x5 x6 x7 x8 x9 x10 x11 x12 x13 x14 x15 x16 x17 x18 x19 x20 x21) (k0_pay101 x0 x1 x2 x3 x4 x5 x6 x7 x8 x9 x10 x11 x12 x13 x14 x15 x16 x17 x18 x19 x20 x21) (View.ld x18 r0_21) (View.ld x19 r0_2) (View.ld x20 r0_3) (View.ld x20 r0_4) (View.ld x20 r0_5)) (k0_pay66 (View.ld x1 r0_0) (k0_pay100 x0 x1 x2 x3 x4 x5 x6 x7 x8 x9 x10 x11 x12 x13 x14 x15 x16 x17 x18 x19 x20 x21) (k0_pay101 x0 x1 x2 x3 x4 x5 x6 x7 x8 x9 x10 x11 x12 x13 x14 x15 x16 x17 x18 x19 x20 x21) (View.ld x18 r0_21) (View.ld x19 r0_2)) (View.ld x20 r0_6) (View.ld x20 r0_7) (View.ld x20 r0_8) (View.ld x20 r0_9) (View.ld x20 r0_10)) (k0_pay68 (k0_pay102 x0 x1 x2 x3 x4 x5 x6 x7 x8 x9 x10 x11 x12 x13 x14 x15 x16 x17 x18 x19 x20 x21)) (View.ld x20 r0_11)⟩]

/-- Its stores tile the buffer (checked by evaluation), so they cover it. -/
theorem cover0_22 (p0 : Vec F S512x1152 .f32) (y : S512x1152.Idx) :
    ∃ pc ∈ ([⟨r0_28, p0⟩] : List (View.Piece (Elt F) S512x1152 .f32)), y ∈ pc.1.set :=
  View.cover_of_tiled [⟨r0_28, p0⟩] S512x1152.size (by rfl) y

/-- Window 23's staging buffer after the body, from the input windows' blocks: its 1 store as pieces, LAST
    FIRST (Lib/Pipeline/FrameBody.lean `View.canon`; the payloads are the skeleton's and the values stated above). -/
def out0_23 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : Vec F S256x1152 .f32 :=
  View.canon [⟨r0_22, k0_pay20 (View.ld x1 r0_0) (k0_pay77 x0 x1 x2 x3 x4 x5 x6 x7 x8 x9 x10 x11 x12 x13 x14 x15 x16 x17 x18 x19 x20 x21) (k0_pay78 x0 x1 x2 x3 x4 x5 x6 x7 x8 x9 x10 x11 x12 x13 x14 x15 x16 x17 x18 x19 x20 x21) (k0_pay79 x0 x1 x2 x3 x4 x5 x6 x7 x8 x9 x10 x11 x12 x13 x14 x15 x16 x17 x18 x19 x20 x21)⟩]

/-- Its stores tile the buffer (checked by evaluation), so they cover it. -/
theorem cover0_23 (p0 : Vec F S256x1152 .f32) (y : S256x1152.Idx) :
    ∃ pc ∈ ([⟨r0_22, p0⟩] : List (View.Piece (Elt F) S256x1152 .f32)), y ∈ pc.1.set :=
  View.cover_of_tiled [⟨r0_22, p0⟩] S256x1152.size (by rfl) y

/-- Window 24's staging buffer after the body, from the input windows' blocks: its 1 store as pieces, LAST
    FIRST (Lib/Pipeline/FrameBody.lean `View.canon`; the payloads are the skeleton's and the values stated above). -/
def out0_24 (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) : Vec F S256x1152 .f32 :=
  View.canon [⟨r0_22, k0_pay52 (k0_pay82 x0 x1 x2 x3 x4 x5 x6 x7 x8 x9 x10 x11 x12 x13 x14 x15 x16 x17 x18 x19 x20 x21) (k0_pay83 x0 x1 x2 x3 x4 x5 x6 x7 x8 x9 x10 x11 x12 x13 x14 x15 x16 x17 x18 x19 x20 x21) (k0_pay86 x0 x1 x2 x3 x4 x5 x6 x7 x8 x9 x10 x11 x12 x13 x14 x15 x16 x17 x18 x19 x20 x21) (k0_pay87 x0 x1 x2 x3 x4 x5 x6 x7 x8 x9 x10 x11 x12 x13 x14 x15 x16 x17 x18 x19 x20 x21) (k0_pay88 x0 x1 x2 x3 x4 x5 x6 x7 x8 x9 x10 x11 x12 x13 x14 x15 x16 x17 x18 x19 x20 x21) (k0_pay89 x0 x1 x2 x3 x4 x5 x6 x7 x8 x9 x10 x11 x12 x13 x14 x15 x16 x17 x18 x19 x20 x21) (k0_pay91 x0 x1 x2 x3 x4 x5 x6 x7 x8 x9 x10 x11 x12 x13 x14 x15 x16 x17 x18 x19 x20 x21) (k0_pay92 x0 x1 x2 x3 x4 x5 x6 x7 x8 x9 x10 x11 x12 x13 x14 x15 x16 x17 x18 x19 x20 x21) (k0_pay94 x0 x1 x2 x3 x4 x5 x6 x7 x8 x9 x10 x11 x12 x13 x14 x15 x16 x17 x18 x19 x20 x21) (k0_pay95 x0 x1 x2 x3 x4 x5 x6 x7 x8 x9 x10 x11 x12 x13 x14 x15 x16 x17 x18 x19 x20 x21)⟩]

/-- Its stores tile the buffer (checked by evaluation), so they cover it. -/
theorem cover0_24 (p0 : Vec F S256x1152 .f32) (y : S256x1152.Idx) :
    ∃ pc ∈ ([⟨r0_22, p0⟩] : List (View.Piece (Elt F) S256x1152 .f32)), y ∈ pc.1.set :=
  View.cover_of_tiled [⟨r0_22, p0⟩] S256x1152.size (by rfl) y

/-! ## The body's triple -/

set_option maxHeartbeats 646629850 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (arg0 : Memref sig .tc .vmem S1184x512 .bf16) (harg0 : arg0.IsWhole) (arg1 : Memref sig .tc .vmem S1152x1 .f32) (harg1 : arg1.IsWhole) (arg2 : Memref sig .tc .vmem S1x1152 .f32) (harg2 : arg2.IsWhole) (arg3 : Memref sig .tc .vmem S9x256x512 .bf16) (harg3 : arg3.IsWhole) (arg4 : Memref sig .tc .vmem S1x256 .f32) (harg4 : arg4.IsWhole) (arg5 : Memref sig .tc .vmem S9x256x256 .bf16) (harg5 : arg5.IsWhole) (arg6 : Memref sig .tc .vmem S1x256 .f32) (harg6 : arg6.IsWhole) (arg7 : Memref sig .tc .vmem S9x256x256 .bf16) (harg7 : arg7.IsWhole) (arg8 : Memref sig .tc .vmem S1x256 .f32) (harg8 : arg8.IsWhole) (arg9 : Memref sig .tc .vmem S256x256 .bf16) (harg9 : arg9.IsWhole) (arg10 : Memref sig .tc .vmem S1x256 .f32) (harg10 : arg10.IsWhole) (arg11 : Memref sig .tc .vmem S512x256 .bf16) (harg11 : arg11.IsWhole) (arg12 : Memref sig .tc .vmem S512x1 .f32) (harg12 : arg12.IsWhole) (arg13 : Memref sig .tc .vmem S256x512 .f32) (harg13 : arg13.IsWhole) (arg14 : Memref sig .tc .vmem S9x256x256 .bf16) (harg14 : arg14.IsWhole) (arg15 : Memref sig .tc .vmem S1x256 .f32) (harg15 : arg15.IsWhole) (arg16 : Memref sig .tc .vmem S9x256x256 .bf16) (harg16 : arg16.IsWhole) (arg17 : Memref sig .tc .vmem S1x256 .f32) (harg17 : arg17.IsWhole) (arg18 : Memref sig .tc .vmem S256x256 .bf16) (harg18 : arg18.IsWhole) (arg19 : Memref sig .tc .vmem S1x256 .f32) (harg19 : arg19.IsWhole) (arg20 : Memref sig .tc .vmem S9x256x512 .bf16) (harg20 : arg20.IsWhole) (arg21 : Memref sig .tc .vmem S1x512 .f32) (harg21 : arg21.IsWhole) (arg22 : Memref sig .tc .vmem S512x1152 .f32) (harg22 : arg22.IsWhole) (arg23 : Memref sig .tc .vmem S256x1152 .f32) (harg23 : arg23.IsWhole) (arg24 : Memref sig .tc .vmem S256x1152 .f32) (harg24 : arg24.IsWhole)
    (x0 : Vec F S1184x512 .bf16) (x1 : Vec F S1152x1 .f32) (x2 : Vec F S1x1152 .f32) (x3 : Vec F S9x256x512 .bf16) (x4 : Vec F S1x256 .f32) (x5 : Vec F S9x256x256 .bf16) (x6 : Vec F S1x256 .f32) (x7 : Vec F S9x256x256 .bf16) (x8 : Vec F S1x256 .f32) (x9 : Vec F S256x256 .bf16) (x10 : Vec F S1x256 .f32) (x11 : Vec F S512x256 .bf16) (x12 : Vec F S512x1 .f32) (x13 : Vec F S256x512 .f32) (x14 : Vec F S9x256x256 .bf16) (x15 : Vec F S1x256 .f32) (x16 : Vec F S9x256x256 .bf16) (x17 : Vec F S1x256 .f32) (x18 : Vec F S256x256 .bf16) (x19 : Vec F S1x256 .f32) (x20 : Vec F S9x256x512 .bf16) (x21 : Vec F S1x512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare (out0_22 x0 x1 x2 x3 x4 x5 x6 x7 x8 x9 x10 x11 x12 x13 x14 x15 x16 x17 x18 x19 x20 x21) ∗ owns (c : Thread nD τ) arg23 fullShare (out0_23 x0 x1 x2 x3 x4 x5 x6 x7 x8 x9 x10 x11 x12 x13 x14 x15 x16 x17 x18 x19 x20 x21) ∗ owns (c : Thread nD τ) arg24 fullShare (out0_24 x0 x1 x2 x3 x4 x5 x6 x7 x8 x9 x10 x11 x12 x13 x14 x15 x16 x17 x18 x19 x20 x21)) -∗ K ⟨⟩))
      ⊢ wp frame (wpE (defs₀ (F := F)) Variants.none c none) E (cc0__net arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__net_eq_skeleton]; unfold cc0__net_skel
  simp only [k0_part17_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  iexists _; isplitr
  swap; · iexact H24
  ipureintro
  refine (View.read_writes_eq_canon _ _ _ (cover0_24 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨_ + 25, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
/-- After a point's body, window 1 still holds its block. -/
theorem after0_1 (c : Dev nD) (t : Fin cfg0.N) : (dats m 0 c).after 1 t = iblk m c 1 t := by dsimp only [dats]
/-- After a point's body, window 2 still holds its block. -/
theorem after0_2 (c : Dev nD) (t : Fin cfg0.N) : (dats m 0 c).after 2 t = iblk m c 2 t := by dsimp only [dats]
/-- After a point's body, window 3 still holds its block. -/
theorem after0_3 (c : Dev nD) (t : Fin cfg0.N) : (dats m 0 c).after 3 t = iblk m c 3 t := by dsimp only [dats]
/-- After a point's body, window 4 still holds its block. -/
theorem after0_4 (c : Dev nD) (t : Fin cfg0.N) : (dats m 0 c).after 4 t = iblk m c 4 t := by dsimp only [dats]
/-- After a point's body, window 5 still holds its block. -/
theorem after0_5 (c : Dev nD) (t : Fin cfg0.N) : (dats m 0 c).after 5 t = iblk m c 5 t := by dsimp only [dats]
/-- After a point's body, window 6 still holds its block. -/
theorem after0_6 (c : Dev nD) (t : Fin cfg0.N) : (dats m 0 c).after 6 t = iblk m c 6 t := by dsimp only [dats]
/-- After a point's body, window 7 still holds its block. -/
theorem after0_7 (c : Dev nD) (t : Fin cfg0.N) : (dats m 0 c).after 7 t = iblk m c 7 t := by dsimp only [dats]
/-- After a point's body, window 8 still holds its block. -/
theorem after0_8 (c : Dev nD) (t : Fin cfg0.N) : (dats m 0 c).after 8 t = iblk m c 8 t := by dsimp only [dats]
/-- After a point's body, window 9 still holds its block. -/
theorem after0_9 (c : Dev nD) (t : Fin cfg0.N) : (dats m 0 c).after 9 t = iblk m c 9 t := by dsimp only [dats]
/-- After a point's body, window 10 still holds its block. -/
theorem after0_10 (c : Dev nD) (t : Fin cfg0.N) : (dats m 0 c).after 10 t = iblk m c 10 t := by dsimp only [dats]
/-- After a point's body, window 11 still holds its block. -/
theorem after0_11 (c : Dev nD) (t : Fin cfg0.N) : (dats m 0 c).after 11 t = iblk m c 11 t := by dsimp only [dats]
/-- After a point's body, window 12 still holds its block. -/
theorem after0_12 (c : Dev nD) (t : Fin cfg0.N) : (dats m 0 c).after 12 t = iblk m c 12 t := by dsimp only [dats]
/-- After a point's body, window 13 still holds its block. -/
theorem after0_13 (c : Dev nD) (t : Fin cfg0.N) : (dats m 0 c).after 13 t = iblk m c 13 t := by dsimp only [dats]
/-- After a point's body, window 14 still holds its block. -/
theorem after0_14 (c : Dev nD) (t : Fin cfg0.N) : (dats m 0 c).after 14 t = iblk m c 14 t := by dsimp only [dats]
/-- After a point's body, window 15 still holds its block. -/
theorem after0_15 (c : Dev nD) (t : Fin cfg0.N) : (dats m 0 c).after 15 t = iblk m c 15 t := by dsimp only [dats]
/-- After a point's body, window 16 still holds its block. -/
theorem after0_16 (c : Dev nD) (t : Fin cfg0.N) : (dats m 0 c).after 16 t = iblk m c 16 t := by dsimp only [dats]
/-- After a point's body, window 17 still holds its block. -/
theorem after0_17 (c : Dev nD) (t : Fin cfg0.N) : (dats m 0 c).after 17 t = iblk m c 17 t := by dsimp only [dats]
/-- After a point's body, window 18 still holds its block. -/
theorem after0_18 (c : Dev nD) (t : Fin cfg0.N) : (dats m 0 c).after 18 t = iblk m c 18 t := by dsimp only [dats]
/-- After a point's body, window 19 still holds its block. -/
theorem after0_19 (c : Dev nD) (t : Fin cfg0.N) : (dats m 0 c).after 19 t = iblk m c 19 t := by dsimp only [dats]
/-- After a point's body, window 20 still holds its block. -/
theorem after0_20 (c : Dev nD) (t : Fin cfg0.N) : (dats m 0 c).after 20 t = iblk m c 20 t := by dsimp only [dats]
/-- After a point's body, window 21 still holds its block. -/
theorem after0_21 (c : Dev nD) (t : Fin cfg0.N) : (dats m 0 c).after 21 t = iblk m c 21 t := by dsimp only [dats]
/-- After a point's body, window 22 holds what the body stored. -/
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
/-- After a point's body, window 23 holds what the body stored. -/
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
/-- After a point's body, window 24 holds what the body stored. -/
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Before a point's body, window 1 holds its block. -/
theorem before0_1 (c : Dev nD) (t : Fin cfg0.N) (d) : (dats m 0 c).before 1 t d = iblk m c 1 t :=
  before0_1_of m (dats m 0 c) (A_eq m c 1) (after0_1 m c) t d
/-- Before a point's body, window 2 holds its block. -/
theorem before0_2 (c : Dev nD) (t : Fin cfg0.N) (d) : (dats m 0 c).before 2 t d = iblk m c 2 t :=
  before0_2_of m (dats m 0 c) (A_eq m c 2) (after0_2 m c) t d
/-- Before a point's body, window 3 holds its block. -/
theorem before0_3 (c : Dev nD) (t : Fin cfg0.N) (d) : (dats m 0 c).before 3 t d = iblk m c 3 t :=
  before0_3_of m (dats m 0 c) (A_eq m c 3) (after0_3 m c) t d
/-- Before a point's body, window 4 holds its block. -/
theorem before0_4 (c : Dev nD) (t : Fin cfg0.N) (d) : (dats m 0 c).before 4 t d = iblk m c 4 t :=
  before0_4_of m (dats m 0 c) (A_eq m c 4) (after0_4 m c) t d
/-- Before a point's body, window 5 holds its block. -/
theorem before0_5 (c : Dev nD) (t : Fin cfg0.N) (d) : (dats m 0 c).before 5 t d = iblk m c 5 t :=
  before0_5_of m (dats m 0 c) (A_eq m c 5) (after0_5 m c) t d
/-- Before a point's body, window 6 holds its block. -/
theorem before0_6 (c : Dev nD) (t : Fin cfg0.N) (d) : (dats m 0 c).before 6 t d = iblk m c 6 t :=
  before0_6_of m (dats m 0 c) (A_eq m c 6) (after0_6 m c) t d
/-- Before a point's body, window 7 holds its block. -/
theorem before0_7 (c : Dev nD) (t : Fin cfg0.N) (d) : (dats m 0 c).before 7 t d = iblk m c 7 t :=
  before0_7_of m (dats m 0 c) (A_eq m c 7) (after0_7 m c) t d
/-- Before a point's body, window 8 holds its block. -/
theorem before0_8 (c : Dev nD) (t : Fin cfg0.N) (d) : (dats m 0 c).before 8 t d = iblk m c 8 t :=
  before0_8_of m (dats m 0 c) (A_eq m c 8) (after0_8 m c) t d
/-- Before a point's body, window 9 holds its block. -/
theorem before0_9 (c : Dev nD) (t : Fin cfg0.N) (d) : (dats m 0 c).before 9 t d = iblk m c 9 t :=
  before0_9_of m (dats m 0 c) (A_eq m c 9) (after0_9 m c) t d
/-- Before a point's body, window 10 holds its block. -/
theorem before0_10 (c : Dev nD) (t : Fin cfg0.N) (d) : (dats m 0 c).before 10 t d = iblk m c 10 t :=
  before0_10_of m (dats m 0 c) (A_eq m c 10) (after0_10 m c) t d
/-- Before a point's body, window 11 holds its block. -/
theorem before0_11 (c : Dev nD) (t : Fin cfg0.N) (d) : (dats m 0 c).before 11 t d = iblk m c 11 t :=
  before0_11_of m (dats m 0 c) (A_eq m c 11) (after0_11 m c) t d
/-- Before a point's body, window 12 holds its block. -/
theorem before0_12 (c : Dev nD) (t : Fin cfg0.N) (d) : (dats m 0 c).before 12 t d = iblk m c 12 t :=
  before0_12_of m (dats m 0 c) (A_eq m c 12) (after0_12 m c) t d
/-- Before a point's body, window 13 holds its block. -/
theorem before0_13 (c : Dev nD) (t : Fin cfg0.N) (d) : (dats m 0 c).before 13 t d = iblk m c 13 t :=
  before0_13_of m (dats m 0 c) (A_eq m c 13) (after0_13 m c) t d
/-- Before a point's body, window 14 holds its block. -/
theorem before0_14 (c : Dev nD) (t : Fin cfg0.N) (d) : (dats m 0 c).before 14 t d = iblk m c 14 t :=
  before0_14_of m (dats m 0 c) (A_eq m c 14) (after0_14 m c) t d
/-- Before a point's body, window 15 holds its block. -/
theorem before0_15 (c : Dev nD) (t : Fin cfg0.N) (d) : (dats m 0 c).before 15 t d = iblk m c 15 t :=
  before0_15_of m (dats m 0 c) (A_eq m c 15) (after0_15 m c) t d
/-- Before a point's body, window 16 holds its block. -/
theorem before0_16 (c : Dev nD) (t : Fin cfg0.N) (d) : (dats m 0 c).before 16 t d = iblk m c 16 t :=
  before0_16_of m (dats m 0 c) (A_eq m c 16) (after0_16 m c) t d
/-- Before a point's body, window 17 holds its block. -/
theorem before0_17 (c : Dev nD) (t : Fin cfg0.N) (d) : (dats m 0 c).before 17 t d = iblk m c 17 t :=
  before0_17_of m (dats m 0 c) (A_eq m c 17) (after0_17 m c) t d
/-- Before a point's body, window 18 holds its block. -/
theorem before0_18 (c : Dev nD) (t : Fin cfg0.N) (d) : (dats m 0 c).before 18 t d = iblk m c 18 t :=
  before0_18_of m (dats m 0 c) (A_eq m c 18) (after0_18 m c) t d
/-- Before a point's body, window 19 holds its block. -/
theorem before0_19 (c : Dev nD) (t : Fin cfg0.N) (d) : (dats m 0 c).before 19 t d = iblk m c 19 t :=
  before0_19_of m (dats m 0 c) (A_eq m c 19) (after0_19 m c) t d
/-- Before a point's body, window 20 holds its block. -/
theorem before0_20 (c : Dev nD) (t : Fin cfg0.N) (d) : (dats m 0 c).before 20 t d = iblk m c 20 t :=
  before0_20_of m (dats m 0 c) (A_eq m c 20) (after0_20 m c) t d
/-- Before a point's body, window 21 holds its block. -/
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel c Set.univ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.KernelIdeal.Gen

end
-- ==== Proof.RunI.lean ====
/- The run of KernelIdeal: the region's three output arrays named, the three later operations on each of them read off
   the launch's list. It follows the text the generator writes for a launch whose frame it proves itself. -/
module

public import proofs.«01_k».proof.Proof.Gen.KernelIdeal
public import proofs.«01_k».proof.Proof.FrameI
public import Idealize.ShloMosaic.Lib.StableHlo.Run
public import Idealize.ShloMosaic.Lib.Pipeline.FrameSuffix

@[expose] public section

noncomputable section

namespace Cert.KernelIdeal.Value

open Cert.KernelIdeal Cert.KernelIdeal.Gen Idealize.ShloMosaic Idealize.ShloMosaic.TcCoe Idealize.SL.Sem Idealize.ShloMosaic.StableHlo

variable {F : FTy → Type} [FloatOps F]

variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v41_0` (window 22's): not opened here. -/
def reg_main_v41_0 (c : Dev nD) : Buf (Elt F) ((c.tc : Thread nD τ).loc main_v41_0) := (Gen.dats m 0 c).arrAt 22 cfg0.N
/-- What the kernel region leaves in its result array `main_v41_1` (window 23's): not opened here. -/
def reg_main_v41_1 (c : Dev nD) : Buf (Elt F) ((c.tc : Thread nD τ).loc main_v41_1) := (Gen.dats m 0 c).arrAt 23 cfg0.N
/-- What the kernel region leaves in its result array `main_v41_2` (window 24's): not opened here. -/
def reg_main_v41_2 (c : Dev nD) : Buf (Elt F) ((c.tc : Thread nD τ).loc main_v41_2) := (Gen.dats m 0 c).arrAt 24 cfg0.N

/-- The exit contents at the region's result array `main_v41_0`. -/
theorem exit_main_v41_0 (c : Dev nD) : exitV m c (Proc.devRef .tc main_v41_0) = reg_main_v41_0 m c :=
  Pipeline.withArrays_arr spec0 Gen.launch0.win.arr_inj c (Gen.V0 m c) _ 22
/-- The exit contents at the region's result array `main_v41_1`. -/
theorem exit_main_v41_1 (c : Dev nD) : exitV m c (Proc.devRef .tc main_v41_1) = reg_main_v41_1 m c :=
  Pipeline.withArrays_arr spec0 Gen.launch0.win.arr_inj c (Gen.V0 m c) _ 23
/-- The exit contents at the region's result array `main_v41_2`. -/
theorem exit_main_v41_2 (c : Dev nD) : exitV m c (Proc.devRef .tc main_v41_2) = reg_main_v41_2 m c :=
  Pipeline.withArrays_arr spec0 Gen.launch0.win.arr_inj c (Gen.V0 m c) _ 24

set_option maxHeartbeats 900000 in
/-- The later operations from any contents `V0`, read at result `main_v44`. -/
theorem tail_main_v44 (V0 : Valuation τ sig (Elt F)) :
    after (List.flatten [Gen.hostOps1]) V0 (Proc.devRef .tc main_v44) = transpose S16x512x7x7 [1, 0, 2, 3] (extractStridedSlice S512x16x7x7 ![0, 0, 1, 1] (shapeCast _ (V0 (Proc.devRef .tc main_v41_0)) shapeCasts_S512x1152_S512x16x9x8) slices_S512x16x9x8_S512x16x7x7_0_0_1_1) transposes_S512x16x7x7_S16x512x7x7_1_0_2_3 := by
  simp only [Gen.hostOps1, List.flatten_cons, List.flatten_nil, List.append_nil, List.cons_append, List.nil_append]
  after_results <;> rfl
/-- Result `main_v44` after the later operations from the region's exit contents. -/
theorem fin_main_v44 (c : Dev nD) :
    Pipeline.afterTail₀ cfgs (Gen.dats m) 0 (Gen.V0 m) [Gen.hostOps1] c main_v44 = transpose S16x512x7x7 [1, 0, 2, 3] (extractStridedSlice S512x16x7x7 ![0, 0, 1, 1] (shapeCast _ (reg_main_v41_0 m c) shapeCasts_S512x1152_S512x16x9x8) slices_S512x16x9x8_S512x16x7x7_0_0_1_1) transposes_S512x16x7x7_S16x512x7x7_1_0_2_3 :=
  (tail_main_v44 (exitV m c)).trans (by rw [exit_main_v41_0])

set_option maxHeartbeats 900000 in
/-- The later operations from any contents `V0`, read at result `main_v47`. -/
theorem tail_main_v47 (V0 : Valuation τ sig (Elt F)) :
    after (List.flatten [Gen.hostOps1]) V0 (Proc.devRef .tc main_v47) = transpose S16x256x7x7 [1, 0, 2, 3] (extractStridedSlice S256x16x7x7 ![0, 0, 1, 1] (shapeCast _ (V0 (Proc.devRef .tc main_v41_1)) shapeCasts_S256x1152_S256x16x9x8) slices_S256x16x9x8_S256x16x7x7_0_0_1_1) transposes_S256x16x7x7_S16x256x7x7_1_0_2_3 := by
  simp only [Gen.hostOps1, List.flatten_cons, List.flatten_nil, List.append_nil, List.cons_append, List.nil_append]
  after_results <;> rfl
/-- Result `main_v47` after the later operations from the region's exit contents. -/
theorem fin_main_v47 (c : Dev nD) :
    Pipeline.afterTail₀ cfgs (Gen.dats m) 0 (Gen.V0 m) [Gen.hostOps1] c main_v47 = transpose S16x256x7x7 [1, 0, 2, 3] (extractStridedSlice S256x16x7x7 ![0, 0, 1, 1] (shapeCast _ (reg_main_v41_1 m c) shapeCasts_S256x1152_S256x16x9x8) slices_S256x16x9x8_S256x16x7x7_0_0_1_1) transposes_S256x16x7x7_S16x256x7x7_1_0_2_3 :=
  (tail_main_v47 (exitV m c)).trans (by rw [exit_main_v41_1])

set_option maxHeartbeats 900000 in
/-- The later operations from any contents `V0`, read at result `main_v50`. -/
theorem tail_main_v50 (V0 : Valuation τ sig (Elt F)) :
    after (List.flatten [Gen.hostOps1]) V0 (Proc.devRef .tc main_v50) = transpose S16x256x7x7 [1, 0, 2, 3] (extractStridedSlice S256x16x7x7 ![0, 0, 1, 1] (shapeCast _ (V0 (Proc.devRef .tc main_v41_2)) shapeCasts_S256x1152_S256x16x9x8) slices_S256x16x9x8_S256x16x7x7_0_0_1_1) transposes_S256x16x7x7_S16x256x7x7_1_0_2_3 := by
  simp only [Gen.hostOps1, List.flatten_cons, List.flatten_nil, List.append_nil, List.cons_append, List.nil_append]
  after_results <;> rfl
/-- Result `main_v50` after the later operations from the region's exit contents. -/
theorem fin_main_v50 (c : Dev nD) :
    Pipeline.afterTail₀ cfgs (Gen.dats m) 0 (Gen.V0 m) [Gen.hostOps1] c main_v50 = transpose S16x256x7x7 [1, 0, 2, 3] (extractStridedSlice S256x16x7x7 ![0, 0, 1, 1] (shapeCast _ (reg_main_v41_2 m c) shapeCasts_S256x1152_S256x16x9x8) slices_S256x16x9x8_S256x16x7x7_0_0_1_1) transposes_S256x16x7x7_S16x256x7x7_1_0_2_3 :=
  (tail_main_v50 (exitV m c)).trans (by rw [exit_main_v41_2])

set_option maxHeartbeats 1500000 in
/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v44) = transpose S16x512x7x7 [1, 0, 2, 3] (extractStridedSlice S512x16x7x7 ![0, 0, 1, 1] (shapeCast _ (reg_main_v41_0 m c) shapeCasts_S512x1152_S512x16x9x8) slices_S512x16x9x8_S512x16x7x7_0_0_1_1) transposes_S512x16x7x7_S16x512x7x7_1_0_2_3
      ∧ r.2.mem ((c.tc : Thread nD τ).loc main_v47) = transpose S16x256x7x7 [1, 0, 2, 3] (extractStridedSlice S256x16x7x7 ![0, 0, 1, 1] (shapeCast _ (reg_main_v41_1 m c) shapeCasts_S256x1152_S256x16x9x8) slices_S256x16x9x8_S256x16x7x7_0_0_1_1) transposes_S256x16x7x7_S16x256x7x7_1_0_2_3
      ∧ r.2.mem ((c.tc : Thread nD τ).loc main_v50) = transpose S16x256x7x7 [1, 0, 2, 3] (extractStridedSlice S256x16x7x7 ![0, 0, 1, 1] (shapeCast _ (reg_main_v41_2 m c) shapeCasts_S256x1152_S256x16x9x8) slices_S256x16x9x8_S256x16x7x7_0_0_1_1) transposes_S256x16x7x7_S16x256x7x7_1_0_2_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨((h c).2 main_v44 (Pipeline.mem_restRefs_of main_v44 (by decide) (by decide))).trans (fin_main_v44 m c),
      ((h c).2 main_v47 (Pipeline.mem_restRefs_of main_v47 (by decide) (by decide))).trans (fin_main_v47 m c),
      ((h c).2 main_v50 (Pipeline.mem_restRefs_of main_v50 (by decide) (by decide))).trans (fin_main_v50 m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c),
      ((h c).2 main_arg3 (Pipeline.mem_restRefs_of main_arg3 (by decide) (by decide))).trans (Gen.W_main_arg3 m (Gen.dats m) c),
      ((h c).2 main_arg4 (Pipeline.mem_restRefs_of main_arg4 (by decide) (by decide))).trans (Gen.W_main_arg4 m (Gen.dats m) c),
      ((h c).2 main_arg5 (Pipeline.mem_restRefs_of main_arg5 (by decide) (by decide))).trans (Gen.W_main_arg5 m (Gen.dats m) c),
      ((h c).2 main_arg6 (Pipeline.mem_restRefs_of main_arg6 (by decide) (by decide))).trans (Gen.W_main_arg6 m (Gen.dats m) c),
      ((h c).2 main_arg7 (Pipeline.mem_restRefs_of main_arg7 (by decide) (by decide))).trans (Gen.W_main_arg7 m (Gen.dats m) c),
      ((h c).2 main_arg8 (Pipeline.mem_restRefs_of main_arg8 (by decide) (by decide))).trans (Gen.W_main_arg8 m (Gen.dats m) c),
      ((h c).2 main_arg9 (Pipeline.mem_restRefs_of main_arg9 (by decide) (by decide))).trans (Gen.W_main_arg9 m (Gen.dats m) c),
      ((h c).2 main_arg10 (Pipeline.mem_restRefs_of main_arg10 (by decide) (by decide))).trans (Gen.W_main_arg10 m (Gen.dats m) c),
      ((h c).2 main_arg11 (Pipeline.mem_restRefs_of main_arg11 (by decide) (by decide))).trans (Gen.W_main_arg11 m (Gen.dats m) c),
      ((h c).2 main_arg12 (Pipeline.mem_restRefs_of main_arg12 (by decide) (by decide))).trans (Gen.W_main_arg12 m (Gen.dats m) c),
      ((h c).2 main_arg13 (Pipeline.mem_restRefs_of main_arg13 (by decide) (by decide))).trans (Gen.W_main_arg13 m (Gen.dats m) c),
      ((h c).2 main_arg14 (Pipeline.mem_restRefs_of main_arg14 (by decide) (by decide))).trans (Gen.W_main_arg14 m (Gen.dats m) c),
      ((h c).2 main_arg15 (Pipeline.mem_restRefs_of main_arg15 (by decide) (by decide))).trans (Gen.W_main_arg15 m (Gen.dats m) c),
      ((h c).2 main_arg16 (Pipeline.mem_restRefs_of main_arg16 (by decide) (by decide))).trans (Gen.W_main_arg16 m (Gen.dats m) c),
      ((h c).2 main_arg17 (Pipeline.mem_restRefs_of main_arg17 (by decide) (by decide))).trans (Gen.W_main_arg17 m (Gen.dats m) c)⟩) (Gen.run_main m ρ)

end Cert.KernelIdeal.Value

end
-- ==== Proof.Grid.lean ====
/- The zero-bordered row layout of the kernel against images, and the convolutions over it. No program is read here:
   every statement is about arrays of extended reals. -/
module

public import Idealize.ShloMosaic.PureOps.Ideal.Laws
public import Idealize.ShloMosaic.Lib.ValueIdx
public import Idealize.ShloMosaic.Lib.Pipeline.Value
public import Idealize.ShloMosaic.Lib.MatmulPlain

@[expose] public section

noncomputable section

namespace Cert.Vq

open Idealize.ShloMosaic Idealize.ShloMosaic.ValueIdx
open scoped BigOperators

/-- A batch of sixteen 7 by 7 images of `c` channels. -/
abbrev Img (c : ℕ) := (⟨4, ![16, c, 7, 7]⟩ : Shape).Idx → EReal
/-- A matrix of `m` rows and `n` columns. -/
abbrev Mat (m n : ℕ) := (⟨2, ![m, n]⟩ : Shape).Idx → EReal

/-- The image with a border of zeros: channel `k` of image `n` at row `a` and column `b`, counted with the border. -/
def grid {c : ℕ} (X : Img c) (n : ℕ) (k : Fin c) (a b : ℕ) : EReal :=
  if h : n < 16 ∧ (1 ≤ a ∧ a ≤ 7) ∧ (1 ≤ b ∧ b ≤ 7) then
    X (ix4 ⟨n, h.1⟩ k ⟨a - 1, by omega⟩ ⟨b - 1, by omega⟩) else 0

/-- What the layout holds in row `q`: 72 rows an image, eight a line of the bordered image. -/
def row {c : ℕ} (X : Img c) (q : ℕ) (k : Fin c) : EReal := grid X (q / 72) k (q % 72 / 8) (q % 8)

/-- A row that holds a pixel. -/
def Inside (r : ℕ) : Prop := (1 ≤ r % 72 / 8 ∧ r % 72 / 8 ≤ 7) ∧ 1 ≤ r % 8

instance (r : ℕ) : Decidable (Inside r) := inferInstanceAs (Decidable (_ ∧ _))

/-- The rows of `A` lay out the images `X`. -/
def Packs {c : ℕ} (A : Mat 1152 c) (X : Img c) : Prop := ∀ (r : Fin 1152) (k : Fin c), A (ix2 r k) = row X r.val k

/-- The rows of `P` lay out the images `X` after sixteen rows of zeros and before sixteen more. -/
def PadPacks {c : ℕ} (P : Mat 1184 c) (X : Img c) : Prop :=
  ∀ (q : Fin 1184) (k : Fin c), P (ix2 q k) = if 16 ≤ q.val then row X (q.val - 16) k else 0

/-- Outside the pixels the layout holds zero. -/
theorem row_outside {c : ℕ} (X : Img c) {r : ℕ} (h : ¬ Inside r) (k : Fin c) : row X r k = 0 := by
  unfold row grid
  refine dif_neg fun g => h ⟨g.2.1, g.2.2.1⟩

/-- At a pixel the layout holds the pixel. -/
theorem row_inside {c : ℕ} (X : Img c) {r : ℕ} (hr : r < 1152) (h : Inside r) (k : Fin c) :
    row X r k = X (ix4 ⟨r / 72, by omega⟩ k ⟨r % 72 / 8 - 1, by have := h.1; omega⟩ ⟨r % 8 - 1, by omega⟩) := by
  unfold row grid
  exact dif_pos ⟨by omega, h.1, h.2, by omega⟩

/-- The row of pixel (`a`, `b`) of image `n`. -/
theorem row_pixel {c : ℕ} (X : Img c) (n : Fin 16) (k : Fin c) (a b : Fin 7) :
    row X (72 * n.val + 8 * (a.val + 1) + (b.val + 1)) k = X (ix4 n k a b) := by
  obtain ⟨n, hn⟩ := n; obtain ⟨a, ha⟩ := a; obtain ⟨b, hb⟩ := b
  have e1 : (72 * n + 8 * (a + 1) + (b + 1)) / 72 = n := by omega
  have e2 : (72 * n + 8 * (a + 1) + (b + 1)) % 72 / 8 = a + 1 := by omega
  have e3 : (72 * n + 8 * (a + 1) + (b + 1)) % 8 = b + 1 := by omega
  unfold row
  rw [e1, e2, e3]
  unfold grid
  exact dif_pos ⟨hn, by omega, by omega⟩

/-- The layout read at the row a tap looks at, from a pixel's row: the bordered image at the tap's place. -/
theorem row_tap {c : ℕ} (X : Img c) {r i j : ℕ} (h : Inside r) (hi : i < 3) (hj : j < 3) (k : Fin c) :
    (if 16 ≤ 7 + 8 * i + j + r then row X (7 + 8 * i + j + r - 16) k else 0)
      = grid X (r / 72) k (r % 72 / 8 - 1 + i) (r % 8 - 1 + j) := by
  obtain ⟨⟨h1, h2⟩, h3⟩ := h
  rw [if_pos (by omega)]
  unfold row
  by_cases hb : r % 8 - 1 + j = 8
  · rw [show grid X (r / 72) k (r % 72 / 8 - 1 + i) (r % 8 - 1 + j) = 0 from dif_neg fun g => by omega]
    exact dif_neg fun g => by omega
  · rw [show (7 + 8 * i + j + r - 16) / 72 = r / 72 by omega,
      show (7 + 8 * i + j + r - 16) % 72 / 8 = r % 72 / 8 - 1 + i by omega,
      show (7 + 8 * i + j + r - 16) % 8 = r % 8 - 1 + j by omega]

/-- The three by three convolution with a border of zeros: the sum over the nine taps of the shifted image's channels
    times the tap's weights, and the bias. -/
def conv3 {ci co : ℕ} (X : Img ci) (W : Fin 9 → Fin co → Fin ci → EReal) (b : Fin co → EReal) : Img co := fun i =>
  (∑ t : Fin 9, ∑ k : Fin ci, grid X (i 0).val k ((i 2).val + t.val / 3) ((i 3).val + t.val % 3) * W t (i 1) k) + b (i 1)

/-- The convolution with one tap. -/
def conv1 {ci co : ℕ} (X : Img ci) (W : Fin co → Fin ci → EReal) (b : Fin co → EReal) : Img co := fun i =>
  (∑ k : Fin ci, X (ix4 (i 0) k (i 2) (i 3)) * W (i 1) k) + b (i 1)

/-- The positive part of the images. -/
def reluI {c : ℕ} (X : Img c) : Img c := fun i => max (X i) 0

/-- A layout multiplied by the mask of the pixels is laid out by images that agree with it at the pixels. -/
theorem packs_masked {c : ℕ} {A : Mat 1152 c} {Y : Img c} (S : Fin 1152 → Fin c → EReal) (M : Fin 1152 → EReal)
    (hM : ∀ r, M r = if Inside r.val then 1 else 0) (hA : ∀ r o, A (ix2 r o) = S r o * M r)
    (hS : ∀ (r : Fin 1152) (h : Inside r.val) (o : Fin c), S r o
      = Y (ix4 ⟨r.val / 72, by omega⟩ o ⟨r.val % 72 / 8 - 1, by have := h.1; omega⟩ ⟨r.val % 8 - 1, by omega⟩)) : Packs A Y := by
  intro r o
  rw [hA, hM]
  by_cases h : Inside r.val
  · rw [if_pos h, mul_one, row_inside Y r.isLt h, hS r h]
  · rw [if_neg h, mul_zero, row_outside Y h]

/-- The nine shifted products over the padded layout, with the bias and the mask, lay out the convolution. -/
theorem packs_conv3 {ci co : ℕ} {P : Mat 1184 ci} {X : Img ci} (hP : PadPacks P X) (W : Fin 9 → Fin co → Fin ci → EReal)
    (b : Fin co → EReal) (M : Fin 1152 → EReal) (hM : ∀ r, M r = if Inside r.val then 1 else 0) {A : Mat 1152 co}
    (hA : ∀ (r : Fin 1152) (o : Fin co), A (ix2 r o)
      = ((∑ t : Fin 9, ∑ k : Fin ci, P (ix2 ⟨7 + 8 * (t.val / 3) + t.val % 3 + r.val, by omega⟩ k) * W t o k) + b o) * M r) :
    Packs A (conv3 X W b) := by
  refine packs_masked _ M hM hA fun r h o => ?_
  unfold conv3
  refine congrArg (· + b o) (Finset.sum_congr rfl fun t _ => Finset.sum_congr rfl fun k _ => ?_)
  refine congrArg (· * W t o k) ?_
  rw [hP]
  exact row_tap X h (by omega) (by omega) k

/-- One product over the layout, with the bias and the mask, lays out the one-tap convolution. -/
theorem packs_conv1 {ci co : ℕ} {Q : Mat 1152 ci} {X : Img ci} (hQ : Packs Q X) (W : Fin co → Fin ci → EReal)
    (b : Fin co → EReal) (M : Fin 1152 → EReal) (hM : ∀ r, M r = if Inside r.val then 1 else 0) {A : Mat 1152 co}
    (hA : ∀ (r : Fin 1152) (o : Fin co), A (ix2 r o) = ((∑ k : Fin ci, Q (ix2 r k) * W o k) + b o) * M r) :
    Packs A (conv1 X W b) := by
  refine packs_masked _ M hM hA fun r h o => ?_
  unfold conv1
  refine congrArg (· + b o) (Finset.sum_congr rfl fun k _ => ?_)
  rw [hQ, row_inside X r.isLt h]
  rfl

/-- Layouts combine entry by entry as the images do, when zeros combine to zero. -/
theorem packs_map2 {c : ℕ} {A B C : Mat 1152 c} {X Y : Img c} (f : EReal → EReal → EReal) (h0 : f 0 0 = 0)
    (hA : Packs A X) (hB : Packs B Y) (hC : ∀ i, C i = f (A i) (B i)) : Packs C fun i => f (X i) (Y i) := by
  intro r k
  rw [hC, hA, hB]
  by_cases h : Inside r.val
  · rw [row_inside _ r.isLt h, row_inside _ r.isLt h, row_inside _ r.isLt h]
  · rw [row_outside _ h, row_outside _ h, row_outside _ h, h0]

/-- The positive part of a layout lays out the images' positive part. -/
theorem packs_relu {c : ℕ} {A C : Mat 1152 c} {X : Img c} (hA : Packs A X) (hC : ∀ i, C i = max (A i) 0) :
    Packs C (reluI X) :=
  packs_map2 (fun a _ => max a 0) (max_self 0) hA hA hC

/-- A layout between sixteen rows of zeros and sixteen more is the padded layout. -/
theorem padPacks_of {c : ℕ} {A : Mat 1152 c} {P : Mat 1184 c} {X : Img c} (hA : Packs A X)
    (hlo : ∀ (q : Fin 1184) k, q.val < 16 → P (ix2 q k) = 0)
    (hmid : ∀ (r : Fin 1152) k, P (ix2 ⟨16 + r.val, by omega⟩ k) = A (ix2 r k))
    (hhi : ∀ (q : Fin 1184) k, 1168 ≤ q.val → P (ix2 q k) = 0) : PadPacks P X := by
  intro q k
  by_cases h1 : 16 ≤ q.val
  · rw [if_pos h1]
    by_cases h2 : q.val < 1168
    · have e := hmid ⟨q.val - 16, by omega⟩ k
      rw [hA] at e
      rw [← e]
      exact congrArg (fun z => P (ix2 z k)) (Fin.ext (by show q.val = 16 + (q.val - 16); omega))
    · rw [hhi q k (by omega)]
      unfold row grid
      rw [dif_neg fun g => by omega]
  · rw [if_neg h1, hlo q k (by omega)]

end Cert.Vq

end
-- ==== Proof.Ops.lean ====
/- The kernel's vector operations on the row layout, read as the convolutions of Grid.lean. -/
module

public import proofs.«01_k».proof.Proof.Grid

@[expose] public section

noncomputable section

namespace Cert.Vq

open Idealize.ShloMosaic Idealize.ShloMosaic.ValueIdx
open scoped BigOperators

/-- A window of 1152 rows fits the padded layout. -/
theorem slices_rows {c : ℕ} (o : ℕ) (ho : o ≤ 32) :
    (⟨2, ![1184, c]⟩ : Shape).Slices ![o, 0] ⟨2, ![1152, c]⟩ :=
  ⟨rfl, fun a => match a with
    | ⟨0, _⟩ => by show o + 1152 ≤ 1184; omega
    | ⟨1, _⟩ => by show 0 + c ≤ c; omega⟩

/-- One tap's product: the window of the padded layout from row `o`, times the transposed weights. -/
abbrev tapT {ci co : ℕ} (o : ℕ) (ho : o ≤ 32) (P : Mat 1184 ci) (w : Mat co ci) : Mat 1152 co :=
  matmul (F := Ideal) (φ₁ := .bf16) (φ₂ := .bf16) (DotDims.transposedRhs 1152 ci co) none
    (extractStridedSlice ⟨2, ![1152, ci]⟩ ![o, 0] P (slices_rows o ho)) w (constant _ .f32 0x00000000#32)

/-- The same with the weights not transposed. -/
abbrev tapN {ci co : ℕ} (o : ℕ) (ho : o ≤ 32) (P : Mat 1184 ci) (w : Mat ci co) : Mat 1152 co :=
  matmul (F := Ideal) (φ₁ := .bf16) (φ₂ := .bf16) (DotDims.plain 1152 ci co) none
    (extractStridedSlice ⟨2, ![1152, ci]⟩ ![o, 0] P (slices_rows o ho)) w (constant _ .f32 0x00000000#32)

/-- A window read at a row. -/
theorem window_apply {c : ℕ} (o : ℕ) (ho : o ≤ 32) (P : Mat 1184 c) (r : Fin 1152) (k : Fin c) :
    extractStridedSlice ⟨2, ![1152, c]⟩ ![o, 0] P (slices_rows o ho) (ix2 r k) = P (ix2 ⟨o + r.val, by omega⟩ k) :=
  extractStridedSlice_apply ![o, 0] P (slices_rows o ho) (ix2 r k) (ix2 ⟨o + r.val, by omega⟩ k) fun a => match a with
    | ⟨0, _⟩ => rfl
    | ⟨1, _⟩ => (Nat.zero_add _).symm

/-- A tap's product at an entry. -/
theorem tapT_apply {ci co : ℕ} (o : ℕ) (ho : o ≤ 32) (P : Mat 1184 ci) (w : Mat co ci) (r : Fin 1152) (c : Fin co) :
    tapT o ho P w (ix2 r c) = ∑ k : Fin ci, P (ix2 ⟨o + r.val, by omega⟩ k) * w (ix2 c k) := by
  refine (Ideal.matmul_transposedRhs_apply (φ₁ := .bf16) (φ₂ := .bf16) none _ w _ r c).trans ?_
  rw [show (constant ⟨2, ![1152, co]⟩ .f32 0x00000000#32 : FVec Ideal _ .f32) (ix2 r c) = 0 from Ideal.ofBits_zero_f32, zero_add]
  exact Finset.sum_congr rfl fun k _ => by rw [window_apply o ho]

/-- The same with the weights not transposed. -/
theorem tapN_apply {ci co : ℕ} (o : ℕ) (ho : o ≤ 32) (P : Mat 1184 ci) (w : Mat ci co) (r : Fin 1152) (c : Fin co) :
    tapN o ho P w (ix2 r c) = ∑ k : Fin ci, P (ix2 ⟨o + r.val, by omega⟩ k) * w (ix2 k c) := by
  refine (Ideal.matmul_plain_apply (φ₁ := .bf16) (φ₂ := .bf16) none _ w _ r c).trans ?_
  rw [show (constant ⟨2, ![1152, co]⟩ .f32 0x00000000#32 : FVec Ideal _ .f32) (ix2 r c) = 0 from Ideal.ofBits_zero_f32, zero_add]
  exact Finset.sum_congr rfl fun k _ => by rw [window_apply o ho]

/-- A row of biases spreads over the rows. -/
theorem broadcasts_bias (n : ℕ) : (⟨2, ![1, n]⟩ : Shape).Broadcasts ⟨2, ![1152, n]⟩ :=
  ⟨le_refl 2, fun a => match a with
    | ⟨0, _⟩ => Or.inl rfl
    | ⟨1, _⟩ => Or.inr fun _ => rfl⟩

/-- A column of the mask spreads over the columns. -/
theorem broadcasts_mask (n : ℕ) : (⟨2, ![1152, 1]⟩ : Shape).Broadcasts ⟨2, ![1152, n]⟩ :=
  ⟨le_refl 2, fun a => match a with
    | ⟨0, _⟩ => Or.inr fun _ => rfl
    | ⟨1, _⟩ => Or.inl rfl⟩

/-- The bias, then the mask. -/
abbrev finish {n : ℕ} (S : Mat 1152 n) (b : Mat 1 n) (m : Mat 1152 1) : Mat 1152 n :=
  mulf (F := Ideal) (φ := .f32) (addf (F := Ideal) (φ := .f32) S (broadcastTo _ b (broadcasts_bias n)))
    (broadcastTo _ m (broadcasts_mask n))

/-- The bias and the mask at an entry. -/
theorem finish_apply {n : ℕ} (S : Mat 1152 n) (b : Mat 1 n) (m : Mat 1152 1) (r : Fin 1152) (c : Fin n) :
    finish S b m (ix2 r c) = (S (ix2 r c) + b (ix2 0 c)) * m (ix2 r 0) := by
  have e1 : broadcastTo ⟨2, ![1152, n]⟩ b (broadcasts_bias n) (ix2 r c) = b (ix2 0 c) :=
    broadcastTo_apply b (broadcasts_bias n) (ix2 r c) (ix2 0 c) fun a => match a with
      | ⟨0, _⟩ => rfl
      | ⟨1, _⟩ => by
          show c.val = if n = 1 then 0 else c.val
          split
          · have := c.isLt; omega
          · rfl
  have e2 : broadcastTo ⟨2, ![1152, n]⟩ m (broadcasts_mask n) (ix2 r c) = m (ix2 r 0) :=
    broadcastTo_apply m (broadcasts_mask n) (ix2 r c) (ix2 r 0) fun a => match a with
      | ⟨0, _⟩ => rfl
      | ⟨1, _⟩ => rfl
  show (S (ix2 r c) + broadcastTo ⟨2, ![1152, n]⟩ b (broadcasts_bias n) (ix2 r c)) * broadcastTo ⟨2, ![1152, n]⟩ m (broadcasts_mask n) (ix2 r c) = _
  rw [e1, e2]

/-- Nine summands added from the left. -/
theorem sum_nine (f : Fin 9 → EReal) : ∑ t : Fin 9, f t = f 0 + f 1 + f 2 + f 3 + f 4 + f 5 + f 6 + f 7 + f 8 := by
  rw [Fin.sum_univ_castSucc, Fin.sum_univ_eight]
  rfl

/-- The kernel's convolution with transposed weights. -/
abbrev convT {ci co : ℕ} (P : Mat 1184 ci) (w : Fin 9 → Mat co ci) (b : Mat 1 co) (m : Mat 1152 1) : Mat 1152 co :=
  finish (addf (F := Ideal) (φ := .f32) (addf (F := Ideal) (φ := .f32) (addf (F := Ideal) (φ := .f32)
    (addf (F := Ideal) (φ := .f32) (addf (F := Ideal) (φ := .f32) (addf (F := Ideal) (φ := .f32)
    (addf (F := Ideal) (φ := .f32) (addf (F := Ideal) (φ := .f32)
      (tapT 7 (by omega) P (w 0)) (tapT 8 (by omega) P (w 1))) (tapT 9 (by omega) P (w 2)))
      (tapT 15 (by omega) P (w 3))) (tapT 16 (by omega) P (w 4))) (tapT 17 (by omega) P (w 5)))
      (tapT 23 (by omega) P (w 6))) (tapT 24 (by omega) P (w 7))) (tapT 25 (by omega) P (w 8))) b m

/-- The kernel's convolution with the weights not transposed. -/
abbrev convN {ci co : ℕ} (P : Mat 1184 ci) (w : Fin 9 → Mat ci co) (b : Mat 1 co) (m : Mat 1152 1) : Mat 1152 co :=
  finish (addf (F := Ideal) (φ := .f32) (addf (F := Ideal) (φ := .f32) (addf (F := Ideal) (φ := .f32)
    (addf (F := Ideal) (φ := .f32) (addf (F := Ideal) (φ := .f32) (addf (F := Ideal) (φ := .f32)
    (addf (F := Ideal) (φ := .f32) (addf (F := Ideal) (φ := .f32)
      (tapN 7 (by omega) P (w 0)) (tapN 8 (by omega) P (w 1))) (tapN 9 (by omega) P (w 2)))
      (tapN 15 (by omega) P (w 3))) (tapN 16 (by omega) P (w 4))) (tapN 17 (by omega) P (w 5)))
      (tapN 23 (by omega) P (w 6))) (tapN 24 (by omega) P (w 7))) (tapN 25 (by omega) P (w 8))) b m

/-- The mask column is one at the pixels' rows and zero elsewhere. -/
def IsMask (m : Mat 1152 1) : Prop := ∀ r : Fin 1152, m (ix2 r 0) = if Inside r.val then 1 else 0

/-- The kernel's convolution of a padded layout lays out the convolution. -/
theorem packs_convT {ci co : ℕ} {P : Mat 1184 ci} {X : Img ci} (hP : PadPacks P X) (w : Fin 9 → Mat co ci)
    (b : Mat 1 co) (m : Mat 1152 1) (hm : IsMask m) :
    Packs (convT P w b m) (conv3 X (fun t o k => w t (ix2 o k)) fun o => b (ix2 0 o)) := by
  refine packs_conv3 hP _ _ (fun r => m (ix2 r 0)) hm fun r o => ?_
  refine (finish_apply _ b m r o).trans ?_
  rw [sum_nine]
  refine congrArg (fun z => (z + b (ix2 0 o)) * m (ix2 r 0)) ?_
  refine congrArg₂ (· + ·) (congrArg₂ (· + ·) (congrArg₂ (· + ·) (congrArg₂ (· + ·) (congrArg₂ (· + ·)
    (congrArg₂ (· + ·) (congrArg₂ (· + ·) (congrArg₂ (· + ·) ?_ ?_) ?_) ?_) ?_) ?_) ?_) ?_) ?_ <;>
  exact tapT_apply _ _ P _ r o

/-- The same with the weights not transposed. -/
theorem packs_convN {ci co : ℕ} {P : Mat 1184 ci} {X : Img ci} (hP : PadPacks P X) (w : Fin 9 → Mat ci co)
    (b : Mat 1 co) (m : Mat 1152 1) (hm : IsMask m) :
    Packs (convN P w b m) (conv3 X (fun t o k => w t (ix2 k o)) fun o => b (ix2 0 o)) := by
  refine packs_conv3 hP _ _ (fun r => m (ix2 r 0)) hm fun r o => ?_
  refine (finish_apply _ b m r o).trans ?_
  rw [sum_nine]
  refine congrArg (fun z => (z + b (ix2 0 o)) * m (ix2 r 0)) ?_
  refine congrArg₂ (· + ·) (congrArg₂ (· + ·) (congrArg₂ (· + ·) (congrArg₂ (· + ·) (congrArg₂ (· + ·)
    (congrArg₂ (· + ·) (congrArg₂ (· + ·) (congrArg₂ (· + ·) ?_ ?_) ?_) ?_) ?_) ?_) ?_) ?_) ?_ <;>
  exact tapN_apply _ _ P _ r o

/-- The kernel's product with one tap's weights, its bias and its mask. -/
abbrev conv1T {ci co : ℕ} (Q : Mat 1152 ci) (w : Mat co ci) (b : Mat 1 co) (m : Mat 1152 1) : Mat 1152 co :=
  finish (matmul (F := Ideal) (φ₁ := .bf16) (φ₂ := .bf16) (DotDims.transposedRhs 1152 ci co) none Q w (constant _ .f32 0x00000000#32)) b m

/-- It lays out the one-tap convolution. -/
theorem packs_conv1T {ci co : ℕ} {Q : Mat 1152 ci} {X : Img ci} (hQ : Packs Q X) (w : Mat co ci)
    (b : Mat 1 co) (m : Mat 1152 1) (hm : IsMask m) :
    Packs (conv1T Q w b m) (conv1 X (fun o k => w (ix2 o k)) fun o => b (ix2 0 o)) := by
  refine packs_conv1 hQ _ _ (fun r => m (ix2 r 0)) hm fun r o => ?_
  refine (finish_apply _ b m r o).trans ?_
  refine congrArg (fun z => (z + b (ix2 0 o)) * m (ix2 r 0)) ?_
  refine (Ideal.matmul_transposedRhs_apply (φ₁ := .bf16) (φ₂ := .bf16) none Q w _ r o).trans ?_
  rw [show (constant ⟨2, ![1152, co]⟩ .f32 0x00000000#32 : FVec Ideal _ .f32) (ix2 r o) = 0 from Ideal.ofBits_zero_f32, zero_add]

/-- The kernel's positive part, rounded on its way to the products. -/
abbrev reluT {n : ℕ} (A : Mat 1152 n) : Mat 1152 n :=
  truncf (F := Ideal) (φ := .f32) .bf16 (maximumf (F := Ideal) (φ := .f32) A (broadcast _ (Scalar.ofBits .f32 0x00000000#32)))
    (by decide)

/-- It lays out the positive part. -/
theorem packs_reluT {n : ℕ} {A : Mat 1152 n} {X : Img n} (hA : Packs A X) : Packs (reluT A) (reluI X) :=
  packs_relu hA fun i => congrArg (max (A i)) Ideal.ofBits_zero_f32

/-- The three pieces of a padded layout tile its rows. -/
theorem concatenates_pad (n : ℕ) :
    Shape.Concatenates [⟨2, ![16, n]⟩, ⟨2, ![1152, n]⟩, ⟨2, ![16, n]⟩] ⟨2, ![1184, n]⟩ 0 :=
  ⟨by show 2 ≤ 3; omega, fun s hs => by
    have : s = ⟨2, ![16, n]⟩ ∨ s = ⟨2, ![1152, n]⟩ := by
      simp only [List.mem_cons, List.not_mem_nil, or_false] at hs; tauto
    rcases this with rfl | rfl <;>
    exact ⟨rfl, fun b hb => match b with
      | ⟨0, _⟩ => absurd rfl hb
      | ⟨1, _⟩ => rfl⟩, rfl⟩

/-- The pieces of a padded layout: sixteen rows of zeros, the layout, sixteen rows of zeros. -/
abbrev padPieces {n : ℕ} (A : Mat 1152 n) : List ((s : Shape) × (s.Idx → EReal)) :=
  [⟨⟨2, ![16, n]⟩, broadcast _ (Scalar.ofBits (F := Ideal) .bf16 0x0000#16)⟩, ⟨⟨2, ![1152, n]⟩, A⟩,
    ⟨⟨2, ![16, n]⟩, broadcast _ (Scalar.ofBits (F := Ideal) .bf16 0x0000#16)⟩]

/-- A layout set between sixteen rows of zeros on either side. -/
abbrev repad {n : ℕ} (A : Mat 1152 n) : Mat 1184 n :=
  concatenate ⟨2, ![1184, n]⟩ 0 (padPieces A) (concatenates_pad n)

/-- The zero word is the number zero. -/
theorem ofBits_zero_bf16 : Ideal.ofBits .bf16 0x0000#16 = 0 := by simp [Ideal.ofBits, Ideal.ieee]

/-- It is the padded layout. -/
theorem padPacks_repad {n : ℕ} {A : Mat 1152 n} {X : Img n} (hA : Packs A X) : PadPacks (repad A) X := by
  have go := concatenate_apply_piece (t := ⟨2, ![1184, n]⟩) 0 (padPieces A) (concatenates_pad n)
  refine padPacks_of hA (fun q k hq => ?_) (fun r k => ?_) fun q k hq => ?_
  · exact (go (ix2 q k) 0 (by show 0 < 3; omega) ⟨2, ![16, n]⟩ _ rfl rfl 0 rfl
      (ix2 ⟨q.val, hq⟩ k) (fun b hb => match b with
        | ⟨0, _⟩ => absurd rfl hb
        | ⟨1, _⟩ => rfl) (Nat.zero_add _)).trans ofBits_zero_bf16
  · exact go (ix2 ⟨16 + r.val, by omega⟩ k) 1 (by show 1 < 3; omega) ⟨2, ![1152, n]⟩ _ rfl rfl 16 rfl
      (ix2 r k) (fun b hb => match b with
        | ⟨0, _⟩ => absurd rfl hb
        | ⟨1, _⟩ => rfl) rfl
  · exact (go (ix2 q k) 2 (by show 2 < 3; omega) ⟨2, ![16, n]⟩ _ rfl rfl 1168 rfl
      (ix2 ⟨q.val - 1168, by omega⟩ k) (fun b hb => match b with
        | ⟨0, _⟩ => absurd rfl hb
        | ⟨1, _⟩ => rfl) (by show 1168 + (q.val - 1168) = q.val; omega)).trans ofBits_zero_bf16

end Cert.Vq

end
-- ==== Proof.Conv.lean ====
/- The reference's operations on images, read as the convolutions of Grid.lean. -/
module

public import proofs.«01_k».proof.Proof.Ops
public import proofs.«01_k».proof.Proof.Gen.ReferenceIdeal.Read
public import Idealize.ShloMosaic.Lib.KernelVsHost

@[expose] public section

noncomputable section

namespace Cert.Vq

open Idealize.ShloMosaic Idealize.ShloMosaic.ValueIdx
open scoped BigOperators

/-- The images with their border, as the reference pads them. -/
abbrev Bord (c : ℕ) := (⟨4, ![16, c, 9, 9]⟩ : Shape).Idx → EReal
/-- A convolution's weights: output channel, input channel, tap's row and column. -/
abbrev Wts (co ci : ℕ) := (⟨4, ![co, ci, 3, 3]⟩ : Shape).Idx → EReal
/-- The weights of tap `t`. -/
def wt {co ci : ℕ} (W : Wts co ci) (t : Fin 9) (o : Fin co) (k : Fin ci) : EReal :=
  W (ix4 o k ⟨t.val / 3, by omega⟩ ⟨t.val % 3, by omega⟩)

/-- A product over the channels, output channel first. -/
abbrev Dot (co ci : ℕ) := Mat co ci → Img ci → (⟨4, ![co, 16, 7, 7]⟩ : Shape).Idx → EReal
/-- What the product is at an entry. -/
def IsDot {co ci : ℕ} (dot : Dot co ci) : Prop := ∀ w x o n a b,
  dot w x (ix4 o n a b) = ∑ k : Fin ci, w (ix2 o k) * x (ix4 n k a b)

/-- A shifted window fits the bordered images. -/
theorem slices_image (c : ℕ) (t : Fin 9) :
    (⟨4, ![16, c, 9, 9]⟩ : Shape).Slices ![0, 0, t.val / 3, t.val % 3] ⟨4, ![16, c, 7, 7]⟩ :=
  ⟨rfl, fun a => match a with
    | ⟨0, _⟩ => by show 0 + 16 ≤ 16; omega
    | ⟨1, _⟩ => by show 0 + c ≤ c; omega
    | ⟨2, _⟩ => by show t.val / 3 + 7 ≤ 9; omega
    | ⟨3, _⟩ => by show t.val % 3 + 7 ≤ 9; omega⟩

/-- One tap fits the weights. -/
theorem slices_weights (co ci : ℕ) (t : Fin 9) :
    (⟨4, ![co, ci, 3, 3]⟩ : Shape).Slices ![0, 0, t.val / 3, t.val % 3] ⟨4, ![co, ci, 1, 1]⟩ :=
  ⟨rfl, fun a => match a with
    | ⟨0, _⟩ => by show 0 + co ≤ co; omega
    | ⟨1, _⟩ => by show 0 + ci ≤ ci; omega
    | ⟨2, _⟩ => by show t.val / 3 + 1 ≤ 3; omega
    | ⟨3, _⟩ => by show t.val % 3 + 1 ≤ 3; omega⟩

/-- A stack of one by one taps read as a matrix. -/
theorem flat_apply {co ci : ℕ} (w : (⟨4, ![co, ci, 1, 1]⟩ : Shape).Idx → EReal)
    (h : (⟨4, ![co, ci, 1, 1]⟩ : Shape).ShapeCasts ⟨2, ![co, ci]⟩) (o : Fin co) (k : Fin ci) :
    shapeCast ⟨2, ![co, ci]⟩ w h (ix2 o k) = w (ix4 o k 0 0) :=
  shapeCast_apply w h _ _ (by
    rw [Shape.rowMajor_val_four, Shape.rowMajor_val_two]
    show ((o.val * ci + k.val) * 1 + 0) * 1 + 0 = o.val * ci + k.val
    omega)

/-- Output channels moved behind the images. -/
theorem swap_apply {c : ℕ} (y : (⟨4, ![c, 16, 7, 7]⟩ : Shape).Idx → EReal)
    (h : (⟨4, ![c, 16, 7, 7]⟩ : Shape).Transposes [1, 0, 2, 3] ⟨4, ![16, c, 7, 7]⟩) (n : Fin 16) (o : Fin c) (a b : Fin 7) :
    transpose ⟨4, ![16, c, 7, 7]⟩ [1, 0, 2, 3] y h (ix4 n o a b) = y (ix4 o n a b) :=
  transpose_apply [1, 0, 2, 3] y h _ _ fun e => match e with
    | ⟨0, _⟩ => rfl
    | ⟨1, _⟩ => rfl
    | ⟨2, _⟩ => rfl
    | ⟨3, _⟩ => rfl

section
variable {co ci : ℕ} (dot : Dot co ci) (hc : (⟨4, ![co, ci, 1, 1]⟩ : Shape).ShapeCasts ⟨2, ![co, ci]⟩)
  (ht : (⟨4, ![co, 16, 7, 7]⟩ : Shape).Transposes [1, 0, 2, 3] ⟨4, ![16, co, 7, 7]⟩)

/-- The reference's product of tap `t`. -/
abbrev tapV (P : Bord ci) (W : Wts co ci) (t : Fin 9) : Img co :=
  transpose ⟨4, ![16, co, 7, 7]⟩ [1, 0, 2, 3] (dot
    (shapeCast ⟨2, ![co, ci]⟩ (extractStridedSlice ⟨4, ![co, ci, 1, 1]⟩ ![0, 0, t.val / 3, t.val % 3] W (slices_weights co ci t)) hc)
    (extractStridedSlice ⟨4, ![16, ci, 7, 7]⟩ ![0, 0, t.val / 3, t.val % 3] P (slices_image ci t))) ht

/-- The reference's convolution with nine taps, added to `Z`, the bias `B` spread. -/
abbrev convV (Z B : Img co) (P : Bord ci) (W : Wts co ci) : Img co :=
  addf (F := Ideal) (φ := .f32) (addf (F := Ideal) (φ := .f32) (addf (F := Ideal) (φ := .f32) (addf (F := Ideal) (φ := .f32)
    (addf (F := Ideal) (φ := .f32) (addf (F := Ideal) (φ := .f32) (addf (F := Ideal) (φ := .f32) (addf (F := Ideal) (φ := .f32)
      (addf (F := Ideal) (φ := .f32) (addf (F := Ideal) (φ := .f32) Z (tapV dot hc ht P W 0)) (tapV dot hc ht P W 1))
      (tapV dot hc ht P W 2)) (tapV dot hc ht P W 3)) (tapV dot hc ht P W 4)) (tapV dot hc ht P W 5)) (tapV dot hc ht P W 6))
      (tapV dot hc ht P W 7)) (tapV dot hc ht P W 8)) B

/-- The reference's convolution with one tap, added to `Z`, the bias `B` spread. -/
abbrev pointV (Z B : Img co) (X : Img ci) (W : (⟨4, ![co, ci, 1, 1]⟩ : Shape).Idx → EReal) : Img co :=
  addf (F := Ideal) (φ := .f32) (addf (F := Ideal) (φ := .f32) Z
    (transpose ⟨4, ![16, co, 7, 7]⟩ [1, 0, 2, 3] (dot (shapeCast ⟨2, ![co, ci]⟩ W hc) X) ht)) B

variable {dot}

/-- A tap's product at an entry. -/
theorem tapV_apply (hdot : IsDot dot) (P : Bord ci) (X : Img ci) (hP : ∀ n k a b, P (ix4 n k a b) = grid X n.val k a.val b.val)
    (W : Wts co ci) (t : Fin 9) (n : Fin 16) (o : Fin co) (a b : Fin 7) : tapV dot hc ht P W t (ix4 n o a b)
      = ∑ k : Fin ci, grid X n.val k (a.val + t.val / 3) (b.val + t.val % 3) * wt W t o k := by
  refine (swap_apply _ ht n o a b).trans ((hdot _ _ _ _ _ _).trans (Finset.sum_congr rfl fun k _ => ?_))
  rw [flat_apply, mul_comm]
  refine congrArg₂ (· * ·) ?_ ?_
  · refine (extractStridedSlice_apply _ P _ _ (ix4 n k ⟨a.val + t.val / 3, by omega⟩ ⟨b.val + t.val % 3, by omega⟩) fun e => ?_).trans (hP _ _ _ _)
    match e with
    | ⟨0, _⟩ => show n.val = 0 + n.val; omega
    | ⟨1, _⟩ => show k.val = 0 + k.val; omega
    | ⟨2, _⟩ => show a.val + t.val / 3 = t.val / 3 + a.val; omega
    | ⟨3, _⟩ => show b.val + t.val % 3 = t.val % 3 + b.val; omega
  · refine extractStridedSlice_apply _ W _ _ _ fun e => ?_
    match e with
    | ⟨0, _⟩ => show o.val = 0 + o.val; omega
    | ⟨1, _⟩ => show k.val = 0 + k.val; omega
    | ⟨2, _⟩ => rfl
    | ⟨3, _⟩ => rfl

/-- The reference's convolution with nine taps is the convolution. -/
theorem convV_eq (hdot : IsDot dot) (Z B : Img co) (hZ : ∀ i, Z i = 0) (b : Fin co → EReal) (hB : ∀ n o x y, B (ix4 n o x y) = b o)
    (P : Bord ci) (X : Img ci) (hP : ∀ n k a b, P (ix4 n k a b) = grid X n.val k a.val b.val) (W : Wts co ci) :
    convV dot hc ht Z B P W = conv3 X (wt W) b := by
  funext i
  obtain ⟨n, o, x, y, rfl⟩ : ∃ n o x y, i = ix4 n o x y := ⟨_, _, _, _, eq_ix4 i⟩
  unfold conv3
  rw [sum_nine]
  have h := fun t => tapV_apply hc ht hdot P X hP W t n o x y
  show Z (ix4 n o x y) + tapV dot hc ht P W 0 (ix4 n o x y) + tapV dot hc ht P W 1 (ix4 n o x y) + tapV dot hc ht P W 2 (ix4 n o x y)
    + tapV dot hc ht P W 3 (ix4 n o x y) + tapV dot hc ht P W 4 (ix4 n o x y) + tapV dot hc ht P W 5 (ix4 n o x y)
    + tapV dot hc ht P W 6 (ix4 n o x y) + tapV dot hc ht P W 7 (ix4 n o x y) + tapV dot hc ht P W 8 (ix4 n o x y) + B (ix4 n o x y) = _
  rw [hZ, zero_add, hB, h 0, h 1, h 2, h 3, h 4, h 5, h 6, h 7, h 8]
  rfl

/-- The reference's convolution with one tap is the convolution. -/
theorem pointV_eq (hdot : IsDot dot) (Z B : Img co) (hZ : ∀ i, Z i = 0) (b : Fin co → EReal) (hB : ∀ n o x y, B (ix4 n o x y) = b o)
    (X : Img ci) (W : (⟨4, ![co, ci, 1, 1]⟩ : Shape).Idx → EReal) :
    pointV dot hc ht Z B X W = conv1 X (fun o k => W (ix4 o k 0 0)) b := by
  funext i
  obtain ⟨n, o, x, y, rfl⟩ : ∃ n o x y, i = ix4 n o x y := ⟨_, _, _, _, eq_ix4 i⟩
  show Z (ix4 n o x y) + transpose ⟨4, ![16, co, 7, 7]⟩ [1, 0, 2, 3] _ ht (ix4 n o x y) + B (ix4 n o x y) = _
  rw [hZ, zero_add, hB, swap_apply, hdot]
  refine congrArg (· + b o) (Finset.sum_congr rfl fun k _ => ?_)
  rw [flat_apply, mul_comm]
  rfl

end

/-- The bordered images at an entry. -/
theorem border_apply {c : ℕ} (X : Img c) {u : Shape} (v : u.Idx → EReal) (hu : 0 < u.numel) (hv : ∀ i, v i = 0)
    (h : (⟨4, ![16, c, 7, 7]⟩ : Shape).Pads ![0, 0, 1, 1] ![0, 0, 1, 1] ![0, 0, 0, 0] ⟨4, ![16, c, 9, 9]⟩) (n : Fin 16) (k : Fin c)
    (a b : Fin 9) : pad ⟨4, ![16, c, 9, 9]⟩ ![0, 0, 1, 1] ![0, 0, 1, 1] ![0, 0, 0, 0] X v h hu (ix4 n k a b) = grid X n.val k a.val b.val := by
  unfold grid
  by_cases ha : 1 ≤ a.val ∧ a.val ≤ 7
  · by_cases hb : 1 ≤ b.val ∧ b.val ≤ 7
    · rw [dif_pos ⟨n.isLt, ha, hb⟩]
      refine pad_apply_of_inside _ _ _ X v h hu _ _ fun e => ?_
      match e with
      | ⟨0, _⟩ => show n.val = 0 + n.val * 1; omega
      | ⟨1, _⟩ => show k.val = 0 + k.val * 1; omega
      | ⟨2, _⟩ => show a.val = 1 + (a.val - 1) * 1; omega
      | ⟨3, _⟩ => show b.val = 1 + (b.val - 1) * 1; omega
    · rw [dif_neg fun g => hb g.2.2]
      refine (pad_apply_of_not_inside _ _ _ X v h hu _ (3 : Fin 4) ?_).trans (hv _)
      show ¬(1 ≤ b.val ∧ (b.val - 1) % 1 = 0 ∧ (b.val - 1) / 1 < 7)
      omega
  · rw [dif_neg fun g => ha g.2.1]
    refine (pad_apply_of_not_inside _ _ _ X v h hu _ (2 : Fin 4) ?_).trans (hv _)
    show ¬(1 ≤ a.val ∧ (a.val - 1) % 1 = 0 ∧ (a.val - 1) / 1 < 7)
    omega

/-- A border of no width leaves the images as they are. -/
theorem border_none {c : ℕ} (X : Img c) {u : Shape} (v : u.Idx → EReal) (hu : 0 < u.numel)
    (h : (⟨4, ![16, c, 7, 7]⟩ : Shape).Pads ![0, 0, 0, 0] ![0, 0, 0, 0] ![0, 0, 0, 0] ⟨4, ![16, c, 7, 7]⟩) :
    pad ⟨4, ![16, c, 7, 7]⟩ ![0, 0, 0, 0] ![0, 0, 0, 0] ![0, 0, 0, 0] X v h hu = X := by
  funext i
  refine pad_apply_of_inside _ _ _ X v h hu _ _ fun e => ?_
  match e with
  | ⟨0, _⟩ => show (i 0).val = 0 + (i 0).val * 1; omega
  | ⟨1, _⟩ => show (i 1).val = 0 + (i 1).val * 1; omega
  | ⟨2, _⟩ => show (i 2).val = 0 + (i 2).val * 1; omega
  | ⟨3, _⟩ => show (i 3).val = 0 + (i 3).val * 1; omega

/-- A row of channels spread over the images. -/
theorem spread_apply {c : ℕ} (x : (⟨1, ![c]⟩ : Shape).Idx → EReal) (hc1 : c ≠ 1)
    (h1 : (⟨1, ![c]⟩ : Shape).BroadcastsInDim ⟨4, ![1, c, 1, 1]⟩ ![1])
    (h2 : (⟨4, ![1, c, 1, 1]⟩ : Shape).BroadcastsInDim ⟨4, ![16, c, 7, 7]⟩ ![0, 1, 2, 3]) (n : Fin 16) (o : Fin c) (a b : Fin 7) :
    broadcastInDim ⟨4, ![16, c, 7, 7]⟩ ![0, 1, 2, 3] h2 (broadcastInDim ⟨4, ![1, c, 1, 1]⟩ ![1] h1 x) (ix4 n o a b) = x (ix1 o) := by
  refine (broadcastInDim_apply _ h2 _ _ (ix4 0 o 0 0) fun e => ?_).trans (broadcastInDim_apply _ h1 x _ (ix1 o) fun e => ?_)
  · match e with
    | ⟨0, _⟩ => show 0 = if (1 : ℕ) = 1 then 0 else n.val; rw [if_pos rfl]
    | ⟨1, _⟩ => show o.val = if c = 1 then 0 else o.val; rw [if_neg hc1]
    | ⟨2, _⟩ => show 0 = if (1 : ℕ) = 1 then 0 else a.val; rw [if_pos rfl]
    | ⟨3, _⟩ => show 0 = if (1 : ℕ) = 1 then 0 else b.val; rw [if_pos rfl]
  · match e with
    | ⟨0, _⟩ => show o.val = if c = 1 then 0 else o.val; rw [if_neg hc1]

/-- A padded image's convolution, in the reference's operations, is the convolution. -/
theorem convR {co ci : ℕ} {dot : Dot co ci} (hdot : IsDot dot) (hc : (⟨4, ![co, ci, 1, 1]⟩ : Shape).ShapeCasts ⟨2, ![co, ci]⟩)
    (ht : (⟨4, ![co, 16, 7, 7]⟩ : Shape).Transposes [1, 0, 2, 3] ⟨4, ![16, co, 7, 7]⟩) (Z : Img co) (hZ : ∀ i, Z i = 0)
    (x : (⟨1, ![co]⟩ : Shape).Idx → EReal) (hco : co ≠ 1)
    (h1 : (⟨1, ![co]⟩ : Shape).BroadcastsInDim ⟨4, ![1, co, 1, 1]⟩ ![1])
    (h2 : (⟨4, ![1, co, 1, 1]⟩ : Shape).BroadcastsInDim ⟨4, ![16, co, 7, 7]⟩ ![0, 1, 2, 3])
    (X : Img ci) {u : Shape} (v : u.Idx → EReal) (hu : 0 < u.numel) (hv : ∀ i, v i = 0)
    (h : (⟨4, ![16, ci, 7, 7]⟩ : Shape).Pads ![0, 0, 1, 1] ![0, 0, 1, 1] ![0, 0, 0, 0] ⟨4, ![16, ci, 9, 9]⟩) (W : Wts co ci) :
    convV dot hc ht Z (broadcastInDim ⟨4, ![16, co, 7, 7]⟩ ![0, 1, 2, 3] h2 (broadcastInDim ⟨4, ![1, co, 1, 1]⟩ ![1] h1 x))
      (pad ⟨4, ![16, ci, 9, 9]⟩ ![0, 0, 1, 1] ![0, 0, 1, 1] ![0, 0, 0, 0] X v h hu) W = conv3 X (wt W) fun o => x (ix1 o) :=
  convV_eq hc ht hdot Z _ hZ _ (spread_apply x hco h1 h2) _ X (border_apply X v hu hv h) W

/-- The same with one tap and no border. -/
theorem pointR {co ci : ℕ} {dot : Dot co ci} (hdot : IsDot dot) (hc : (⟨4, ![co, ci, 1, 1]⟩ : Shape).ShapeCasts ⟨2, ![co, ci]⟩)
    (ht : (⟨4, ![co, 16, 7, 7]⟩ : Shape).Transposes [1, 0, 2, 3] ⟨4, ![16, co, 7, 7]⟩) (Z : Img co) (hZ : ∀ i, Z i = 0)
    (x : (⟨1, ![co]⟩ : Shape).Idx → EReal) (hco : co ≠ 1)
    (h1 : (⟨1, ![co]⟩ : Shape).BroadcastsInDim ⟨4, ![1, co, 1, 1]⟩ ![1])
    (h2 : (⟨4, ![1, co, 1, 1]⟩ : Shape).BroadcastsInDim ⟨4, ![16, co, 7, 7]⟩ ![0, 1, 2, 3])
    (X : Img ci) {u : Shape} (v : u.Idx → EReal) (hu : 0 < u.numel)
    (h : (⟨4, ![16, ci, 7, 7]⟩ : Shape).Pads ![0, 0, 0, 0] ![0, 0, 0, 0] ![0, 0, 0, 0] ⟨4, ![16, ci, 7, 7]⟩)
    (W : (⟨4, ![co, ci, 1, 1]⟩ : Shape).Idx → EReal) :
    pointV dot hc ht Z (broadcastInDim ⟨4, ![16, co, 7, 7]⟩ ![0, 1, 2, 3] h2 (broadcastInDim ⟨4, ![1, co, 1, 1]⟩ ![1] h1 x))
      (pad ⟨4, ![16, ci, 7, 7]⟩ ![0, 0, 0, 0] ![0, 0, 0, 0] ![0, 0, 0, 0] X v h hu) W
      = conv1 X (fun o k => W (ix4 o k 0 0)) fun o => x (ix1 o) := by
  rw [border_none X v hu h]
  exact pointV_eq hc ht hdot Z _ hZ _ (spread_apply x hco h1 h2) X W

/-- Zeros spread over an array. -/
theorem zeros_apply {s t : Shape} {d : Fin s.rank → Fin t.rank} (h : s.BroadcastsInDim t d) (i : t.Idx) :
    broadcastInDim t d h (constant (F := Ideal) s .f32 0x00000000#32) i = 0 := Ideal.ofBits_zero_f32

/-- The word zero read as a number. -/
theorem word_zero {s : Shape} (i : s.Idx) : (sitofp (F := Ideal) .f32 (constantI s 32 0#32) : FVec Ideal s .f32) i = (0 : EReal) := by
  show ((((0#32 : BitVec 32).toInt : ℝ)) : EReal) = 0
  simp

end Cert.Vq

end
-- ==== Proof.Entry.lean ====
/- What the kernel's 22 input windows hold when its region is entered: the host's few operations on the arguments. -/
module

public import proofs.«01_k».proof.Proof.RunI
public import proofs.«01_k».proof.Proof.Conv
public import Idealize.ShloMosaic.Lib.Pipeline.ValueKit
public import Idealize.ShloMosaic.Lib.Claim

@[expose] public section

set_option maxRecDepth 16384

noncomputable section

namespace Cert.Vq.Entry

open Cert.KernelIdeal Cert.KernelIdeal.Gen Idealize.ShloMosaic Idealize.ShloMosaic.TcCoe Idealize.ShloMosaic.StableHlo
open Idealize.ShloMosaic.Pipeline (Dat)

variable (m : (ℓ : Loc nD τ sig) → Buf (Elt Ideal) ℓ) (c : Dev nD)

/-! ## A window's block at the one point is its whole array -/

/-- Every window is at its first block. -/
theorem first : ∀ (w : Fin 25) (a : Fin (win0 w).block.rank), (win0 w).index t0_0 a = 0 := by decide +kernel

/-- Window 0, the padded images: the whole array. -/
theorem blk0 : iblk m c 0 t0_0 = V m c main_v4 := by
  funext y
  exact congrArg (V m c main_v4) (funext fun a => Fin.ext (by blk_simp; rw [show win0_0.index t0_0 a = 0 from first 0 a, Nat.zero_mul, Nat.zero_add]))
/-- Window 1, the mask as a column: the whole array. -/
theorem blk1 : iblk m c 1 t0_0 = V m c main_cst := by
  funext y
  exact congrArg (V m c main_cst) (funext fun a => Fin.ext (by blk_simp; rw [show win0_1.index t0_0 a = 0 from first 1 a, Nat.zero_mul, Nat.zero_add]))
/-- Window 2, the mask as a row: the whole array. -/
theorem blk2 : iblk m c 2 t0_0 = V m c main_cst_0 := by
  funext y
  exact congrArg (V m c main_cst_0) (funext fun a => Fin.ext (by blk_simp; rw [show win0_2.index t0_0 a = 0 from first 2 a, Nat.zero_mul, Nat.zero_add]))
/-- Window 3, the encoder's first weights: the whole array. -/
theorem blk3 : iblk m c 3 t0_0 = V m c main_v14 := by
  funext y
  exact congrArg (V m c main_v14) (funext fun a => Fin.ext (by blk_simp; rw [show win0_3.index t0_0 a = 0 from first 3 a, Nat.zero_mul, Nat.zero_add]))
/-- Window 4, their biases: the whole array. -/
theorem blk4 : iblk m c 4 t0_0 = V m c main_v15 := by
  funext y
  exact congrArg (V m c main_v15) (funext fun a => Fin.ext (by blk_simp; rw [show win0_4.index t0_0 a = 0 from first 4 a, Nat.zero_mul, Nat.zero_add]))
/-- Window 5, the encoder's second weights: the whole array. -/
theorem blk5 : iblk m c 5 t0_0 = V m c main_v18 := by
  funext y
  exact congrArg (V m c main_v18) (funext fun a => Fin.ext (by blk_simp; rw [show win0_5.index t0_0 a = 0 from first 5 a, Nat.zero_mul, Nat.zero_add]))
/-- Window 6, their biases: the whole array. -/
theorem blk6 : iblk m c 6 t0_0 = V m c main_v19 := by
  funext y
  exact congrArg (V m c main_v19) (funext fun a => Fin.ext (by blk_simp; rw [show win0_6.index t0_0 a = 0 from first 6 a, Nat.zero_mul, Nat.zero_add]))
/-- Window 7, the residual block's weights: the whole array. -/
theorem blk7 : iblk m c 7 t0_0 = V m c main_v22 := by
  funext y
  exact congrArg (V m c main_v22) (funext fun a => Fin.ext (by blk_simp; rw [show win0_7.index t0_0 a = 0 from first 7 a, Nat.zero_mul, Nat.zero_add]))
/-- Window 8, their biases: the whole array. -/
theorem blk8 : iblk m c 8 t0_0 = V m c main_v23 := by
  funext y
  exact congrArg (V m c main_v23) (funext fun a => Fin.ext (by blk_simp; rw [show win0_8.index t0_0 a = 0 from first 8 a, Nat.zero_mul, Nat.zero_add]))
/-- Window 9, its one-tap weights: the whole array. -/
theorem blk9 : iblk m c 9 t0_0 = V m c main_v25 := by
  funext y
  exact congrArg (V m c main_v25) (funext fun a => Fin.ext (by blk_simp; rw [show win0_9.index t0_0 a = 0 from first 9 a, Nat.zero_mul, Nat.zero_add]))
/-- Window 10, their biases: the whole array. -/
theorem blk10 : iblk m c 10 t0_0 = V m c main_v26 := by
  funext y
  exact congrArg (V m c main_v26) (funext fun a => Fin.ext (by blk_simp; rw [show win0_10.index t0_0 a = 0 from first 10 a, Nat.zero_mul, Nat.zero_add]))
/-- Window 11, the code book: the whole array. -/
theorem blk11 : iblk m c 11 t0_0 = V m c main_v27 := by
  funext y
  exact congrArg (V m c main_v27) (funext fun a => Fin.ext (by blk_simp; rw [show win0_11.index t0_0 a = 0 from first 11 a, Nat.zero_mul, Nat.zero_add]))
/-- Window 12, the squares of its entries: the whole array. -/
theorem blk12 : iblk m c 12 t0_0 = V m c main_v7 := by
  funext y
  exact congrArg (V m c main_v7) (funext fun a => Fin.ext (by blk_simp; rw [show win0_12.index t0_0 a = 0 from first 12 a, Nat.zero_mul, Nat.zero_add]))
/-- Window 13, the code book turned: the whole array. -/
theorem blk13 : iblk m c 13 t0_0 = V m c main_v28 := by
  funext y
  exact congrArg (V m c main_v28) (funext fun a => Fin.ext (by blk_simp; rw [show win0_13.index t0_0 a = 0 from first 13 a, Nat.zero_mul, Nat.zero_add]))
/-- Window 14, the decoder's first weights: the whole array. -/
theorem blk14 : iblk m c 14 t0_0 = V m c main_v31 := by
  funext y
  exact congrArg (V m c main_v31) (funext fun a => Fin.ext (by blk_simp; rw [show win0_14.index t0_0 a = 0 from first 14 a, Nat.zero_mul, Nat.zero_add]))
/-- Window 15, their biases: the whole array. -/
theorem blk15 : iblk m c 15 t0_0 = V m c main_v32 := by
  funext y
  exact congrArg (V m c main_v32) (funext fun a => Fin.ext (by blk_simp; rw [show win0_15.index t0_0 a = 0 from first 15 a, Nat.zero_mul, Nat.zero_add]))
/-- Window 16, its residual block's weights: the whole array. -/
theorem blk16 : iblk m c 16 t0_0 = V m c main_v35 := by
  funext y
  exact congrArg (V m c main_v35) (funext fun a => Fin.ext (by blk_simp; rw [show win0_16.index t0_0 a = 0 from first 16 a, Nat.zero_mul, Nat.zero_add]))
/-- Window 17, their biases: the whole array. -/
theorem blk17 : iblk m c 17 t0_0 = V m c main_v36 := by
  funext y
  exact congrArg (V m c main_v36) (funext fun a => Fin.ext (by blk_simp; rw [show win0_17.index t0_0 a = 0 from first 17 a, Nat.zero_mul, Nat.zero_add]))
/-- Window 18, its one-tap weights: the whole array. -/
theorem blk18 : iblk m c 18 t0_0 = V m c main_v38 := by
  funext y
  exact congrArg (V m c main_v38) (funext fun a => Fin.ext (by blk_simp; rw [show win0_18.index t0_0 a = 0 from first 18 a, Nat.zero_mul, Nat.zero_add]))
/-- Window 19, their biases: the whole array. -/
theorem blk19 : iblk m c 19 t0_0 = V m c main_v39 := by
  funext y
  exact congrArg (V m c main_v39) (funext fun a => Fin.ext (by blk_simp; rw [show win0_19.index t0_0 a = 0 from first 19 a, Nat.zero_mul, Nat.zero_add]))
/-- Window 20, its last weights: the whole array. -/
theorem blk20 : iblk m c 20 t0_0 = V m c main_v11 := by
  funext y
  exact congrArg (V m c main_v11) (funext fun a => Fin.ext (by blk_simp; rw [show win0_20.index t0_0 a = 0 from first 20 a, Nat.zero_mul, Nat.zero_add]))
/-- Window 21, their biases: the whole array. -/
theorem blk21 : iblk m c 21 t0_0 = V m c main_v40 := by
  funext y
  exact congrArg (V m c main_v40) (funext fun a => Fin.ext (by blk_simp; rw [show win0_21.index t0_0 a = 0 from first 21 a, Nat.zero_mul, Nat.zero_add]))

/-! ## The arrays -/

/-- The host's operations before the region. -/
abbrev before : List (HloOp τ sig (Elt Ideal)) := List.flatten [hostOps0, hostOps0_1, hostOps0_2, hostOps0_3, hostOps0_4, hostOps0_5, hostOps0_6]

variable (V : Valuation τ sig (Elt Ideal))

set_option maxHeartbeats 900000

/-- Window 0, the padded images, from the arguments. -/
theorem arr0 : after before V (Proc.devRef .tc main_v4) = pad S1184x512 ![16, 0] ![16, 0] ![0, 0] (shapeCast S1152x512 (pad S16x9x8x512 ![0, 1, 1, 0] ![0, 1, 0, 0] ![0, 0, 0, 0]
    (shapeCast S16x7x7x512 (truncf (F := Ideal) .bf16 (V (Proc.devRef .tc main_arg0)) bitsLt_bf16_f32) shapeCasts_S16x49x512_S16x7x7x512) (sitofp (F := Ideal) .bf16 (constantI S_ 32 0#32))
    pads_S16x7x7x512_S16x9x8x512_000_110_100_000 h_S_) shapeCasts_S16x9x8x512_S1152x512) (sitofp (F := Ideal) .bf16 (constantI S_ 32 0#32)) pads_S1152x512_S1184x512_16160_000 h_S_ := by
  simp only [before, hostOps0, hostOps0_1, hostOps0_2, hostOps0_3, hostOps0_4, hostOps0_5, hostOps0_6, List.flatten_cons, List.flatten_nil,
    List.append_nil, List.cons_append, List.nil_append]
  after_results <;> rfl
/-- Window 1, the mask as a column, from the arguments. -/
theorem arr1 : after before V (Proc.devRef .tc main_cst) = fun i => FloatOps.ofBits (F := Ideal) .f32 (lit0 (S1152x1.rowMajor i)) := by
  simp only [before, hostOps0, hostOps0_1, hostOps0_2, hostOps0_3, hostOps0_4, hostOps0_5, hostOps0_6, List.flatten_cons, List.flatten_nil,
    List.append_nil, List.cons_append, List.nil_append]
  after_results <;> rfl
/-- Window 2, the mask as a row, from the arguments. -/
theorem arr2 : after before V (Proc.devRef .tc main_cst_0) = fun i => FloatOps.ofBits (F := Ideal) .f32 (lit1 (S1x1152.rowMajor i)) := by
  simp only [before, hostOps0, hostOps0_1, hostOps0_2, hostOps0_3, hostOps0_4, hostOps0_5, hostOps0_6, List.flatten_cons, List.flatten_nil,
    List.append_nil, List.cons_append, List.nil_append]
  after_results <;> rfl
/-- Window 3, the encoder's first weights, from the arguments. -/
theorem arr3 : after before V (Proc.devRef .tc main_v14) = truncf (F := Ideal) .bf16 (shapeCast S9x256x512 (transpose S3x3x256x512 [2, 3, 0, 1]
    (V (Proc.devRef .tc main_arg1)) transposes_S256x512x3x3_S3x3x256x512_2_3_0_1) shapeCasts_S3x3x256x512_S9x256x512) bitsLt_bf16_f32 := by
  simp only [before, hostOps0, hostOps0_1, hostOps0_2, hostOps0_3, hostOps0_4, hostOps0_5, hostOps0_6, List.flatten_cons, List.flatten_nil,
    List.append_nil, List.cons_append, List.nil_append]
  after_results <;> rfl
/-- Window 4, their biases, from the arguments. -/
theorem arr4 : after before V (Proc.devRef .tc main_v15) = shapeCast S1x256 (V (Proc.devRef .tc main_arg2)) shapeCasts_S256_S1x256 := by
  simp only [before, hostOps0, hostOps0_1, hostOps0_2, hostOps0_3, hostOps0_4, hostOps0_5, hostOps0_6, List.flatten_cons, List.flatten_nil,
    List.append_nil, List.cons_append, List.nil_append]
  after_results <;> rfl
/-- Window 5, the encoder's second weights, from the arguments. -/
theorem arr5 : after before V (Proc.devRef .tc main_v18) = truncf (F := Ideal) .bf16 (shapeCast S9x256x256 (transpose S3x3x256x256 [2, 3, 0, 1]
    (V (Proc.devRef .tc main_arg3)) transposes_S256x256x3x3_S3x3x256x256_2_3_0_1) shapeCasts_S3x3x256x256_S9x256x256) bitsLt_bf16_f32 := by
  simp only [before, hostOps0, hostOps0_1, hostOps0_2, hostOps0_3, hostOps0_4, hostOps0_5, hostOps0_6, List.flatten_cons, List.flatten_nil,
    List.append_nil, List.cons_append, List.nil_append]
  after_results <;> rfl
/-- Window 6, their biases, from the arguments. -/
theorem arr6 : after before V (Proc.devRef .tc main_v19) = shapeCast S1x256 (V (Proc.devRef .tc main_arg4)) shapeCasts_S256_S1x256 := by
  simp only [before, hostOps0, hostOps0_1, hostOps0_2, hostOps0_3, hostOps0_4, hostOps0_5, hostOps0_6, List.flatten_cons, List.flatten_nil,
    List.append_nil, List.cons_append, List.nil_append]
  after_results <;> rfl
/-- Window 7, the residual block's weights, from the arguments. -/
theorem arr7 : after before V (Proc.devRef .tc main_v22) = truncf (F := Ideal) .bf16 (shapeCast S9x256x256 (transpose S3x3x256x256 [2, 3, 0, 1]
    (V (Proc.devRef .tc main_arg5)) transposes_S256x256x3x3_S3x3x256x256_2_3_0_1) shapeCasts_S3x3x256x256_S9x256x256) bitsLt_bf16_f32 := by
  simp only [before, hostOps0, hostOps0_1, hostOps0_2, hostOps0_3, hostOps0_4, hostOps0_5, hostOps0_6, List.flatten_cons, List.flatten_nil,
    List.append_nil, List.cons_append, List.nil_append]
  after_results <;> rfl
/-- Window 8, their biases, from the arguments. -/
theorem arr8 : after before V (Proc.devRef .tc main_v23) = shapeCast S1x256 (V (Proc.devRef .tc main_arg6)) shapeCasts_S256_S1x256 := by
  simp only [before, hostOps0, hostOps0_1, hostOps0_2, hostOps0_3, hostOps0_4, hostOps0_5, hostOps0_6, List.flatten_cons, List.flatten_nil,
    List.append_nil, List.cons_append, List.nil_append]
  after_results <;> rfl
/-- Window 9, its one-tap weights, from the arguments. -/
theorem arr9 : after before V (Proc.devRef .tc main_v25) = truncf (F := Ideal) .bf16 (shapeCast S256x256 (V (Proc.devRef .tc main_arg7)) shapeCasts_S256x256x1x1_S256x256) bitsLt_bf16_f32 := by
  simp only [before, hostOps0, hostOps0_1, hostOps0_2, hostOps0_3, hostOps0_4, hostOps0_5, hostOps0_6, List.flatten_cons, List.flatten_nil,
    List.append_nil, List.cons_append, List.nil_append]
  after_results <;> rfl
/-- Window 10, their biases, from the arguments. -/
theorem arr10 : after before V (Proc.devRef .tc main_v26) = shapeCast S1x256 (V (Proc.devRef .tc main_arg8)) shapeCasts_S256_S1x256 := by
  simp only [before, hostOps0, hostOps0_1, hostOps0_2, hostOps0_3, hostOps0_4, hostOps0_5, hostOps0_6, List.flatten_cons, List.flatten_nil,
    List.append_nil, List.cons_append, List.nil_append]
  after_results <;> rfl
/-- Window 11, the code book, from the arguments. -/
theorem arr11 : after before V (Proc.devRef .tc main_v27) = truncf (F := Ideal) .bf16 (V (Proc.devRef .tc main_arg9)) bitsLt_bf16_f32 := by
  simp only [before, hostOps0, hostOps0_1, hostOps0_2, hostOps0_3, hostOps0_4, hostOps0_5, hostOps0_6, List.flatten_cons, List.flatten_nil,
    List.append_nil, List.cons_append, List.nil_append]
  after_results <;> rfl
/-- Window 12, the squares of its entries, from the arguments. -/
theorem arr12 : after before V (Proc.devRef .tc main_v7) = broadcastInDim S512x1 ![0] bcast_S512_S512x1_0 (Host.reduceAdd (F := Ideal) (φ := .f32) (mulf (F := Ideal) (φ := .f32) (V (Proc.devRef .tc main_arg9)) (V (Proc.devRef .tc main_arg9)))
    (constant S_ .f32 0x00000000#32) reducesTo_S512x256_S512_d1 h_S_) := by
  simp only [before, hostOps0, hostOps0_1, hostOps0_2, hostOps0_3, hostOps0_4, hostOps0_5, hostOps0_6, List.flatten_cons, List.flatten_nil,
    List.append_nil, List.cons_append, List.nil_append]
  after_results <;> rfl
/-- Window 13, the code book turned, from the arguments. -/
theorem arr13 : after before V (Proc.devRef .tc main_v28) = transpose S256x512 [1, 0] (V (Proc.devRef .tc main_arg9)) transposes_S512x256_S256x512_1_0 := by
  simp only [before, hostOps0, hostOps0_1, hostOps0_2, hostOps0_3, hostOps0_4, hostOps0_5, hostOps0_6, List.flatten_cons, List.flatten_nil,
    List.append_nil, List.cons_append, List.nil_append]
  after_results <;> rfl
/-- Window 14, the decoder's first weights, from the arguments. -/
theorem arr14 : after before V (Proc.devRef .tc main_v31) = truncf (F := Ideal) .bf16 (shapeCast S9x256x256 (transpose S3x3x256x256 [2, 3, 0, 1]
    (V (Proc.devRef .tc main_arg10)) transposes_S256x256x3x3_S3x3x256x256_2_3_0_1) shapeCasts_S3x3x256x256_S9x256x256) bitsLt_bf16_f32 := by
  simp only [before, hostOps0, hostOps0_1, hostOps0_2, hostOps0_3, hostOps0_4, hostOps0_5, hostOps0_6, List.flatten_cons, List.flatten_nil,
    List.append_nil, List.cons_append, List.nil_append]
  after_results <;> rfl
/-- Window 15, their biases, from the arguments. -/
theorem arr15 : after before V (Proc.devRef .tc main_v32) = shapeCast S1x256 (V (Proc.devRef .tc main_arg11)) shapeCasts_S256_S1x256 := by
  simp only [before, hostOps0, hostOps0_1, hostOps0_2, hostOps0_3, hostOps0_4, hostOps0_5, hostOps0_6, List.flatten_cons, List.flatten_nil,
    List.append_nil, List.cons_append, List.nil_append]
  after_results <;> rfl
/-- Window 16, its residual block's weights, from the arguments. -/
theorem arr16 : after before V (Proc.devRef .tc main_v35) = truncf (F := Ideal) .bf16 (shapeCast S9x256x256 (transpose S3x3x256x256 [2, 3, 0, 1]
    (V (Proc.devRef .tc main_arg12)) transposes_S256x256x3x3_S3x3x256x256_2_3_0_1) shapeCasts_S3x3x256x256_S9x256x256) bitsLt_bf16_f32 := by
  simp only [before, hostOps0, hostOps0_1, hostOps0_2, hostOps0_3, hostOps0_4, hostOps0_5, hostOps0_6, List.flatten_cons, List.flatten_nil,
    List.append_nil, List.cons_append, List.nil_append]
  after_results <;> rfl
/-- Window 17, their biases, from the arguments. -/
theorem arr17 : after before V (Proc.devRef .tc main_v36) = shapeCast S1x256 (V (Proc.devRef .tc main_arg13)) shapeCasts_S256_S1x256 := by
  simp only [before, hostOps0, hostOps0_1, hostOps0_2, hostOps0_3, hostOps0_4, hostOps0_5, hostOps0_6, List.flatten_cons, List.flatten_nil,
    List.append_nil, List.cons_append, List.nil_append]
  after_results <;> rfl
/-- Window 18, its one-tap weights, from the arguments. -/
theorem arr18 : after before V (Proc.devRef .tc main_v38) = truncf (F := Ideal) .bf16 (shapeCast S256x256 (V (Proc.devRef .tc main_arg14)) shapeCasts_S256x256x1x1_S256x256) bitsLt_bf16_f32 := by
  simp only [before, hostOps0, hostOps0_1, hostOps0_2, hostOps0_3, hostOps0_4, hostOps0_5, hostOps0_6, List.flatten_cons, List.flatten_nil,
    List.append_nil, List.cons_append, List.nil_append]
  after_results <;> rfl
/-- Window 19, their biases, from the arguments. -/
theorem arr19 : after before V (Proc.devRef .tc main_v39) = shapeCast S1x256 (V (Proc.devRef .tc main_arg15)) shapeCasts_S256_S1x256 := by
  simp only [before, hostOps0, hostOps0_1, hostOps0_2, hostOps0_3, hostOps0_4, hostOps0_5, hostOps0_6, List.flatten_cons, List.flatten_nil,
    List.append_nil, List.cons_append, List.nil_append]
  after_results <;> rfl
/-- Window 20, its last weights, from the arguments. -/
theorem arr20 : after before V (Proc.devRef .tc main_v11) = truncf (F := Ideal) .bf16 (shapeCast S9x256x512 (transpose S3x3x256x512 [2, 3, 0, 1]
    (Host.reverse [2, 3] (V (Proc.devRef .tc main_arg16))) transposes_S256x512x3x3_S3x3x256x512_2_3_0_1) shapeCasts_S3x3x256x512_S9x256x512) bitsLt_bf16_f32 := by
  simp only [before, hostOps0, hostOps0_1, hostOps0_2, hostOps0_3, hostOps0_4, hostOps0_5, hostOps0_6, List.flatten_cons, List.flatten_nil,
    List.append_nil, List.cons_append, List.nil_append]
  after_results <;> rfl
/-- Window 21, their biases, from the arguments. -/
theorem arr21 : after before V (Proc.devRef .tc main_v40) = shapeCast S1x512 (V (Proc.devRef .tc main_arg17)) shapeCasts_S512_S1x512 := by
  simp only [before, hostOps0, hostOps0_1, hostOps0_2, hostOps0_3, hostOps0_4, hostOps0_5, hostOps0_6, List.flatten_cons, List.flatten_nil,
    List.append_nil, List.cons_append, List.nil_append]
  after_results <;> rfl

end Cert.Vq.Entry

end
-- ==== Proof.Near.lean ====
/- The nearest entry of a code book, found first by a score that leaves out the pixel's own square and by the distance
   itself. Extended reals and machine words only: no program is read here. -/
module

public import proofs.«01_k».proof.Proof.Grid
public import Idealize.ShloMosaic.PureOps.Reduce
public import Idealize.ShloMosaic.Lib.SortNet.Extract

@[expose] public section

noncomputable section

namespace Cert.Vq

open Idealize.ShloMosaic Idealize.ShloMosaic.ValueIdx
open scoped BigOperators

/-! ## The first entry of least score -/

/-- `k` is the first of the entries of least score. -/
def Least (S : Fin 512 → EReal) (k : Fin 512) : Prop := (∀ j, S k ≤ S j) ∧ ∀ j, S j ≤ S k → k ≤ j

/-- There is one. -/
theorem exists_least (S : Fin 512 → EReal) : ∃ k, Least S k := by
  obtain ⟨m, -, hm⟩ := Finset.exists_min_image Finset.univ S ⟨0, Finset.mem_univ _⟩
  have hne : (Finset.univ.filter fun k => S k ≤ S m).Nonempty := ⟨m, by simp⟩
  refine ⟨Finset.min' _ hne, fun j => ?_, fun j hj => Finset.min'_le _ j ?_⟩
  · exact (Finset.mem_filter.mp (Finset.min'_mem _ hne)).2.trans (hm j (Finset.mem_univ _))
  · exact Finset.mem_filter.mpr ⟨Finset.mem_univ _, hj.trans (Finset.mem_filter.mp (Finset.min'_mem _ hne)).2⟩

/-- The first entry of least score. -/
def nearest (S : Fin 512 → EReal) : Fin 512 := (exists_least S).choose

/-- It is one of least score, the first. -/
theorem nearest_least (S : Fin 512 → EReal) : Least S (nearest S) := (exists_least S).choose_spec

/-- There is only one. -/
theorem Least.eq_nearest {S : Fin 512 → EReal} {k : Fin 512} (h : Least S k) : nearest S = k :=
  le_antisymm ((nearest_least S).2 _ (h.1 _)) (h.2 _ ((nearest_least S).1 _))

/-- Two scores that order the entries alike have the same first entry. -/
theorem nearest_congr {S T : Fin 512 → EReal} (h : ∀ i j, S i ≤ S j ↔ T i ≤ T j) : nearest S = nearest T :=
  Least.eq_nearest ⟨fun j => (h _ _).mpr ((nearest_least T).1 j), fun j hj => (nearest_least T).2 j ((h _ _).mp hj)⟩

/-- A fold that keeps the smaller of two by a key: its value is below all, and it is one of them or the start. -/
theorem fold_smaller {ι α β : Type} [LinearOrder β] (key : α → β) (f : α → α → α) [Std.Commutative f] [Std.Associative f]
    (hf : ∀ a b, key (f a b) = min (key a) (key b)) (hk : Function.Injective key) (s : Finset ι) (z : α) (x : ι → α) :
    key (s.fold f z x) ≤ key z ∧ (∀ i ∈ s, key (s.fold f z x) ≤ key (x i)) ∧
      (s.fold f z x = z ∨ ∃ i ∈ s, s.fold f z x = x i) := by
  classical
  induction s using Finset.cons_induction with
  | empty => exact ⟨le_refl _, fun i hi => absurd hi (Finset.notMem_empty i), Or.inl rfl⟩
  | cons a s ha ih =>
    obtain ⟨h1, h2, h3⟩ := ih
    rw [Finset.fold_cons]
    refine ⟨?_, fun i hi => ?_, ?_⟩
    · rw [hf]; exact (min_le_right _ _).trans h1
    · rw [hf]
      rcases Finset.mem_cons.mp hi with rfl | hi
      · exact min_le_left _ _
      · exact (min_le_right _ _).trans (h2 i hi)
    · rcases min_choice (key (x a)) (key (s.fold f z x)) with e | e
      · exact Or.inr ⟨a, Finset.mem_cons_self a s, hk ((hf _ _).trans e)⟩
      · have e' := hk ((hf _ _).trans e)
        rcases h3 with h3 | ⟨i, hi, h3⟩
        · exact Or.inl (e'.trans h3)
        · exact Or.inr ⟨i, Finset.mem_cons_of_mem hi, e'.trans h3⟩

/-- A small number's word read back as a signed number. -/
theorem toInt_word (k : Fin 512) : (BitVec.ofNat 32 k.val).toInt = (k.val : ℤ) := by
  have := k.isLt
  rw [BitVec.toInt_eq_toNat_cond, BitVec.toNat_ofNat]
  rw [Nat.mod_eq_of_lt (by omega), if_pos (by omega)]

/-- Small numbers have different words. -/
theorem word_inj {i j : Fin 512} (h : BitVec.ofNat 32 i.val = BitVec.ofNat 32 j.val) : i = j := by
  have e := congrArg BitVec.toInt h
  rw [toInt_word, toInt_word] at e
  exact Fin.ext (by exact_mod_cast e)

/-- The least score found by one reduction and the first entry that has it by another: the entries' own numbers are
    reduced, with a large number standing for those of another score. -/
theorem first_least {ι : Type} (s : Finset ι) (pos : ι → Fin 512) (hpos : ∀ k, ∃ i ∈ s, pos i = k)
    (S : Fin 512 → EReal) (x : ι → EReal) (hx : ∀ i ∈ s, x i = S (pos i)) (w : ι → BitVec 32) (big : BitVec 32)
    (hbig : 512 ≤ big.toInt)
    (hw : ∀ i ∈ s, w i = if x i = s.fold (min : EReal → EReal → EReal) ⊤ x then BitVec.ofNat 32 (pos i).val else big) :
    s.fold IntOp.minsi 2147483647#32 w = BitVec.ofNat 32 (nearest S).val := by
  have hL := nearest_least S
  obtain ⟨n, hn, hpn⟩ := hpos (nearest S)
  obtain ⟨-, m2, m3⟩ := fold_smaller (id : EReal → EReal) min (fun _ _ => rfl) Function.injective_id s ⊤ x
  have hm : s.fold (min : EReal → EReal → EReal) ⊤ x = S (nearest S) := by
    refine le_antisymm ((m2 n hn).trans (by rw [id, hx n hn, hpn])) ?_
    rcases m3 with e | ⟨i, hi, e⟩
    · rw [e]; exact le_top
    · rw [e, hx i hi]; exact hL.1 _
  obtain ⟨w1, w2, w3⟩ := fold_smaller BitVec.toInt IntOp.minsi SortNet.toInt_minsi (fun _ _ h => BitVec.eq_of_toInt_eq h) s
    2147483647#32 w
  have hle := w2 n hn
  rw [hw n hn, hm, if_pos (by rw [hx n hn, hpn]), hpn, toInt_word] at hle
  have hlt := (nearest S).isLt
  rcases w3 with e | ⟨i, hi, e⟩
  · rw [e, show (2147483647#32 : BitVec 32).toInt = 2147483647 by decide] at hle
    omega
  · rw [e, hw i hi, hm] at hle
    rw [e, hw i hi, hm]
    by_cases c : x i = S (nearest S)
    · rw [if_pos c] at hle ⊢
      rw [toInt_word] at hle
      have g := hL.2 (pos i) (by rw [← hx i hi, c])
      rw [show pos i = nearest S from le_antisymm (by exact_mod_cast hle) g]
    · rw [if_neg c] at hle
      omega

/-! ## Numbers that are not infinite -/

/-- A finite number. -/
def IsFin (x : EReal) : Prop := ∃ r : ℝ, x = (r : EReal)

/-- Zero is finite. -/
theorem IsFin.zero : IsFin 0 := ⟨0, rfl⟩
/-- A sum of two finite numbers is finite. -/
theorem IsFin.add {x y : EReal} (hx : IsFin x) (hy : IsFin y) : IsFin (x + y) := by
  obtain ⟨a, rfl⟩ := hx; obtain ⟨b, rfl⟩ := hy; exact ⟨a + b, (EReal.coe_add a b).symm⟩
/-- A product of two finite numbers is finite. -/
theorem IsFin.mul {x y : EReal} (hx : IsFin x) (hy : IsFin y) : IsFin (x * y) := by
  obtain ⟨a, rfl⟩ := hx; obtain ⟨b, rfl⟩ := hy; exact ⟨a * b, (EReal.coe_mul a b).symm⟩
/-- The greater of two finite numbers is finite. -/
theorem IsFin.max {x y : EReal} (hx : IsFin x) (hy : IsFin y) : IsFin (max x y) := by
  rcases max_choice x y with e | e <;> rw [e] <;> assumption
/-- A finite sum of finite numbers is finite. -/
theorem IsFin.sum {ι : Type} {s : Finset ι} {f : ι → EReal} (h : ∀ i ∈ s, IsFin (f i)) : IsFin (∑ i ∈ s, f i) := by
  classical
  induction s using Finset.cons_induction with
  | empty => exact IsFin.zero
  | cons a s ha ih =>
    rw [Finset.sum_cons]
    exact (h a (Finset.mem_cons_self a s)).add (ih fun i hi => h i (Finset.mem_cons_of_mem hi))

/-- A finite image with its border is finite. -/
theorem IsFin.grid {c : ℕ} {X : Img c} (hX : ∀ i, IsFin (X i)) (n : ℕ) (k : Fin c) (a b : ℕ) : IsFin (grid X n k a b) := by
  unfold Vq.grid
  split
  · exact hX _
  · exact IsFin.zero

/-- A convolution of finite numbers is finite. -/
theorem IsFin.conv3 {ci co : ℕ} {X : Img ci} {W : Fin 9 → Fin co → Fin ci → EReal} {b : Fin co → EReal}
    (hX : ∀ i, IsFin (X i)) (hW : ∀ t o k, IsFin (W t o k)) (hb : ∀ o, IsFin (b o)) (i) : IsFin (conv3 X W b i) :=
  (IsFin.sum fun _ _ => IsFin.sum fun _ _ => (IsFin.grid hX _ _ _ _).mul (hW _ _ _)).add (hb _)

/-- A one-tap convolution of finite numbers is finite. -/
theorem IsFin.conv1 {ci co : ℕ} {X : Img ci} {W : Fin co → Fin ci → EReal} {b : Fin co → EReal}
    (hX : ∀ i, IsFin (X i)) (hW : ∀ o k, IsFin (W o k)) (hb : ∀ o, IsFin (b o)) (i) : IsFin (conv1 X W b i) :=
  (IsFin.sum fun _ _ => (hX _).mul (hW _ _)).add (hb _)

/-- The positive part of finite numbers is finite. -/
theorem IsFin.reluI {c : ℕ} {X : Img c} (hX : ∀ i, IsFin (X i)) (i) : IsFin (reluI X i) := (hX i).max IsFin.zero

/-! ## The distance and the score -/

/-- The square of the distance between two pixels' channels. -/
def dist (e z : Fin 256 → EReal) : EReal := ∑ c, (e c - z c) * (e c - z c)

/-- The score: the distance without the pixel's own square. -/
def score (e z : Fin 256 → EReal) : EReal := (∑ c, e c * e c) - 2 * ∑ c, e c * z c

/-- Sums of finite numbers are finite sums of reals. -/
theorem coe_sum {ι : Type} (s : Finset ι) (f : ι → ℝ) : (∑ i ∈ s, (f i : EReal)) = ((∑ i ∈ s, f i : ℝ) : EReal) := by
  classical
  induction s using Finset.cons_induction with
  | empty => rfl
  | cons a s ha ih => rw [Finset.sum_cons, Finset.sum_cons, ih, EReal.coe_add]

/-- Of finite numbers the score is the distance less a number that is the same for every entry. -/
theorem score_eq {e z : Fin 256 → ℝ} : score (fun c => e c) (fun c => z c)
    = ((∑ c, (e c - z c) * (e c - z c) - ∑ c, z c * z c : ℝ) : EReal) := by
  unfold score
  simp only [← EReal.coe_mul, coe_sum]
  rw [show (2 : EReal) = ((2 : ℝ) : EReal) from rfl, ← EReal.coe_mul, ← EReal.coe_sub]
  congr 1
  rw [Finset.mul_sum, ← Finset.sum_sub_distrib, ← Finset.sum_sub_distrib]
  exact Finset.sum_congr rfl fun c _ => by ring

/-- Of finite numbers the distance is the reals'. -/
theorem dist_eq {e z : Fin 256 → ℝ} : dist (fun c => e c) (fun c => z c) = ((∑ c, (e c - z c) * (e c - z c) : ℝ) : EReal) := by
  unfold dist
  simp only [← EReal.coe_sub, ← EReal.coe_mul, coe_sum]

/-- The entry of least score is the nearest one. -/
theorem nearest_score {E : Fin 512 → Fin 256 → EReal} {z : Fin 256 → EReal} (hE : ∀ k c, IsFin (E k c)) (hz : ∀ c, IsFin (z c)) :
    nearest (fun k => score (E k) z) = nearest fun k => dist (E k) z := by
  choose e he using hE
  choose y hy using hz
  obtain rfl : E = fun k c => (e k c : EReal) := funext fun k => funext fun c => he k c
  obtain rfl : z = fun c => (y c : EReal) := funext hy
  refine nearest_congr fun i j => ?_
  rw [score_eq, score_eq, dist_eq, dist_eq, EReal.coe_le_coe_iff, EReal.coe_le_coe_iff]
  exact sub_le_sub_iff_right _

/-! ## A sum of 256 numbers in the order of eight lanes -/

/-- One lane: every eighth of 128 numbers from `o` on, first to last. -/
def lane (f : ℕ → EReal) (o : ℕ) : EReal :=
  f o + f (8 + o) + f (16 + o) + f (24 + o) + f (32 + o) + f (40 + o) + f (48 + o) + f (56 + o)
    + f (64 + o) + f (72 + o) + f (80 + o) + f (88 + o) + f (96 + o) + f (104 + o) + f (112 + o) + f (120 + o)

/-- Eight lanes added in pairs. -/
def lanes (f : ℕ → EReal) (o : ℕ) : EReal :=
  ((lane f (o + 3) + lane f (o + 7)) + (lane f (o + 1) + lane f (o + 5)))
    + ((lane f (o + 2) + lane f (o + 6)) + (lane f o + lane f (o + 4)))

/-- A lane is a sum. -/
theorem lane_eq (f : ℕ → EReal) (o : ℕ) : lane f o = ∑ i : Fin 16, f (8 * i.val + o) := by
  simp only [lane, Fin.sum_univ_castSucc, Fin.sum_univ_zero, zero_add]
  simp

/-- Eight lanes are a sum of 128 numbers. -/
theorem lanes_eq (f : ℕ → EReal) (o : ℕ) : lanes f o = ∑ i : Fin 128, f (o + i.val) := by
  have e : ∑ i : Fin 128, f (o + i.val) = ∑ j : Fin 8, lane f (o + j.val) := by
    simp only [lane_eq]
    rw [Finset.sum_comm, ← Fintype.sum_prod_type']
    refine (Fintype.sum_equiv (finProdFinEquiv (m := 16) (n := 8)) _ _ fun x => ?_).symm
    refine congrArg f ?_
    show 8 * x.1.val + (o + x.2.val) = o + (x.2.val + 8 * x.1.val)
    omega
  rw [e, Fin.sum_univ_eight]
  show _ = lane f o + lane f (o + 1) + lane f (o + 2) + lane f (o + 3) + lane f (o + 4) + lane f (o + 5) + lane f (o + 6) + lane f (o + 7)
  unfold lanes
  ac_rfl

/-- Both halves. -/
theorem lanes_add (f : ℕ → EReal) : lanes f 0 + lanes f 128 = ∑ i : Fin 256, f i.val := by
  rw [lanes_eq, lanes_eq, Fin.sum_univ_add (a := 128) (b := 128) (f := fun i => f i.val)]
  simp [Nat.add_comm 128]

end Cert.Vq

end
-- ==== Proof.Quant.lean ====
/- The kernel's search of the code book, operation by operation: the first entry of least score in every column, its
   column of the book by a product, the squared distance in the order of eight lanes. -/
module

public import proofs.«01_k».proof.Proof.Near
public import proofs.«01_k».proof.Proof.Ops
public import proofs.«01_k».proof.Proof.Gen.KernelIdeal

@[expose] public section

noncomputable section

namespace Cert.Vq

open Idealize.ShloMosaic Idealize.ShloMosaic.ValueIdx Cert.KernelIdeal Cert.KernelIdeal.Gen
open scoped BigOperators

/-- A row repeated down the columns, at an entry. -/
theorem down_apply {α : Type} {m : ℕ} (x : (⟨2, ![1, 1152]⟩ : Shape).Idx → α) (h : (⟨2, ![1, 1152]⟩ : Shape).Broadcasts ⟨2, ![m, 1152]⟩)
    (k : Fin m) (r : Fin 1152) : broadcastTo ⟨2, ![m, 1152]⟩ x h (ix2 k r) = x (ix2 0 r) :=
  broadcastTo_apply x h (ix2 k r) (ix2 0 r) fun a => match a with
    | ⟨0, _⟩ => rfl
    | ⟨1, _⟩ => rfl

/-- A vector as a row, at an entry. -/
theorem row_apply {α : Type} (x : S1152.Idx → α) (r : Fin 1152) :
    shapeCast S1x1152 x shapeCasts_S1152_S1x1152 (ix2 0 r) = x (ix1 r) :=
  shapeCast_apply x _ (ix2 0 r) (ix1 r) (by
    rw [Shape.rowMajor_val_one, Shape.rowMajor_val_two]
    show r.val = 0 * 1152 + r.val
    omega)

/-- The plus-infinity word. -/
theorem ofBits_inf : Ideal.ofBits .f32 0x7F800000#32 = ⊤ := by simp [Ideal.ofBits, Ideal.ieee]

/-- The column an entry lies in. -/
theorem drop_iff (i : S512x1152.Idx) (r : Fin 1152) : reduces_S512x1152_S1152.drop i = ix1 r ↔ i 1 = r := by
  have e : (reduces_S512x1152_S1152.drop i 0).val = (i 1).val := reduces_S512x1152_S1152.drop_apply_val_of_eq i 0 1
  constructor
  · intro h
    rw [h] at e
    exact Fin.ext e.symm
  · intro h
    funext a
    match a with
    | ⟨0, _⟩ => exact Fin.ext (e.trans (congrArg Fin.val h))

/-- The number of the first entry of least score in every column. -/
abbrev firstMin (S : FVec Ideal S512x1152 .f32) : IVec S1x1152 32 :=
  shapeCast S1x1152 (multiReductionI .minsi [0] S1152
    (select (cmpf .oeq S (broadcastTo S512x1152 (shapeCast S1x1152
        (multiReduction .minimumf [0] S1152 S 0x7F800000#32 reduces_S512x1152_S1152 (.inl rfl) rfl) shapeCasts_S1152_S1x1152)
        broadcasts_S1x1152_S512x1152))
      (iota .tc S512x1152 32 [0] iota_S512x1152_d0_w32) (broadcast S512x1152 1073741824#32))
    2147483647#32 reduces_S512x1152_S1152 rfl) shapeCasts_S1152_S1x1152

/-- It is the first entry of least score. -/
theorem firstMin_apply (S : FVec Ideal S512x1152 .f32) (r : Fin 1152) :
    firstMin S (ix2 0 r) = BitVec.ofNat 32 (nearest fun k => S (ix2 k r)).val := by
  have hi : ∀ i : S512x1152.Idx, reduces_S512x1152_S1152.drop i = ix1 r → i = ix2 (i 0) r := fun i h => by
    rw [drop_iff] at h
    subst h
    exact eq_ix2 i
  refine (row_apply _ r).trans ((multiReductionI_eq_fold _ _ _ _ _ _).trans ?_)
  refine first_least _ (fun i => i 0) (fun k => ⟨ix2 k r, ?_, rfl⟩) _ S (fun i h => ?_) _ 1073741824#32 (by decide) fun i h => ?_
  · exact Finset.mem_filter.mpr ⟨Finset.mem_univ _, (drop_iff _ _).mpr rfl⟩
  · exact congrArg S (hi i (Finset.mem_filter.mp h).2)
  · have e := hi i (Finset.mem_filter.mp h).2
    have hm : broadcastTo S512x1152 (shapeCast S1x1152
        (multiReduction .minimumf [0] S1152 S 0x7F800000#32 reduces_S512x1152_S1152 (.inl rfl) rfl) shapeCasts_S1152_S1x1152)
        broadcasts_S1x1152_S512x1152 i
        = (Finset.univ.filter fun i => reduces_S512x1152_S1152.drop i = ix1 r).fold (min : EReal → EReal → EReal) ⊤ S := by
      rw [e]
      refine (down_apply _ _ (i 0) r).trans ((row_apply _ r).trans ((multiReduction_minimumf_eq_fold S _ _ _ _ _).trans ?_))
      rw [← ofBits_inf]
      rfl
    rw [select_apply, cmpf_apply, hm]
    show Scalar.select (BitVec.ofBool (decide _)) _ _ = _
    have ei : iota .tc S512x1152 32 [0] iota_S512x1152_d0_w32 i = BitVec.ofNat 32 (i 0).val := by
      show BitVec.ofNat 32 (0 * 512 + (i 0).val) = _
      rw [Nat.zero_mul, Nat.zero_add]
    by_cases c : S i = (Finset.univ.filter fun i => reduces_S512x1152_S1152.drop i = ix1 r).fold (min : EReal → EReal → EReal) ⊤ S
    · rw [if_pos c, decide_eq_true c]; exact ei
    · rw [if_neg c, decide_eq_false c]; rfl

/-- The book's columns at given numbers, by a product with the columns of zeros and one one. -/
abbrev pick (E : FVec Ideal S256x512 .f32) (w : IVec S1x1152 32) : FVec Ideal S256x1152 .f32 :=
  matmul dot_S256x512_S512x1152_S256x1152_1_0_0_1_n_n (some .fp32) E
    (sitofp .f32 (extui 32 (cmpi .eq (iota .tc S512x1152 32 [0] iota_S512x1152_d0_w32)
      (broadcastTo S512x1152 w broadcasts_S1x1152_S512x1152)) natLt_1_32)) (constant S256x1152 .f32 0x00000000#32)

/-- The number of an equality of words. -/
theorem sitofp_eq (a b : BitVec 32) : (FloatOps.sitofp (F := Ideal) .f32 ((IntOp.cmpi .eq a b).setWidth 32) : EReal)
    = if a = b then 1 else 0 := by
  by_cases h : a = b
  · subst h
    rw [if_pos rfl, show IntOp.cmpi .eq a a = 1#1 by simp [IntOp.cmpi]]
    show (((BitVec.setWidth 32 1#1).toInt : ℝ) : EReal) = 1
    rw [show (BitVec.setWidth 32 1#1).toInt = 1 by decide]; simp
  · rw [if_neg h, show IntOp.cmpi .eq a b = 0#1 by simp [IntOp.cmpi, beq_eq_false_iff_ne.mpr h]]
    show (((BitVec.setWidth 32 0#1).toInt : ℝ) : EReal) = 0
    rw [show (BitVec.setWidth 32 0#1).toInt = 0 by decide]; simp

/-- It is the book's column. -/
theorem pick_apply (E : FVec Ideal S256x512 .f32) (w : IVec S1x1152 32) (c : Fin 256) (r : Fin 1152) (k : Fin 512)
    (h : w (ix2 0 r) = BitVec.ofNat 32 k.val) : pick E w (ix2 c r) = E (ix2 c k) := by
  refine (Ideal.matmul_plain_apply (φ₁ := .f32) (φ₂ := .f32) (some .fp32) E _ _ c r).trans ?_
  rw [show (constant S256x1152 .f32 0x00000000#32 : FVec Ideal _ .f32) (ix2 c r) = 0 from Ideal.ofBits_zero_f32, zero_add]
  have one : ∀ j : Fin 512, (sitofp .f32 (extui 32 (cmpi .eq (iota .tc S512x1152 32 [0] iota_S512x1152_d0_w32)
      (broadcastTo S512x1152 w broadcasts_S1x1152_S512x1152)) natLt_1_32) : FVec Ideal S512x1152 .f32) (ix2 j r)
      = if j = k then 1 else 0 := by
    intro j
    refine (sitofp_eq (iota .tc S512x1152 32 [0] iota_S512x1152_d0_w32 (ix2 j r))
      (broadcastTo S512x1152 w broadcasts_S1x1152_S512x1152 (ix2 j r))).trans ?_
    rw [down_apply, h]
    have ei : iota .tc S512x1152 32 [0] iota_S512x1152_d0_w32 (ix2 j r) = BitVec.ofNat 32 j.val := by
      show BitVec.ofNat 32 (0 * 512 + j.val) = _
      rw [Nat.zero_mul, Nat.zero_add]
    rw [ei]
    by_cases e : j = k
    · rw [e, if_pos rfl, if_pos rfl]
    · rw [if_neg e, if_neg fun g => e (word_inj g)]
  rw [Finset.sum_eq_single k]
  · rw [one, if_pos rfl, mul_one]
  · intro j _ hj
    rw [one, if_neg hj, mul_zero]
  · intro hk
    exact absurd (Finset.mem_univ k) hk

/-! ## The column sums of 256 rows in the order of eight lanes -/

/-- Eight rows from row `o` on are inside. -/
theorem slices_eight (o : ℕ) (ho : o ≤ 248) : (⟨2, ![256, 1152]⟩ : Shape).Slices ![o, 0] ⟨2, ![8, 1152]⟩ :=
  ⟨rfl, fun a => match a with
    | ⟨0, _⟩ => by show o + 8 ≤ 256; omega
    | ⟨1, _⟩ => by show 0 + 1152 ≤ 1152; omega⟩

/-- Eight rows from row `o` on. -/
abbrev eight (A : FVec Ideal S256x1152 .f32) (o : ℕ) (ho : o ≤ 248) : FVec Ideal S8x1152 .f32 :=
  extractStridedSlice S8x1152 ![o, 0] A (slices_eight o ho)

/-- One of eight rows is inside. -/
theorem slices_one (j : ℕ) (hj : j ≤ 7) : (⟨2, ![8, 1152]⟩ : Shape).Slices ![j, 0] ⟨2, ![1, 1152]⟩ :=
  ⟨rfl, fun a => match a with
    | ⟨0, _⟩ => by show j + 1 ≤ 8; omega
    | ⟨1, _⟩ => by show 0 + 1152 ≤ 1152; omega⟩

/-- One of eight rows. -/
abbrev one (L : FVec Ideal S8x1152 .f32) (j : ℕ) (hj : j ≤ 7) : FVec Ideal S1x1152 .f32 :=
  extractStridedSlice S1x1152 ![j, 0] L (slices_one j hj)

/-- Sixteen times eight rows from row `o` on, added first to last. -/
abbrev half (A : FVec Ideal S256x1152 .f32) (o : ℕ) (ho : o ≤ 128) : FVec Ideal S8x1152 .f32 :=
  addf (addf (addf (addf (addf (addf (addf (addf (addf (addf (addf (addf (addf (addf (addf (eight A o (by omega))
    (eight A (8 + o) (by omega))) (eight A (16 + o) (by omega))) (eight A (24 + o) (by omega))) (eight A (32 + o) (by omega)))
    (eight A (40 + o) (by omega))) (eight A (48 + o) (by omega))) (eight A (56 + o) (by omega))) (eight A (64 + o) (by omega)))
    (eight A (72 + o) (by omega))) (eight A (80 + o) (by omega))) (eight A (88 + o) (by omega))) (eight A (96 + o) (by omega)))
    (eight A (104 + o) (by omega))) (eight A (112 + o) (by omega))) (eight A (120 + o) (by omega))

/-- The eight rows added in pairs. -/
abbrev pairs (L : FVec Ideal S8x1152 .f32) : FVec Ideal S1x1152 .f32 :=
  addf (addf (addf (one L 3 (by omega)) (one L 7 (by omega))) (addf (one L 1 (by omega)) (one L 5 (by omega))))
    (addf (addf (one L 2 (by omega)) (one L 6 (by omega))) (addf (one L 0 (by omega)) (one L 4 (by omega))))

/-- The sums of the columns. -/
abbrev colSum (A : FVec Ideal S256x1152 .f32) : FVec Ideal S1x1152 .f32 :=
  addf (pairs (half A 0 (by omega))) (pairs (half A 128 (by omega)))

/-- A row of eight at an entry. -/
theorem one_apply (L : FVec Ideal S8x1152 .f32) (j : ℕ) (hj : j ≤ 7) (r : Fin 1152) :
    one L j hj (ix2 0 r) = L (ix2 ⟨j, by omega⟩ r) :=
  extractStridedSlice_apply ![j, 0] L (slices_one j hj) (ix2 0 r) (ix2 ⟨j, by omega⟩ r) fun a => match a with
    | ⟨0, _⟩ => rfl
    | ⟨1, _⟩ => (Nat.zero_add _).symm

/-- Eight rows at an entry. -/
theorem eight_apply (A : FVec Ideal S256x1152 .f32) (f : ℕ → EReal) (r : Fin 1152) (hf : ∀ c : Fin 256, A (ix2 c r) = f c.val)
    (o : ℕ) (ho : o ≤ 248) (j : Fin 8) : eight A o ho (ix2 j r) = f (o + j.val) :=
  (extractStridedSlice_apply ![o, 0] A (slices_eight o ho) (ix2 j r) (ix2 ⟨o + j.val, by omega⟩ r) fun a => match a with
    | ⟨0, _⟩ => rfl
    | ⟨1, _⟩ => (Nat.zero_add _).symm).trans (hf _)

/-- Sixteen times eight rows at an entry: a lane. -/
theorem half_apply (A : FVec Ideal S256x1152 .f32) (f : ℕ → EReal) (r : Fin 1152) (hf : ∀ c : Fin 256, A (ix2 c r) = f c.val)
    (o : ℕ) (ho : o ≤ 128) (j : Fin 8) : half A o ho (ix2 j r) = lane f (o + j.val) := by
  have e := eight_apply A f r hf
  unfold lane half
  simp only [addf_apply, e, Nat.add_assoc]

/-- Eight rows of lanes added in pairs, at an entry. -/
theorem pairs_apply (A : FVec Ideal S256x1152 .f32) (f : ℕ → EReal) (r : Fin 1152) (hf : ∀ c : Fin 256, A (ix2 c r) = f c.val)
    (o : ℕ) (ho : o ≤ 128) : pairs (half A o ho) (ix2 0 r) = lanes f o := by
  have e : ∀ j (hj : j ≤ 7), one (half A o ho) j hj (ix2 0 r) = lane f (o + j) := fun j hj =>
    (one_apply _ j hj r).trans (half_apply A f r hf o ho ⟨j, by omega⟩)
  unfold pairs lanes
  simp only [addf_apply]
  rw [e 0, e 1, e 2, e 3, e 4, e 5, e 6, e 7]
  rfl

/-- It is the sum of the column. -/
theorem colSum_apply (A : FVec Ideal S256x1152 .f32) (r : Fin 1152) : colSum A (ix2 0 r) = ∑ c : Fin 256, A (ix2 c r) := by
  let f : ℕ → EReal := fun n => if h : n < 256 then A (ix2 ⟨n, h⟩ r) else 0
  have hf : ∀ c : Fin 256, A (ix2 c r) = f c.val := fun c => by simp only [f, dif_pos c.isLt]
  refine (congrArg₂ (· + ·) (pairs_apply A f r hf 0 (by omega)) (pairs_apply A f r hf 128 (by omega))).trans ?_
  rw [lanes_add]
  exact Finset.sum_congr rfl fun c _ => (hf c).symm

end Cert.Vq

end
-- ==== Proof.Body.lean ====
/- The launch's body read stage by stage: each value it stores or passes on lays out a stage of the network. -/
module

public import proofs.«01_k».proof.Proof.FrameI
public import proofs.«01_k».proof.Proof.Ops

@[expose] public section

noncomputable section

namespace Cert.Vq.Body

open Idealize.ShloMosaic Idealize.ShloMosaic.ValueIdx Cert.KernelIdeal Cert.KernelIdeal.Gen
open scoped BigOperators

/-- One tap's matrix is inside the stack of nine. -/
theorem inb_tap (a b : ℕ) (t : Fin 9) : ∀ i, (![t.val, 0, 0] : Fin 3 → ℕ) i + (![1, a, b] : Fin 3 → ℕ) i ≤ (⟨3, ![9, a, b]⟩ : Shape).size i :=
  fun i => match i with
    | ⟨0, _⟩ => by show t.val + 1 ≤ 9; omega
    | ⟨1, _⟩ => by show 0 + a ≤ a; omega
    | ⟨2, _⟩ => by show 0 + b ≤ b; omega

/-- One tap's matrix without its leading axis holds the same numbers. -/
theorem casts_tap (a b : ℕ) : (⟨3, ![1, a, b]⟩ : Shape).ShapeCasts ⟨2, ![a, b]⟩ := by
  simp [Shape.ShapeCasts, Shape.numel, Fin.prod_univ_succ]

/-- A tap's matrix as the body loads it. -/
abbrev slab {a b : ℕ} (x : Vec Ideal ⟨3, ![9, a, b]⟩ .bf16) (t : Fin 9) : Mat a b :=
  shapeCast ⟨2, ![a, b]⟩ (View.ld x (Rect.unit (s := ⟨3, ![9, a, b]⟩) ![t.val, 0, 0] ![1, a, b] (inb_tap a b t))) (casts_tap a b)

/-- A tap's matrix at an entry. -/
theorem slab_apply {a b : ℕ} (x : Vec Ideal ⟨3, ![9, a, b]⟩ .bf16) (t : Fin 9) (i : Fin a) (j : Fin b) :
    slab x t (ix2 i j) = x (ix3 t i j) := by
  refine (shapeCast_apply (View.ld x (Rect.unit (s := ⟨3, ![9, a, b]⟩) ![t.val, 0, 0] ![1, a, b] (inb_tap a b t))) (casts_tap a b) (ix2 i j) (ix3 0 i j) ?_).trans ?_
  · rw [Shape.rowMajor_val_two, Shape.rowMajor_val_three]
    show (0 * a + i.val) * b + j.val = i.val * b + j.val
    rw [Nat.zero_mul, Nat.zero_add]
  · rw [View.ld_unit]
    exact extractStridedSlice_apply _ x _ (ix3 0 i j) (ix3 t i j) fun d => match d with
      | ⟨0, _⟩ => rfl
      | ⟨1, _⟩ => (Nat.zero_add _).symm
      | ⟨2, _⟩ => (Nat.zero_add _).symm

variable {x0 : Vec Ideal S1184x512 .bf16} {x1 : Vec Ideal S1152x1 .f32} {x2 : Vec Ideal S1x1152 .f32}
  {x3 : Vec Ideal S9x256x512 .bf16} {x4 : Vec Ideal S1x256 .f32} {x5 : Vec Ideal S9x256x256 .bf16} {x6 : Vec Ideal S1x256 .f32}
  {x7 : Vec Ideal S9x256x256 .bf16} {x8 : Vec Ideal S1x256 .f32} {x9 : Vec Ideal S256x256 .bf16} {x10 : Vec Ideal S1x256 .f32}
  {x11 : Vec Ideal S512x256 .bf16} {x12 : Vec Ideal S512x1 .f32} {x13 : Vec Ideal S256x512 .f32}
  {x14 : Vec Ideal S9x256x256 .bf16} {x15 : Vec Ideal S1x256 .f32} {x16 : Vec Ideal S9x256x256 .bf16} {x17 : Vec Ideal S1x256 .f32}
  {x18 : Vec Ideal S256x256 .bf16} {x19 : Vec Ideal S1x256 .f32} {x20 : Vec Ideal S9x256x512 .bf16} {x21 : Vec Ideal S1x512 .f32}

/-- The taps of a stack, output channel first. -/
abbrev taps {a b : ℕ} (x : (⟨3, ![9, a, b]⟩ : Shape).Idx → EReal) : Fin 9 → Fin a → Fin b → EReal := fun t o k => x (ix3 t o k)
/-- The single tap of a matrix. -/
abbrev tap {a b : ℕ} (x : Mat a b) : Fin a → Fin b → EReal := fun o k => x (ix2 o k)
/-- The entries of a row. -/
abbrev line {a : ℕ} (x : Mat 1 a) : Fin a → EReal := fun o => x (ix2 0 o)

/-- A load of the whole buffer, cast to its own shape. -/
theorem whole_cast {s : Shape} {e : EltTy} (x : Vec Ideal s e) {off : Fin s.rank → ℕ} (h : off = fun _ => 0) (inb) (hc : s.ShapeCasts s) :
    shapeCast s (View.ld x (Rect.unit off s.size inb)) hc = x := by
  rw [View.ld_unit_zero h]
  exact shapeCast_self x hc

/-- The rows' product with 512 channels in, by the transposed weights. -/
theorem dot_512_256 : dot_S1152x512_S256x512_S1152x256_1_1_0_0_n_n = DotDims.transposedRhs 1152 512 256 := rfl
/-- The rows' product with 256 channels in, by the transposed weights. -/
theorem dot_256_256 : dot_S1152x256_S256x256_S1152x256_1_1_0_0_n_n = DotDims.transposedRhs 1152 256 256 := rfl
/-- The rows' product with 256 channels in and 512 out. -/
theorem dot_256_512 : dot_S1152x256_S256x512_S1152x512_1_0_0_1_n_n = DotDims.plain 1152 256 512 := rfl

set_option maxRecDepth 16384

/-- The first stage, as the body spells it. -/
theorem pay73_eq : k0_pay73 x0 x1 x2 x3 x4 x5 x6 x7 x8 x9 x10 x11 x12 x13 x14 x15 x16 x17 x18 x19 x20 x21
    = repad (reluT (convT (shapeCast S1184x512 (View.ld x0 r0_1) shapeCasts_S1184x512_S1184x512) (slab x3)
        (shapeCast S1x256 (View.ld x4 r0_2) shapeCasts_S1x256_S1x256) (View.ld x1 r0_0))) := by
  simp only [k0_pay73, k0_pay6, k0_pay69, k0_pay70, k0_pay71, k0_pay72, k0_pay2, k0_pay3, k0_pay4, k0_pay5, dot_512_256]
  rfl

/-- The second convolution, as the body spells it. -/
theorem pay77_eq : k0_pay77 x0 x1 x2 x3 x4 x5 x6 x7 x8 x9 x10 x11 x12 x13 x14 x15 x16 x17 x18 x19 x20 x21
    = convT (k0_pay73 x0 x1 x2 x3 x4 x5 x6 x7 x8 x9 x10 x11 x12 x13 x14 x15 x16 x17 x18 x19 x20 x21) (slab x5) (shapeCast S1x256 (View.ld x6 r0_2) shapeCasts_S1x256_S1x256) (View.ld x1 r0_0) := by
  simp only [k0_pay77, k0_pay13, k0_pay74, k0_pay75, k0_pay76, k0_pay7, k0_pay11, k0_pay12, k0_pay8, k0_pay9, k0_pay10, dot_256_256]
  rfl

/-- The encoder's output, columns for rows, as the body spells it. -/
theorem pay81_eq : k0_pay81 x0 x1 x2 x3 x4 x5 x6 x7 x8 x9 x10 x11 x12 x13 x14 x15 x16 x17 x18 x19 x20 x21
    = transpose S256x1152 [1, 0] (addf (F := Ideal) (φ := .f32) (k0_pay77 x0 x1 x2 x3 x4 x5 x6 x7 x8 x9 x10 x11 x12 x13 x14 x15 x16 x17 x18 x19 x20 x21)
        (conv1T (reluT (convT (repad (reluT (k0_pay77 x0 x1 x2 x3 x4 x5 x6 x7 x8 x9 x10 x11 x12 x13 x14 x15 x16 x17 x18 x19 x20 x21))) (slab x7)
            (shapeCast S1x256 (View.ld x8 r0_2) shapeCasts_S1x256_S1x256) (View.ld x1 r0_0)))
          (shapeCast S256x256 (View.ld x9 r0_21) shapeCasts_S256x256_S256x256)
          (shapeCast S1x256 (View.ld x10 r0_2) shapeCasts_S1x256_S1x256) (View.ld x1 r0_0)))
        transposes_S1152x256_p1_0_S256x1152 := by
  simp only [k0_pay81, k0_pay20, k0_pay78, k0_pay79, k0_pay18, k0_pay14, k0_pay15, k0_pay16, k0_pay17, k0_pay19, dot_256_256]
  rfl

/-- The decoder's first convolution, as the body spells it. -/
theorem pay100_eq : k0_pay100 x0 x1 x2 x3 x4 x5 x6 x7 x8 x9 x10 x11 x12 x13 x14 x15 x16 x17 x18 x19 x20 x21
    = convT (k0_pay96 x0 x1 x2 x3 x4 x5 x6 x7 x8 x9 x10 x11 x12 x13 x14 x15 x16 x17 x18 x19 x20 x21) (slab x14) (shapeCast S1x256 (View.ld x15 r0_2) shapeCasts_S1x256_S1x256) (View.ld x1 r0_0) := by
  simp only [k0_pay100, k0_pay97, k0_pay98, k0_pay99, k0_pay54, k0_pay55, k0_pay56, k0_pay57, dot_256_256]
  rfl

/-- The decoder's last stage before the output convolution, as the body spells it. -/
theorem pay102_eq : k0_pay102 x0 x1 x2 x3 x4 x5 x6 x7 x8 x9 x10 x11 x12 x13 x14 x15 x16 x17 x18 x19 x20 x21
    = repad (truncf (F := Ideal) (φ := .f32) .bf16 (addf (F := Ideal) (φ := .f32) (k0_pay100 x0 x1 x2 x3 x4 x5 x6 x7 x8 x9 x10 x11 x12 x13 x14 x15 x16 x17 x18 x19 x20 x21)
        (conv1T (reluT (convT (repad (reluT (k0_pay100 x0 x1 x2 x3 x4 x5 x6 x7 x8 x9 x10 x11 x12 x13 x14 x15 x16 x17 x18 x19 x20 x21))) (slab x16)
            (shapeCast S1x256 (View.ld x17 r0_2) shapeCasts_S1x256_S1x256) (View.ld x1 r0_0)))
          (shapeCast S256x256 (View.ld x18 r0_21) shapeCasts_S256x256_S256x256)
          (shapeCast S1x256 (View.ld x19 r0_2) shapeCasts_S1x256_S1x256) (View.ld x1 r0_0))) bitsLt_bf16_f32) := by
  simp only [k0_pay102, k0_pay63, k0_pay101, k0_pay62, k0_pay58, k0_pay59, k0_pay60, k0_pay61, dot_256_256]
  rfl

/-- The reconstruction's buffer, as the body spells it. -/
theorem out22_eq : out0_22 x0 x1 x2 x3 x4 x5 x6 x7 x8 x9 x10 x11 x12 x13 x14 x15 x16 x17 x18 x19 x20 x21
    = transpose S512x1152 [1, 0] (convN (k0_pay102 x0 x1 x2 x3 x4 x5 x6 x7 x8 x9 x10 x11 x12 x13 x14 x15 x16 x17 x18 x19 x20 x21) (slab x20)
        (shapeCast S1x512 (View.ld x21 r0_27) shapeCasts_S1x512_S1x512) (View.ld x1 r0_0)) transposes_S1152x512_p1_0_S512x1152 := by
  unfold out0_22
  rw [View.canon_unit_zero (by decide)]
  simp only [k0_pay1, k0_pay64, k0_pay65, k0_pay66, k0_pay67, k0_pay68, dot_256_512]
  rfl

end Cert.Vq.Body

end
-- ==== Proof.Settle.lean ====
/- The kernel's choice among three candidates, and the launch's body read as that search: what it stores as the
   nearest entry, and what it feeds to the decoder. -/
module

public import proofs.«01_k».proof.Proof.Quant
public import proofs.«01_k».proof.Proof.Body

@[expose] public section

noncomputable section

namespace Cert.Vq

open Idealize.ShloMosaic Idealize.ShloMosaic.ValueIdx Cert.KernelIdeal Cert.KernelIdeal.Gen
open scoped BigOperators

/-- A candidate is better than the best so far: nearer, or as near and earlier. -/
abbrev better (d e : FVec Ideal S1x1152 .f32) (i j : IVec S1x1152 32) : IVec S1x1152 1 :=
  ori (cmpf .olt d e) (andi (cmpf .oeq d e) (cmpi .slt i j))

/-- A number that is one in the columns where two words agree, and zero in the others. -/
abbrev agree (i j : IVec S1x1152 32) : FVec Ideal S256x1152 .f32 :=
  broadcastTo S256x1152 (sitofp .f32 (extui 32 (cmpi .eq i j) natLt_1_32) : FVec Ideal S1x1152 .f32) broadcasts_S1x1152_S256x1152

/-- The best of three numbers. -/
abbrev best (i1 i2 i3 : IVec S1x1152 32) (d1 d2 d3 : FVec Ideal S1x1152 .f32) : IVec S1x1152 32 :=
  select (better d3 (select (better d2 d1 i2 i1) d2 d1) i3 (select (better d2 d1 i2 i1) i2 i1)) i3 (select (better d2 d1 i2 i1) i2 i1)

/-- The first column moved to the second where the second is best. -/
abbrev step (b i : IVec S1x1152 32) (e f : FVec Ideal S256x1152 .f32) : FVec Ideal S256x1152 .f32 :=
  addf e (mulf (agree b i) (subf f e))

/-- A word that is not below another. -/
theorem slt_word {i j : Fin 512} (h : j ≤ i) : IntOp.cmpi .slt (BitVec.ofNat 32 i.val) (BitVec.ofNat 32 j.val) = 0#1 := by
  have : ¬ (BitVec.ofNat 32 i.val).toInt < (BitVec.ofNat 32 j.val).toInt := by
    rw [toInt_word, toInt_word]
    have := Fin.le_def.mp h
    omega
  simp [IntOp.cmpi, BitVec.slt, this]

/-- A candidate that is no nearer, and later when as near, is not better. -/
theorem better_apply (d e : FVec Ideal S1x1152 .f32) (i j : IVec S1x1152 32) (r : Fin 1152) (k l : Fin 512)
    (hi : i (ix2 0 r) = BitVec.ofNat 32 k.val) (hj : j (ix2 0 r) = BitVec.ofNat 32 l.val)
    (hd : e (ix2 0 r) ≤ d (ix2 0 r)) (hk : d (ix2 0 r) ≤ e (ix2 0 r) → l ≤ k) : better d e i j (ix2 0 r) = 0#1 := by
  show IntOp.ori (BitVec.ofBool (decide (d (ix2 0 r) < e (ix2 0 r))))
    (IntOp.andi (BitVec.ofBool (decide (d (ix2 0 r) = e (ix2 0 r)))) (IntOp.cmpi .slt (i (ix2 0 r)) (j (ix2 0 r)))) = 0#1
  rw [decide_eq_false (not_lt.mpr hd), hi, hj]
  by_cases h : d (ix2 0 r) = e (ix2 0 r)
  · rw [slt_word (hk h.le), decide_eq_true h]; decide
  · rw [decide_eq_false h]
    rcases BitVec.eq_zero_or_eq_one (IntOp.cmpi .slt (BitVec.ofNat 32 k.val) (BitVec.ofNat 32 l.val)) with g | g <;> rw [g] <;> decide

/-- The first of three candidates stays the best when it is the nearest and the first of the nearest. -/
theorem best_apply (i1 i2 i3 : IVec S1x1152 32) (d1 d2 d3 : FVec Ideal S1x1152 .f32) (r : Fin 1152) (k1 k2 k3 : Fin 512)
    (h1 : i1 (ix2 0 r) = BitVec.ofNat 32 k1.val) (h2 : i2 (ix2 0 r) = BitVec.ofNat 32 k2.val)
    (h3 : i3 (ix2 0 r) = BitVec.ofNat 32 k3.val) (D : Fin 512 → EReal) (hD : Least D k1)
    (g1 : d1 (ix2 0 r) = D k1) (g2 : d2 (ix2 0 r) = D k2) (g3 : d3 (ix2 0 r) = D k3) :
    best i1 i2 i3 d1 d2 d3 (ix2 0 r) = BitVec.ofNat 32 k1.val := by
  have b2 : better d2 d1 i2 i1 (ix2 0 r) = 0#1 := better_apply d2 d1 i2 i1 r k2 k1 h2 h1 (by rw [g1, g2]; exact hD.1 _)
    (by rw [g1, g2]; exact hD.2 _)
  have s2 : select (better d2 d1 i2 i1) i2 i1 (ix2 0 r) = BitVec.ofNat 32 k1.val := by rw [select_apply, b2, select_zero, h1]
  have t2 : select (better d2 d1 i2 i1) d2 d1 (ix2 0 r) = D k1 := by rw [select_apply, b2, select_zero, g1]
  have b3 := better_apply d3 (select (better d2 d1 i2 i1) d2 d1) i3 (select (better d2 d1 i2 i1) i2 i1) r k3 k1 h3 s2
    (by rw [t2, g3]; exact hD.1 _) (by rw [t2, g3]; exact hD.2 _)
  show select _ i3 (select (better d2 d1 i2 i1) i2 i1) (ix2 0 r) = _
  rw [select_apply, b3, select_zero, s2]

/-- Moving a finite number to one it equals, or nowhere, leaves it. -/
theorem step_apply (b i : IVec S1x1152 32) (e f : FVec Ideal S256x1152 .f32) (c : Fin 256) (r : Fin 1152)
    (k l : Fin 512) (hb : b (ix2 0 r) = BitVec.ofNat 32 k.val) (hi : i (ix2 0 r) = BitVec.ofNat 32 l.val)
    (E : Fin 512 → EReal) (hE : ∀ k, IsFin (E k)) (he : e (ix2 c r) = E k) (hf : f (ix2 c r) = E l) :
    step b i e f (ix2 c r) = E k := by
  have ea : agree b i (ix2 c r) = if k = l then 1 else 0 := by
    refine (down_apply _ _ c r).trans ((sitofp_eq (b (ix2 0 r)) (i (ix2 0 r))).trans ?_)
    rw [hb, hi]
    by_cases h : k = l
    · rw [h, if_pos rfl, if_pos rfl]
    · rw [if_neg h, if_neg fun g => h (word_inj g)]
  show e (ix2 c r) + agree b i (ix2 c r) * (f (ix2 c r) - e (ix2 c r)) = E k
  rw [ea, he, hf]
  by_cases h : k = l
  · obtain ⟨x, hx⟩ := hE l
    rw [if_pos h, h, one_mul, hx, ← EReal.coe_sub, sub_self, EReal.coe_zero, add_zero]
  · rw [if_neg h, zero_mul, add_zero]

/-- The scores of the pixels' columns. -/
abbrev scores (a : FVec Ideal S512x256 .bf16) (q : FVec Ideal S512x1 .f32) (z : FVec Ideal S256x1152 .f32) : FVec Ideal S512x1152 .f32 :=
  subf (broadcastTo S512x1152 q broadcasts_S512x1_S512x1152) (mulf (broadcast S512x1152 (Scalar.ofBits .f32 0x40000000#32))
    (matmul dot_S512x256_S256x1152_S512x1152_1_0_0_1_n_n none a (truncf .bf16 z bitsLt_bf16_f32) (constant S512x1152 .f32 0x00000000#32)))

/-- The two word. -/
theorem ofBits_two : Ideal.ofBits .f32 0x40000000#32 = 2 := by
  simp [Ideal.ofBits, Ideal.ieee, -EReal.coe_mul]; norm_num; rfl

/-- A score is the book's square less twice the product. -/
theorem scores_apply (a : FVec Ideal S512x256 .bf16) (q : FVec Ideal S512x1 .f32) (z : FVec Ideal S256x1152 .f32) (k : Fin 512)
    (r : Fin 1152) (e : Fin 256 → EReal) (ha : ∀ c, a (ix2 k c) = e c) (hq : q (ix2 k 0) = ∑ c, e c * e c) :
    scores a q z (ix2 k r) = score e fun c => z (ix2 c r) := by
  show broadcastTo S512x1152 q broadcasts_S512x1_S512x1152 (ix2 k r) - Ideal.ofBits .f32 0x40000000#32 * matmul _ none a _ _ (ix2 k r) = _
  have eq : broadcastTo S512x1152 q broadcasts_S512x1_S512x1152 (ix2 k r) = q (ix2 k 0) :=
    broadcastTo_apply q broadcasts_S512x1_S512x1152 (ix2 k r) (ix2 k 0) fun a => match a with
      | ⟨0, _⟩ => rfl
      | ⟨1, _⟩ => rfl
  rw [eq, hq, ofBits_two]
  unfold score
  refine congrArg (fun x => (∑ c, e c * e c) - 2 * x) ?_
  refine (Ideal.matmul_plain_apply (φ₁ := .bf16) (φ₂ := .bf16) none a _ _ k r).trans ?_
  rw [show (constant S512x1152 .f32 0x00000000#32 : FVec Ideal _ .f32) (ix2 k r) = 0 from Ideal.ofBits_zero_f32, zero_add]
  exact Finset.sum_congr rfl fun c _ => by rw [ha]; rfl

/-- The scores without the entry already taken. -/
abbrev without (S : FVec Ideal S512x1152 .f32) (w : IVec S1x1152 32) : FVec Ideal S512x1152 .f32 :=
  select (cmpi .eq (iota .tc S512x1152 32 [0] iota_S512x1152_d0_w32) (broadcastTo S512x1152 w broadcasts_S1x1152_S512x1152))
    (broadcast S512x1152 (Scalar.ofBits .f32 0x7F800000#32)) S

/-- The squared distances of two arrays of columns. -/
abbrev distT (e z : FVec Ideal S256x1152 .f32) : FVec Ideal S1x1152 .f32 := colSum (mulf (subf e z) (subf e z))

/-- A squared distance. -/
theorem distT_apply (e z : FVec Ideal S256x1152 .f32) (r : Fin 1152) :
    distT e z (ix2 0 r) = dist (fun c => e (ix2 c r)) fun c => z (ix2 c r) := colSum_apply _ r

/-- The whole search: three candidates, their columns and their distances, and the best. -/
abbrev search (S : FVec Ideal S512x1152 .f32) (E : FVec Ideal S256x512 .f32) (z : FVec Ideal S256x1152 .f32) : FVec Ideal S256x1152 .f32 :=
  let i1 := firstMin S
  let i2 := firstMin (without S i1)
  let i3 := firstMin (without (without S i1) i2)
  let b := best i1 i2 i3 (distT (pick E i1) z) (distT (pick E i2) z) (distT (pick E i3) z)
  step b i3 (step b i2 (pick E i1) (pick E i2)) (pick E i3)

/-- It finds the nearest entry. -/
theorem search_apply (S : FVec Ideal S512x1152 .f32) (E : FVec Ideal S256x512 .f32) (z : FVec Ideal S256x1152 .f32) (r : Fin 1152)
    (hS : ∀ k, S (ix2 k r) = score (fun c => E (ix2 c k)) fun c => z (ix2 c r)) (hE : ∀ i, IsFin (E i)) (hz : ∀ c, IsFin (z (ix2 c r)))
    (c : Fin 256) : search S E z (ix2 c r) = E (ix2 c (nearest fun k => dist (fun c => E (ix2 c k)) fun c => z (ix2 c r))) := by
  have h1 := firstMin_apply S r
  have h2 := firstMin_apply (without S (firstMin S)) r
  have h3 := firstMin_apply (without (without S (firstMin S)) (firstMin (without S (firstMin S)))) r
  rw [show (fun k => S (ix2 k r)) = fun k => score (fun c => E (ix2 c k)) fun c => z (ix2 c r) from funext hS,
    nearest_score (E := fun k c => E (ix2 c k)) (fun k c => hE _) hz] at h1
  have hd : ∀ (w : IVec S1x1152 32) (k : Fin 512), w (ix2 0 r) = BitVec.ofNat 32 k.val →
      distT (pick E w) z (ix2 0 r) = dist (fun c => E (ix2 c k)) fun c => z (ix2 c r) := fun w k h => by
    rw [distT_apply]
    exact congrArg (fun e => dist e _) (funext fun c => pick_apply E w c r k h)
  have hb := best_apply _ _ _ _ _ _ r _ _ _ h1 h2 h3 (fun k => dist (fun c => E (ix2 c k)) fun c => z (ix2 c r)) (nearest_least _)
    (hd _ _ h1) (hd _ _ h2) (hd _ _ h3)
  have hp := fun (w : IVec S1x1152 32) k h => pick_apply E w c r k h
  exact step_apply _ _ _ _ c r _ _ hb h3 (fun k => E (ix2 c k)) (fun k => hE _)
    (step_apply _ _ _ _ c r _ _ hb h2 (fun k => E (ix2 c k)) (fun k => hE _) (hp _ _ h1) (hp _ _ h2)) (hp _ _ h3)

end Cert.Vq

namespace Cert.Vq.Body

open Idealize.ShloMosaic Idealize.ShloMosaic.ValueIdx Cert.KernelIdeal Cert.KernelIdeal.Gen

variable {x0 : Vec Ideal S1184x512 .bf16} {x1 : Vec Ideal S1152x1 .f32} {x2 : Vec Ideal S1x1152 .f32}
  {x3 : Vec Ideal S9x256x512 .bf16} {x4 : Vec Ideal S1x256 .f32} {x5 : Vec Ideal S9x256x256 .bf16} {x6 : Vec Ideal S1x256 .f32}
  {x7 : Vec Ideal S9x256x256 .bf16} {x8 : Vec Ideal S1x256 .f32} {x9 : Vec Ideal S256x256 .bf16} {x10 : Vec Ideal S1x256 .f32}
  {x11 : Vec Ideal S512x256 .bf16} {x12 : Vec Ideal S512x1 .f32} {x13 : Vec Ideal S256x512 .f32}
  {x14 : Vec Ideal S9x256x256 .bf16} {x15 : Vec Ideal S1x256 .f32} {x16 : Vec Ideal S9x256x256 .bf16} {x17 : Vec Ideal S1x256 .f32}
  {x18 : Vec Ideal S256x256 .bf16} {x19 : Vec Ideal S1x256 .f32} {x20 : Vec Ideal S9x256x512 .bf16} {x21 : Vec Ideal S1x512 .f32}

set_option maxRecDepth 16384

/-- The distance to the first candidate, as the body spells it. -/
theorem pay91_eq : k0_pay91 x0 x1 x2 x3 x4 x5 x6 x7 x8 x9 x10 x11 x12 x13 x14 x15 x16 x17 x18 x19 x20 x21
    = distT (k0_pay87 x0 x1 x2 x3 x4 x5 x6 x7 x8 x9 x10 x11 x12 x13 x14 x15 x16 x17 x18 x19 x20 x21)
        (k0_pay81 x0 x1 x2 x3 x4 x5 x6 x7 x8 x9 x10 x11 x12 x13 x14 x15 x16 x17 x18 x19 x20 x21) := by
  simp only [k0_pay91, k0_pay42, k0_pay34, k0_pay90, k0_pay33, k0_pay36, k0_pay37, k0_pay38, k0_pay39, k0_pay40, k0_pay41, k0_pay35, k0_pay32, k0_pay87]

/-- The distance to the second. -/
theorem pay92_eq : k0_pay92 x0 x1 x2 x3 x4 x5 x6 x7 x8 x9 x10 x11 x12 x13 x14 x15 x16 x17 x18 x19 x20 x21
    = distT (k0_pay88 x0 x1 x2 x3 x4 x5 x6 x7 x8 x9 x10 x11 x12 x13 x14 x15 x16 x17 x18 x19 x20 x21)
        (k0_pay81 x0 x1 x2 x3 x4 x5 x6 x7 x8 x9 x10 x11 x12 x13 x14 x15 x16 x17 x18 x19 x20 x21) := by
  simp only [k0_pay92, k0_pay47, k0_pay43, k0_pay44, k0_pay45, k0_pay46]

/-- The distance to the third. -/
theorem pay95_eq : addf (k0_pay94 x0 x1 x2 x3 x4 x5 x6 x7 x8 x9 x10 x11 x12 x13 x14 x15 x16 x17 x18 x19 x20 x21) (pairs (k0_pay95 x0 x1 x2 x3 x4 x5 x6 x7 x8 x9 x10 x11 x12 x13 x14 x15 x16 x17 x18 x19 x20 x21))
    = distT (k0_pay89 x0 x1 x2 x3 x4 x5 x6 x7 x8 x9 x10 x11 x12 x13 x14 x15 x16 x17 x18 x19 x20 x21)
        (k0_pay81 x0 x1 x2 x3 x4 x5 x6 x7 x8 x9 x10 x11 x12 x13 x14 x15 x16 x17 x18 x19 x20 x21) := by
  simp only [k0_pay94, k0_pay95, k0_pay50, k0_pay49, k0_pay51, k0_pay93, k0_pay48]

/-- The candidates' numbers and columns, as the body spells them. -/
theorem cand_eq :
    let S := scores (shapeCast S512x256 (View.ld x11 r0_24) shapeCasts_S512x256_S512x256) (shapeCast S512x1 (View.ld x12 r0_23) shapeCasts_S512x1_S512x1)
      (k0_pay81 x0 x1 x2 x3 x4 x5 x6 x7 x8 x9 x10 x11 x12 x13 x14 x15 x16 x17 x18 x19 x20 x21)
    let E := shapeCast S256x512 (View.ld x13 r0_25) shapeCasts_S256x512_S256x512
    k0_pay82 x0 x1 x2 x3 x4 x5 x6 x7 x8 x9 x10 x11 x12 x13 x14 x15 x16 x17 x18 x19 x20 x21 = firstMin S
    ∧ k0_pay83 x0 x1 x2 x3 x4 x5 x6 x7 x8 x9 x10 x11 x12 x13 x14 x15 x16 x17 x18 x19 x20 x21 = firstMin (without S (firstMin S))
    ∧ k0_pay86 x0 x1 x2 x3 x4 x5 x6 x7 x8 x9 x10 x11 x12 x13 x14 x15 x16 x17 x18 x19 x20 x21
      = firstMin (without (without S (firstMin S)) (firstMin (without S (firstMin S))))
    ∧ k0_pay87 x0 x1 x2 x3 x4 x5 x6 x7 x8 x9 x10 x11 x12 x13 x14 x15 x16 x17 x18 x19 x20 x21 = pick E (firstMin S)
    ∧ k0_pay88 x0 x1 x2 x3 x4 x5 x6 x7 x8 x9 x10 x11 x12 x13 x14 x15 x16 x17 x18 x19 x20 x21 = pick E (firstMin (without S (firstMin S)))
    ∧ k0_pay89 x0 x1 x2 x3 x4 x5 x6 x7 x8 x9 x10 x11 x12 x13 x14 x15 x16 x17 x18 x19 x20 x21
      = pick E (firstMin (without (without S (firstMin S)) (firstMin (without S (firstMin S))))) := by
  refine ⟨?_, ?_, ?_, ?_, ?_, ?_⟩ <;>
  · simp only [k0_pay82, k0_pay83, k0_pay84, k0_pay85, k0_pay86, k0_pay87, k0_pay88, k0_pay89, k0_pay80, k0_pay81, k0_pay21, k0_pay22,
      k0_pay23, k0_pay24, k0_pay25, k0_pay26, k0_pay27, k0_pay28, k0_pay29, k0_pay30, k0_pay31]

/-- The nearest entries' buffer, as the body spells it. -/
theorem out24_eq : out0_24 x0 x1 x2 x3 x4 x5 x6 x7 x8 x9 x10 x11 x12 x13 x14 x15 x16 x17 x18 x19 x20 x21
    = search (scores (shapeCast S512x256 (View.ld x11 r0_24) shapeCasts_S512x256_S512x256) (shapeCast S512x1 (View.ld x12 r0_23) shapeCasts_S512x1_S512x1)
        (k0_pay81 x0 x1 x2 x3 x4 x5 x6 x7 x8 x9 x10 x11 x12 x13 x14 x15 x16 x17 x18 x19 x20 x21))
      (shapeCast S256x512 (View.ld x13 r0_25) shapeCasts_S256x512_S256x512)
      (k0_pay81 x0 x1 x2 x3 x4 x5 x6 x7 x8 x9 x10 x11 x12 x13 x14 x15 x16 x17 x18 x19 x20 x21) := by
  obtain ⟨h1, h2, h3, h4, h5, h6⟩ := cand_eq (x0 := x0) (x1 := x1) (x2 := x2) (x3 := x3) (x4 := x4) (x5 := x5) (x6 := x6) (x7 := x7)
    (x8 := x8) (x9 := x9) (x10 := x10) (x11 := x11) (x12 := x12) (x13 := x13) (x14 := x14) (x15 := x15) (x16 := x16) (x17 := x17)
    (x18 := x18) (x19 := x19) (x20 := x20) (x21 := x21)
  unfold out0_24
  rw [View.canon_unit_zero (by decide)]
  show step (best _ _ _ _ _ (addf _ (pairs _))) _ (step (best _ _ _ _ _ (addf _ (pairs _))) _ _ _) _ = _
  rw [pay91_eq, pay92_eq, pay95_eq, h1, h2, h3, h4, h5, h6]

/-- The decoder's input, as the body spells it. -/
theorem pay96_eq : k0_pay96 x0 x1 x2 x3 x4 x5 x6 x7 x8 x9 x10 x11 x12 x13 x14 x15 x16 x17 x18 x19 x20 x21
    = repad (truncf (F := Ideal) (φ := .f32) .bf16 (transpose S1152x256 [1, 0]
        (addf (F := Ideal) (φ := .f32) (k0_pay81 x0 x1 x2 x3 x4 x5 x6 x7 x8 x9 x10 x11 x12 x13 x14 x15 x16 x17 x18 x19 x20 x21)
          (subf (mulf (out0_24 x0 x1 x2 x3 x4 x5 x6 x7 x8 x9 x10 x11 x12 x13 x14 x15 x16 x17 x18 x19 x20 x21)
            (broadcastTo S256x1152 (View.ld x2 r0_26) broadcasts_S1x1152_S256x1152))
            (k0_pay81 x0 x1 x2 x3 x4 x5 x6 x7 x8 x9 x10 x11 x12 x13 x14 x15 x16 x17 x18 x19 x20 x21)))
        transposes_S256x1152_p1_0_S1152x256) bitsLt_bf16_f32) := by
  unfold out0_24
  rw [View.canon_unit_zero (by decide)]
  simp only [k0_pay96, k0_pay53]

/-- The encoder's output buffer holds what the search reads. -/
theorem out23_eq : out0_23 x0 x1 x2 x3 x4 x5 x6 x7 x8 x9 x10 x11 x12 x13 x14 x15 x16 x17 x18 x19 x20 x21
    = k0_pay81 x0 x1 x2 x3 x4 x5 x6 x7 x8 x9 x10 x11 x12 x13 x14 x15 x16 x17 x18 x19 x20 x21 := by
  unfold out0_23
  rw [View.canon_unit_zero (by decide)]
  rfl

end Cert.Vq.Body

end
-- ==== Proof.Net.lean ====
/- The network over images, and the launch's three output buffers as its layouts. -/
module

public import proofs.«01_k».proof.Proof.Settle

@[expose] public section

noncomputable section

namespace Cert.Vq

open Idealize.ShloMosaic Idealize.ShloMosaic.ValueIdx Cert.KernelIdeal Cert.KernelIdeal.Gen
open scoped BigOperators

/-- A residual block: the images plus a small network of their positive part. -/
def resid {c : ℕ} (H : Img c) (W1 : Fin 9 → Fin c → Fin c → EReal) (b1 : Fin c → EReal) (W2 : Fin c → Fin c → EReal)
    (b2 : Fin c → EReal) : Img c := fun i => H i + conv1 (reluI (conv3 (reluI H) W1 b1)) W2 b2 i

/-- The encoder: two convolutions and a residual block. -/
def encode (X : Img 512) (W1 : Fin 9 → Fin 256 → Fin 512 → EReal) (b1 : Fin 256 → EReal) (W2 : Fin 9 → Fin 256 → Fin 256 → EReal)
    (b2 : Fin 256 → EReal) (W3 : Fin 9 → Fin 256 → Fin 256 → EReal) (b3 : Fin 256 → EReal) (W4 : Fin 256 → Fin 256 → EReal)
    (b4 : Fin 256 → EReal) : Img 256 := resid (conv3 (reluI (conv3 X W1 b1)) W2 b2) W3 b3 W4 b4

/-- Every pixel replaced by the nearest entry of the book. -/
def quant (E : Fin 512 → Fin 256 → EReal) (Z : Img 256) : Img 256 := fun i =>
  E (nearest fun k => dist (E k) fun c => Z (ix4 (i 0) c (i 2) (i 3))) (i 1)

/-- The images moved to their entries. -/
def moved (Z Q : Img 256) : Img 256 := fun i => Z i + (Q i - Z i)

/-- The decoder: a convolution, a residual block and the output convolution. -/
def decode (D : Img 256) (W1 : Fin 9 → Fin 256 → Fin 256 → EReal) (b1 : Fin 256 → EReal) (W2 : Fin 9 → Fin 256 → Fin 256 → EReal)
    (b2 : Fin 256 → EReal) (W3 : Fin 256 → Fin 256 → EReal) (b3 : Fin 256 → EReal) (W4 : Fin 9 → Fin 512 → Fin 256 → EReal)
    (b4 : Fin 512 → EReal) : Img 512 := conv3 (resid (conv3 D W1 b1) W2 b2 W3 b3) W4 b4

/-- A residual block of finite numbers is finite. -/
theorem IsFin.resid {c : ℕ} {H : Img c} {W1 : Fin 9 → Fin c → Fin c → EReal} {b1 : Fin c → EReal} {W2 : Fin c → Fin c → EReal}
    {b2 : Fin c → EReal} (hH : ∀ i, IsFin (H i)) (h1 : ∀ t o k, IsFin (W1 t o k)) (g1 : ∀ o, IsFin (b1 o)) (h2 : ∀ o k, IsFin (W2 o k))
    (g2 : ∀ o, IsFin (b2 o)) (i) : IsFin (resid H W1 b1 W2 b2 i) :=
  (hH i).add (IsFin.conv1 (IsFin.reluI (IsFin.conv3 (IsFin.reluI hH) h1 g1)) h2 g2 i)

/-- The encoder of finite numbers is finite. -/
theorem IsFin.encode {X : Img 512} {W1 : Fin 9 → Fin 256 → Fin 512 → EReal} {b1 : Fin 256 → EReal} {W2 : Fin 9 → Fin 256 → Fin 256 → EReal}
    {b2 : Fin 256 → EReal} {W3 : Fin 9 → Fin 256 → Fin 256 → EReal} {b3 : Fin 256 → EReal} {W4 : Fin 256 → Fin 256 → EReal}
    {b4 : Fin 256 → EReal} (hX : ∀ i, IsFin (X i)) (h1 : ∀ t o k, IsFin (W1 t o k)) (g1 : ∀ o, IsFin (b1 o))
    (h2 : ∀ t o k, IsFin (W2 t o k)) (g2 : ∀ o, IsFin (b2 o)) (h3 : ∀ t o k, IsFin (W3 t o k)) (g3 : ∀ o, IsFin (b3 o))
    (h4 : ∀ o k, IsFin (W4 o k)) (g4 : ∀ o, IsFin (b4 o)) (i) : IsFin (encode X W1 b1 W2 b2 W3 b3 W4 b4 i) :=
  IsFin.resid (IsFin.conv3 (IsFin.reluI (IsFin.conv3 hX h1 g1)) h2 g2) h3 g3 h4 g4 i

/-- The kernel's residual block of a layout lays out the residual block. -/
theorem packs_resid {A : Mat 1152 256} {H : Img 256} (hA : Packs A H) (w : Fin 9 → Mat 256 256) (b : Mat 1 256) (w' : Mat 256 256)
    (b' : Mat 1 256) (m : Mat 1152 1) (hm : IsMask m) :
    Packs (addf (F := Ideal) (φ := .f32) A (conv1T (reluT (convT (repad (reluT A)) w b m)) w' b' m))
      (resid H (fun t o k => w t (ix2 o k)) (fun o => b (ix2 0 o)) (fun o k => w' (ix2 o k)) fun o => b' (ix2 0 o)) :=
  packs_map2 (· + ·) (add_zero 0) hA
    (packs_conv1T (packs_reluT (packs_convT (padPacks_repad (packs_reluT hA)) w b m hm)) w' b' m hm) fun _ => rfl

/-- A row of a finite layout is finite. -/
theorem IsFin.row {c : ℕ} {X : Img c} (hX : ∀ i, IsFin (X i)) (q : ℕ) (k : Fin c) : IsFin (row X q k) := IsFin.grid hX _ _ _ _

namespace Body

variable {x0 : Vec Ideal S1184x512 .bf16} {x1 : Vec Ideal S1152x1 .f32} {x2 : Vec Ideal S1x1152 .f32}
  {x3 : Vec Ideal S9x256x512 .bf16} {x4 : Vec Ideal S1x256 .f32} {x5 : Vec Ideal S9x256x256 .bf16} {x6 : Vec Ideal S1x256 .f32}
  {x7 : Vec Ideal S9x256x256 .bf16} {x8 : Vec Ideal S1x256 .f32} {x9 : Vec Ideal S256x256 .bf16} {x10 : Vec Ideal S1x256 .f32}
  {x11 : Vec Ideal S512x256 .bf16} {x12 : Vec Ideal S512x1 .f32} {x13 : Vec Ideal S256x512 .f32}
  {x14 : Vec Ideal S9x256x256 .bf16} {x15 : Vec Ideal S1x256 .f32} {x16 : Vec Ideal S9x256x256 .bf16} {x17 : Vec Ideal S1x256 .f32}
  {x18 : Vec Ideal S256x256 .bf16} {x19 : Vec Ideal S1x256 .f32} {x20 : Vec Ideal S9x256x512 .bf16} {x21 : Vec Ideal S1x512 .f32}

/-- The stack's taps read one by one are the stack's taps. -/
theorem slab_taps {a b : ℕ} (x : Vec Ideal ⟨3, ![9, a, b]⟩ .bf16) : (fun t o k => slab x t (ix2 o k)) = taps x :=
  funext fun t => funext fun o => funext fun k => slab_apply x t o k

/-- A transposed layout at an entry. -/
theorem transposed_apply {m n : ℕ} (A : Mat m n) (h : (⟨2, ![m, n]⟩ : Shape).Transposes [1, 0] ⟨2, ![n, m]⟩) (i : Fin n) (j : Fin m) :
    transpose ⟨2, ![n, m]⟩ [1, 0] A h (ix2 i j) = A (ix2 j i) :=
  transpose_apply [1, 0] A h (ix2 i j) (ix2 j i) fun a => match a with
    | ⟨0, _⟩ => rfl
    | ⟨1, _⟩ => rfl

/-- The encoder's output buffer: the encoder's layout, columns for rows. -/
theorem out23_apply {X : Img 512} (hX : PadPacks x0 X) (hm : IsMask x1) (c : Fin 256) (r : Fin 1152) :
    out0_23 x0 x1 x2 x3 x4 x5 x6 x7 x8 x9 x10 x11 x12 x13 x14 x15 x16 x17 x18 x19 x20 x21 (ix2 c r)
      = row (encode X (taps x3) (line x4) (taps x5) (line x6) (taps x7) (line x8) (tap x9) (line x10)) r.val c := by
  have m0 : View.ld x1 r0_0 = x1 := View.ld_unit_zero (by decide) _ _
  rw [out23_eq, pay81_eq, pay77_eq, pay73_eq, m0, whole_cast x0 (by decide), whole_cast x4 (by decide), whole_cast x6 (by decide),
    whole_cast x8 (by decide), whole_cast x9 (by decide), whole_cast x10 (by decide)]
  refine (transposed_apply _ _ c r).trans ?_
  have h := packs_resid (packs_convT (padPacks_repad (packs_reluT (packs_convT hX (slab x3) x4 x1 hm))) (slab x5) x6 x1 hm)
    (slab x7) x8 x9 x10 x1 hm
  rw [slab_taps x3, slab_taps x5, slab_taps x7] at h
  exact h r c

/-- The nearest entries' buffer: at every row the entry nearest to what the encoder's buffer holds there. -/
theorem out24_apply {Z : Img 256} {E : Fin 512 → Fin 256 → EReal}
    (h23 : ∀ c r, out0_23 x0 x1 x2 x3 x4 x5 x6 x7 x8 x9 x10 x11 x12 x13 x14 x15 x16 x17 x18 x19 x20 x21 (ix2 c r) = row Z r.val c)
    (hZ : ∀ i, IsFin (Z i)) (hE : ∀ k c, IsFin (E k c)) (h11 : ∀ k c, x11 (ix2 k c) = E k c)
    (h12 : ∀ k, x12 (ix2 k 0) = ∑ c, E k c * E k c) (h13 : ∀ c k, x13 (ix2 c k) = E k c) (c : Fin 256) (r : Fin 1152) :
    out0_24 x0 x1 x2 x3 x4 x5 x6 x7 x8 x9 x10 x11 x12 x13 x14 x15 x16 x17 x18 x19 x20 x21 (ix2 c r)
      = E (nearest fun k => dist (E k) fun c => row Z r.val c) c := by
  rw [out24_eq, ← out23_eq, whole_cast x11 (by decide), whole_cast x12 (by decide), whole_cast x13 (by decide)]
  have hz : (fun c => out0_23 x0 x1 x2 x3 x4 x5 x6 x7 x8 x9 x10 x11 x12 x13 x14 x15 x16 x17 x18 x19 x20 x21 (ix2 c r))
      = fun c => row Z r.val c := funext fun c => h23 c r
  have he : ∀ k, (fun c => x13 (ix2 c k)) = E k := fun k => funext fun c => h13 c k
  refine (search_apply _ x13 _ r (fun k => ?_) (fun i => ?_) (fun c => ?_) c).trans ?_
  · rw [he]
    exact scores_apply x11 x12 _ k r (E k) (h11 k) (h12 k)
  · rw [(congrArg x13 (eq_ix2 i)).trans (h13 (i 0) (i 1))]; exact hE _ _
  · rw [h23]; exact IsFin.row hZ _ _
  · rw [h13, hz]
    simp only [he]

/-- The kernel's move of a layout to the entries, between the pixels nothing, lays out the images moved to their entries. -/
theorem packs_moved {A B : FVec Ideal S256x1152 .f32} {Z : Img 256} {E : Fin 512 → Fin 256 → EReal}
    (hA : ∀ c r, A (ix2 c r) = row Z r.val c) (hB : ∀ c r, B (ix2 c r) = E (nearest fun k => dist (E k) fun c => row Z r.val c) c)
    (h2 : ∀ r : Fin 1152, x2 (ix2 0 r) = if Inside r.val then 1 else 0) :
    Packs (truncf (F := Ideal) (φ := .f32) .bf16 (transpose S1152x256 [1, 0] (addf (F := Ideal) (φ := .f32) A
      (subf (mulf B (broadcastTo S256x1152 x2 broadcasts_S1x1152_S256x1152)) A)) transposes_S256x1152_p1_0_S1152x256) bitsLt_bf16_f32)
      (moved Z (quant E Z)) := by
  intro r c
  refine (transposed_apply (addf (F := Ideal) (φ := .f32) A
    (subf (mulf B (broadcastTo S256x1152 x2 broadcasts_S1x1152_S256x1152)) A)) transposes_S256x1152_p1_0_S1152x256 r c).trans ?_
  show A (ix2 c r) + (B (ix2 c r) * broadcastTo S256x1152 x2 broadcasts_S1x1152_S256x1152 (ix2 c r) - A (ix2 c r)) = _
  rw [down_apply, h2, hA, hB]
  by_cases h : Inside r.val
  · rw [if_pos h, mul_one, row_inside _ r.isLt h, row_inside _ r.isLt h]
    have hz : (fun c => row Z r.val c) = fun c => Z (ix4 ⟨r.val / 72, by omega⟩ c ⟨r.val % 72 / 8 - 1, by have := h.1; omega⟩ ⟨r.val % 8 - 1, by omega⟩) :=
      funext fun c => row_inside Z r.isLt h c
    rw [hz]
    rfl
  · rw [if_neg h, mul_zero, row_outside _ h, row_outside _ h, sub_zero, add_zero]

/-- The decoder's input lays out the images moved to their entries. -/
theorem pay96_packs {Z : Img 256} {E : Fin 512 → Fin 256 → EReal}
    (h23 : ∀ c r, out0_23 x0 x1 x2 x3 x4 x5 x6 x7 x8 x9 x10 x11 x12 x13 x14 x15 x16 x17 x18 x19 x20 x21 (ix2 c r) = row Z r.val c)
    (h24 : ∀ c r, out0_24 x0 x1 x2 x3 x4 x5 x6 x7 x8 x9 x10 x11 x12 x13 x14 x15 x16 x17 x18 x19 x20 x21 (ix2 c r)
      = E (nearest fun k => dist (E k) fun c => row Z r.val c) c)
    (h2 : ∀ r : Fin 1152, x2 (ix2 0 r) = if Inside r.val then 1 else 0) :
    PadPacks (k0_pay96 x0 x1 x2 x3 x4 x5 x6 x7 x8 x9 x10 x11 x12 x13 x14 x15 x16 x17 x18 x19 x20 x21) (moved Z (quant E Z)) := by
  have m2 : View.ld x2 r0_26 = x2 := View.ld_unit_zero (by decide) _ _
  rw [pay96_eq, m2, ← out23_eq]
  exact padPacks_repad (packs_moved h23 h24 h2)

/-- The reconstruction's buffer: the decoder's layout, columns for rows. -/
theorem out22_apply {D : Img 256} (hm : IsMask x1)
    (h96 : PadPacks (k0_pay96 x0 x1 x2 x3 x4 x5 x6 x7 x8 x9 x10 x11 x12 x13 x14 x15 x16 x17 x18 x19 x20 x21) D) (c : Fin 512) (r : Fin 1152) :
    out0_22 x0 x1 x2 x3 x4 x5 x6 x7 x8 x9 x10 x11 x12 x13 x14 x15 x16 x17 x18 x19 x20 x21 (ix2 c r)
      = row (decode D (taps x14) (line x15) (taps x16) (line x17) (tap x18) (line x19) (fun t o k => x20 (ix3 t k o)) (line x21)) r.val c := by
  have m0 : View.ld x1 r0_0 = x1 := View.ld_unit_zero (by decide) _ _
  rw [out22_eq, pay102_eq, pay100_eq, m0, whole_cast x15 (by decide), whole_cast x17 (by decide), whole_cast x18 (by decide),
    whole_cast x19 (by decide), whole_cast x21 (by decide)]
  refine (transposed_apply _ _ c r).trans ?_
  have h := packs_convN (padPacks_repad (packs_resid (packs_convT h96 (slab x14) x15 x1 hm) (slab x16) x17 x18 x19 x1 hm)) (slab x20) x21 x1 hm
  rw [slab_taps x14, slab_taps x16] at h
  have e : (fun t (o : Fin 512) k => slab x20 t (ix2 k o)) = fun t o k => x20 (ix3 t k o) :=
    funext fun t => funext fun o => funext fun k => slab_apply x20 t k o
  rw [e] at h
  exact h r c

end Body

end Cert.Vq

end
-- ==== Proof.Layout.lean ====
/- The host's arrangements of the kernel's arguments and results, read at an entry. -/
module

public import proofs.«01_k».proof.Proof.Conv
public import proofs.«01_k».proof.Proof.Net

@[expose] public section

noncomputable section

namespace Cert.Vq

open Idealize.ShloMosaic Idealize.ShloMosaic.ValueIdx
open scoped BigOperators

/-- The weights stacked by taps. -/
theorem stack_apply {co ci : ℕ} (W : Wts co ci) (ht : (⟨4, ![co, ci, 3, 3]⟩ : Shape).Transposes [2, 3, 0, 1] ⟨4, ![3, 3, co, ci]⟩)
    (hc : (⟨4, ![3, 3, co, ci]⟩ : Shape).ShapeCasts ⟨3, ![9, co, ci]⟩) (t : Fin 9) (o : Fin co) (k : Fin ci) :
    shapeCast ⟨3, ![9, co, ci]⟩ (transpose ⟨4, ![3, 3, co, ci]⟩ [2, 3, 0, 1] W ht) hc (ix3 t o k) = wt W t o k := by
  refine (shapeCast_apply _ hc _ (ix4 ⟨t.val / 3, by omega⟩ ⟨t.val % 3, by omega⟩ o k) ?_).trans (transpose_apply [2, 3, 0, 1] W ht _ _ fun e => ?_)
  · rw [Shape.rowMajor_val_four, Shape.rowMajor_val_three]
    show ((t.val / 3 * 3 + t.val % 3) * co + o.val) * ci + k.val = (t.val * co + o.val) * ci + k.val
    rw [show t.val / 3 * 3 + t.val % 3 = t.val by omega]
  · match e with
    | ⟨0, _⟩ => rfl
    | ⟨1, _⟩ => rfl
    | ⟨2, _⟩ => rfl
    | ⟨3, _⟩ => rfl

/-- Weights turned round in both directions. -/
theorem turned {co ci : ℕ} (W : Wts co ci) (t : Fin 9) (o : Fin co) (k : Fin ci) :
    wt (Host.reverse [2, 3] W) t o k = W (ix4 o k ⟨2 - t.val / 3, by omega⟩ ⟨2 - t.val % 3, by omega⟩) := by
  refine congrArg W (funext fun e => Fin.ext ?_)
  match e with
  | ⟨0, _⟩ => rfl
  | ⟨1, _⟩ => rfl
  | ⟨2, _⟩ => show 3 - (t.val / 3 + 1) = 2 - t.val / 3; omega
  | ⟨3, _⟩ => show 3 - (t.val % 3 + 1) = 2 - t.val % 3; omega

/-- Biases as a row. -/
theorem line_apply {n : ℕ} (x : (⟨1, ![n]⟩ : Shape).Idx → EReal) (h : (⟨1, ![n]⟩ : Shape).ShapeCasts ⟨2, ![1, n]⟩) (o : Fin n) :
    shapeCast ⟨2, ![1, n]⟩ x h (ix2 0 o) = x (ix1 o) :=
  shapeCast_apply x h _ _ (by
    rw [Shape.rowMajor_val_one, Shape.rowMajor_val_two]
    show o.val = 0 * n + o.val
    omega)

/-- The images the kernel is given: lines and columns run together, channels last. -/
def image (x : (⟨3, ![16, 49, 512]⟩ : Shape).Idx → EReal) : Img 512 := fun i => x (ix3 (i 0) ⟨7 * (i 2).val + (i 3).val, by
  have h2 : (i 2).val < 7 := (i 2).isLt
  have h3 : (i 3).val < 7 := (i 3).isLt
  show 7 * (i 2).val + (i 3).val < 49
  omega⟩ (i 1))

/-- The images with a line of zeros above and below and a column of zeros before. -/
theorem framed_apply (x : (⟨3, ![16, 49, 512]⟩ : Shape).Idx → EReal) (hc : (⟨3, ![16, 49, 512]⟩ : Shape).ShapeCasts ⟨4, ![16, 7, 7, 512]⟩)
    {u : Shape} (v : u.Idx → EReal) (hu : 0 < u.numel) (hv : ∀ i, v i = 0)
    (h : (⟨4, ![16, 7, 7, 512]⟩ : Shape).Pads ![0, 1, 1, 0] ![0, 1, 0, 0] ![0, 0, 0, 0] ⟨4, ![16, 9, 8, 512]⟩) (n : Fin 16) (a : Fin 9)
    (b : Fin 8) (k : Fin 512) : pad ⟨4, ![16, 9, 8, 512]⟩ ![0, 1, 1, 0] ![0, 1, 0, 0] ![0, 0, 0, 0]
      (shapeCast ⟨4, ![16, 7, 7, 512]⟩ x hc) v h hu (ix4 n a b k) = grid (image x) n.val k a.val b.val := by
  unfold grid
  by_cases ha : 1 ≤ a.val ∧ a.val ≤ 7
  · by_cases hb : 1 ≤ b.val ∧ b.val ≤ 7
    · rw [dif_pos ⟨n.isLt, ha, hb⟩]
      refine (pad_apply_of_inside _ _ _ _ v h hu _ (ix4 n ⟨a.val - 1, by omega⟩ ⟨b.val - 1, by omega⟩ k) fun e => ?_).trans
        (shapeCast_apply x hc _ _ ?_)
      · match e with
        | ⟨0, _⟩ => show n.val = 0 + n.val * 1; omega
        | ⟨1, _⟩ => show a.val = 1 + (a.val - 1) * 1; omega
        | ⟨2, _⟩ => show b.val = 1 + (b.val - 1) * 1; omega
        | ⟨3, _⟩ => show k.val = 0 + k.val * 1; omega
      · rw [Shape.rowMajor_val_four, Shape.rowMajor_val_three]
        show (n.val * 49 + (7 * (a.val - 1) + (b.val - 1))) * 512 + k.val = ((n.val * 7 + (a.val - 1)) * 7 + (b.val - 1)) * 512 + k.val
        omega
    · rw [dif_neg fun g => hb g.2.2]
      refine (pad_apply_of_not_inside _ _ _ _ v h hu _ (2 : Fin 4) ?_).trans (hv _)
      show ¬(1 ≤ b.val ∧ (b.val - 1) % 1 = 0 ∧ (b.val - 1) / 1 < 7)
      omega
  · rw [dif_neg fun g => ha g.2.1]
    refine (pad_apply_of_not_inside _ _ _ _ v h hu _ (1 : Fin 4) ?_).trans (hv _)
    show ¬(1 ≤ a.val ∧ (a.val - 1) % 1 = 0 ∧ (a.val - 1) / 1 < 7)
    omega

/-- The kernel's padded rows lay out the images. -/
theorem padded (x : (⟨3, ![16, 49, 512]⟩ : Shape).Idx → EReal) (hc : (⟨3, ![16, 49, 512]⟩ : Shape).ShapeCasts ⟨4, ![16, 7, 7, 512]⟩)
    {u : Shape} (v w : u.Idx → EReal) (hu : 0 < u.numel) (hv : ∀ i, v i = 0) (hw : ∀ i, w i = 0)
    (h : (⟨4, ![16, 7, 7, 512]⟩ : Shape).Pads ![0, 1, 1, 0] ![0, 1, 0, 0] ![0, 0, 0, 0] ⟨4, ![16, 9, 8, 512]⟩)
    (hc' : (⟨4, ![16, 9, 8, 512]⟩ : Shape).ShapeCasts ⟨2, ![1152, 512]⟩)
    (h' : (⟨2, ![1152, 512]⟩ : Shape).Pads ![16, 0] ![16, 0] ![0, 0] ⟨2, ![1184, 512]⟩) :
    PadPacks (pad ⟨2, ![1184, 512]⟩ ![16, 0] ![16, 0] ![0, 0] (shapeCast ⟨2, ![1152, 512]⟩
      (pad ⟨4, ![16, 9, 8, 512]⟩ ![0, 1, 1, 0] ![0, 1, 0, 0] ![0, 0, 0, 0] (shapeCast ⟨4, ![16, 7, 7, 512]⟩ x hc) v h hu) hc') w h' hu) (image x) := by
  intro q k
  have hq := q.isLt
  by_cases h1 : 16 ≤ q.val
  · rw [if_pos h1]
    by_cases h2 : q.val < 1168
    · refine (pad_apply_of_inside _ _ _ _ w h' hu _ (ix2 ⟨q.val - 16, by omega⟩ k) fun e => ?_).trans
        ((shapeCast_apply _ hc' _ (ix4 ⟨(q.val - 16) / 72, by omega⟩ ⟨(q.val - 16) % 72 / 8, by omega⟩ ⟨(q.val - 16) % 8, by omega⟩ k) ?_).trans
        (framed_apply x hc v hu hv h _ _ _ k))
      · match e with
        | ⟨0, _⟩ => show q.val = 16 + (q.val - 16) * 1; omega
        | ⟨1, _⟩ => show k.val = 0 + k.val * 1; omega
      · rw [Shape.rowMajor_val_four, Shape.rowMajor_val_two]
        show (((q.val - 16) / 72 * 9 + (q.val - 16) % 72 / 8) * 8 + (q.val - 16) % 8) * 512 + k.val = (q.val - 16) * 512 + k.val
        omega
    · refine (pad_apply_of_not_inside _ _ _ _ w h' hu _ (0 : Fin 2) ?_).trans ((hw _).trans ?_)
      · show ¬(16 ≤ q.val ∧ (q.val - 16) % 1 = 0 ∧ (q.val - 16) / 1 < 1152)
        omega
      · unfold row grid
        rw [dif_neg (by rintro ⟨g, -⟩; omega)]
  · rw [if_neg h1]
    refine (pad_apply_of_not_inside _ _ _ _ w h' hu _ (0 : Fin 2) ?_).trans (hw _)
    show ¬(16 ≤ q.val ∧ (q.val - 16) % 1 = 0 ∧ (q.val - 16) / 1 < 1152)
    omega

/-- The row of a pixel. -/
def pixel (n : Fin 16) (a b : Fin 7) : Fin 1152 := ⟨72 * n.val + 8 * (a.val + 1) + (b.val + 1), by omega⟩

/-- A result's pixels, taken out of the rows. -/
theorem unpacked {c : ℕ} (A : Mat c 1152) (hc : (⟨2, ![c, 1152]⟩ : Shape).ShapeCasts ⟨4, ![c, 16, 9, 8]⟩)
    (hs : (⟨4, ![c, 16, 9, 8]⟩ : Shape).Slices ![0, 0, 1, 1] ⟨4, ![c, 16, 7, 7]⟩)
    (ht : (⟨4, ![c, 16, 7, 7]⟩ : Shape).Transposes [1, 0, 2, 3] ⟨4, ![16, c, 7, 7]⟩) (X : Img c)
    (hA : ∀ n k a b, A (ix2 k (pixel n a b)) = X (ix4 n k a b)) :
    transpose ⟨4, ![16, c, 7, 7]⟩ [1, 0, 2, 3] (extractStridedSlice ⟨4, ![c, 16, 7, 7]⟩ ![0, 0, 1, 1] (shapeCast ⟨4, ![c, 16, 9, 8]⟩ A hc) hs) ht = X := by
  funext i
  obtain ⟨n, k, a, b, rfl⟩ : ∃ n k a b, i = ix4 n k a b := ⟨_, _, _, _, eq_ix4 i⟩
  refine (swap_apply _ ht n k a b).trans ((extractStridedSlice_apply _ _ hs _ (ix4 k n ⟨a.val + 1, by omega⟩ ⟨b.val + 1, by omega⟩) fun e => ?_).trans
    ((shapeCast_apply A hc _ (ix2 k (pixel n a b)) ?_).trans (hA n k a b)))
  · match e with
    | ⟨0, _⟩ => show k.val = 0 + k.val; omega
    | ⟨1, _⟩ => show n.val = 0 + n.val; omega
    | ⟨2, _⟩ => show a.val + 1 = 1 + a.val; omega
    | ⟨3, _⟩ => show b.val + 1 = 1 + b.val; omega
  · rw [Shape.rowMajor_val_four, Shape.rowMajor_val_two]
    show k.val * 1152 + (72 * n.val + 8 * (a.val + 1) + (b.val + 1)) = ((k.val * 16 + n.val) * 9 + (a.val + 1)) * 8 + (b.val + 1)
    omega

end Cert.Vq

end
-- ==== Proof.Windows.lean ====
/- What the kernel's input windows hold, entry by entry, from the arguments. -/
module

public import proofs.«01_k».proof.Proof.Entry
public import proofs.«01_k».proof.Proof.Layout

@[expose] public section

set_option maxRecDepth 16384

noncomputable section

namespace Cert.Vq.Entry

open Idealize.ShloMosaic hiding ix1 ix2 ix3 ix4
open Cert.KernelIdeal Cert.KernelIdeal.Gen Idealize.ShloMosaic.TcCoe Idealize.ShloMosaic.StableHlo
open Idealize.ShloMosaic.ValueIdx Cert.Vq.Body
open scoped BigOperators

/-- The column of ones and zeros: a one at the rows inside an image. -/
theorem lit0_eq : ∀ i : Fin 1152, lit0 i = if Inside i.val then 0x3F800000#32 else 0#32 := by decide +kernel

/-- The row of ones and zeros: a one at the rows inside an image. -/
theorem lit1_eq : ∀ i : Fin 1152, lit1 i = if Inside i.val then 0x3F800000#32 else 0#32 := by decide +kernel

/-- The word of the number one. -/
theorem ofBits_one : Ideal.ofBits .f32 0x3F800000#32 = 1 := by
  simp [Ideal.ofBits, Ideal.ieee]
  rw [← EReal.coe_mul]
  norm_num

/-- A mask's words as numbers. -/
theorem mask_word (p : Prop) [Decidable p] : Ideal.ofBits .f32 (if p then 0x3F800000#32 else 0#32) = if p then 1 else 0 := by
  split
  · exact ofBits_one
  · exact Ideal.ofBits_zero_f32

/-- The host's zero, read as a short float. -/
theorem short_zero {s : Shape} (i : s.Idx) : (sitofp (F := Ideal) .bf16 (constantI s 32 0#32) : FVec Ideal s .bf16) i = (0 : EReal) := by
  show ((((0#32 : BitVec 32).toInt : ℝ)) : EReal) = 0
  simp

variable (V : Valuation τ sig (Elt Ideal))

/-- Window 0: the padded rows lay out the images. -/
theorem win0_packs : PadPacks (after before V (Proc.devRef .tc main_v4)) (image (V (Proc.devRef .tc main_arg0))) := by
  rw [arr0]
  exact padded (V (Proc.devRef .tc main_arg0)) _ _ _ _ short_zero short_zero _ _ _

/-- Window 1 is the mask. -/
theorem win1_mask : IsMask (after before V (Proc.devRef .tc main_cst)) := by
  intro r
  rw [arr1]
  show Ideal.ofBits .f32 (lit0 (S1152x1.rowMajor (ix2 r 0))) = _
  rw [show S1152x1.rowMajor (ix2 r 0) = r from Fin.ext (by rw [Shape.rowMajor_val_two]; show r.val * 1 + 0 = r.val; omega), lit0_eq]
  exact mask_word _

/-- Window 2 is the mask. -/
theorem win2_mask (r : Fin 1152) : (after before V (Proc.devRef .tc main_cst_0)) (ix2 0 r) = (if Inside r.val then 1 else 0 : EReal) := by
  rw [arr2]
  show Ideal.ofBits .f32 (lit1 (S1x1152.rowMajor (ix2 0 r))) = _
  rw [show S1x1152.rowMajor (ix2 0 r) = r from Fin.ext (by rw [Shape.rowMajor_val_two]; show 0 * 1152 + r.val = r.val; omega), lit1_eq]
  exact mask_word _

/-- Window 3: the taps of the first weights. -/
theorem win3_taps : taps (after before V (Proc.devRef .tc main_v14)) = wt (V (Proc.devRef .tc main_arg1)) := by
  rw [arr3]; funext t o k; exact stack_apply _ _ _ t o k
/-- Window 5: the taps of the second weights. -/
theorem win5_taps : taps (after before V (Proc.devRef .tc main_v18)) = wt (V (Proc.devRef .tc main_arg3)) := by
  rw [arr5]; funext t o k; exact stack_apply _ _ _ t o k
/-- Window 7: the taps of the encoder's residual block. -/
theorem win7_taps : taps (after before V (Proc.devRef .tc main_v22)) = wt (V (Proc.devRef .tc main_arg5)) := by
  rw [arr7]; funext t o k; exact stack_apply _ _ _ t o k
/-- Window 14: the taps of the decoder's first weights. -/
theorem win14_taps : taps (after before V (Proc.devRef .tc main_v31)) = wt (V (Proc.devRef .tc main_arg10)) := by
  rw [arr14]; funext t o k; exact stack_apply _ _ _ t o k
/-- Window 16: the taps of the decoder's residual block. -/
theorem win16_taps : taps (after before V (Proc.devRef .tc main_v35)) = wt (V (Proc.devRef .tc main_arg12)) := by
  rw [arr16]; funext t o k; exact stack_apply _ _ _ t o k
/-- Window 20: the taps of the last weights, turned round. -/
theorem win20_taps (t : Fin 9) (k : Fin 256) (o : Fin 512) : (after before V (Proc.devRef .tc main_v11)) (ix3 t k o)
    = (V (Proc.devRef .tc main_arg16)) (ix4 k o ⟨2 - t.val / 3, by omega⟩ ⟨2 - t.val % 3, by omega⟩) := by
  rw [arr20]; exact (stack_apply _ _ _ t k o).trans (turned _ t k o)

/-- Window 4: the first biases. -/
theorem win4_line : line (after before V (Proc.devRef .tc main_v15)) = fun o => (V (Proc.devRef .tc main_arg2)) (ix1 o) := by
  rw [arr4]; funext o; exact line_apply _ _ o
/-- Window 6: the second biases. -/
theorem win6_line : line (after before V (Proc.devRef .tc main_v19)) = fun o => (V (Proc.devRef .tc main_arg4)) (ix1 o) := by
  rw [arr6]; funext o; exact line_apply _ _ o
/-- Window 8: the residual block's biases. -/
theorem win8_line : line (after before V (Proc.devRef .tc main_v23)) = fun o => (V (Proc.devRef .tc main_arg6)) (ix1 o) := by
  rw [arr8]; funext o; exact line_apply _ _ o
/-- Window 10: the residual block's last biases. -/
theorem win10_line : line (after before V (Proc.devRef .tc main_v26)) = fun o => (V (Proc.devRef .tc main_arg8)) (ix1 o) := by
  rw [arr10]; funext o; exact line_apply _ _ o
/-- Window 15: the decoder's first biases. -/
theorem win15_line : line (after before V (Proc.devRef .tc main_v32)) = fun o => (V (Proc.devRef .tc main_arg11)) (ix1 o) := by
  rw [arr15]; funext o; exact line_apply _ _ o
/-- Window 17: the biases of the decoder's residual block. -/
theorem win17_line : line (after before V (Proc.devRef .tc main_v36)) = fun o => (V (Proc.devRef .tc main_arg13)) (ix1 o) := by
  rw [arr17]; funext o; exact line_apply _ _ o
/-- Window 19: its last biases. -/
theorem win19_line : line (after before V (Proc.devRef .tc main_v39)) = fun o => (V (Proc.devRef .tc main_arg15)) (ix1 o) := by
  rw [arr19]; funext o; exact line_apply _ _ o
/-- Window 21: the last biases. -/
theorem win21_line : line (after before V (Proc.devRef .tc main_v40)) = fun o => (V (Proc.devRef .tc main_arg17)) (ix1 o) := by
  rw [arr21]; funext o; exact line_apply _ _ o

/-- Window 9: the one tap of the encoder's residual block. -/
theorem win9_tap : tap (after before V (Proc.devRef .tc main_v25)) = fun o k => (V (Proc.devRef .tc main_arg7)) (ix4 o k 0 0) := by
  rw [arr9]; funext o k; exact flat_apply _ _ o k
/-- Window 18: the one tap of the decoder's residual block. -/
theorem win18_tap : tap (after before V (Proc.devRef .tc main_v38)) = fun o k => (V (Proc.devRef .tc main_arg14)) (ix4 o k 0 0) := by
  rw [arr18]; funext o k; exact flat_apply _ _ o k

/-- Window 11: the book. -/
theorem win11_book (k : Fin 512) (c : Fin 256) : (after before V (Proc.devRef .tc main_v27)) (ix2 k c) = (V (Proc.devRef .tc main_arg9)) (ix2 k c) := by
  rw [arr11]; rfl
/-- Window 13: the book turned. -/
theorem win13_book (c : Fin 256) (k : Fin 512) : (after before V (Proc.devRef .tc main_v28)) (ix2 c k) = (V (Proc.devRef .tc main_arg9)) (ix2 k c) := by
  rw [arr13]; exact transposed_apply _ _ c k

/-- The sums of squares of a book's entries, as a column. -/
theorem squares_apply (x : S512x256.Idx → EReal) (k : Fin 512) :
    broadcastInDim S512x1 ![0] bcast_S512_S512x1_0 (Host.reduceAdd (F := Ideal) (φ := .f32) (mulf (F := Ideal) (φ := .f32) x x)
      (constant S_ .f32 0x00000000#32) reducesTo_S512x256_S512_d1 h_S_) (ix2 k 0) = ∑ c : Fin 256, x (ix2 k c) * x (ix2 k c) := by
  refine (broadcastInDim_apply _ _ _ _ (ix1 k) fun a => ?_).trans ?_
  · match a with
    | ⟨0, _⟩ => rfl
  · simp only [Host.reduceAdd, Ideal.hostReduceAdd_def]
    rw [Ideal.hostReduceAdd_single reducesTo_S512x256_S512_d1 (by decide)]
    refine (congrArg (· + _) Ideal.ofBits_zero_f32).trans ((zero_add _).trans (Finset.sum_congr rfl fun c _ => ?_))
    have e : (by decide : S512x256.Reduces [1] S512).lift (ix1 k) c = ix2 k c := by
      funext b
      match b with
      | ⟨0, _⟩ => rfl
      | ⟨1, _⟩ => rfl
    exact congrArg (fun i => x i * x i) e

/-- The book: the tenth argument. -/
abbrev book : S512x256.Idx → EReal := V (Proc.devRef .tc main_arg9)

/-- Window 12: the sums of squares of the book's entries. -/
theorem win12_squares (k : Fin 512) : (after before V (Proc.devRef .tc main_v7)) (ix2 k 0)
    = ∑ c : Fin 256, book V (ix2 k c) * book V (ix2 k c) := by
  rw [arr12]; exact squares_apply _ k

end Cert.Vq.Entry

end
-- ==== Proof.Outs.lean ====
/- The kernel's three results: the reconstruction, the encoder's images and their nearest entries. -/
module

public import proofs.«01_k».proof.Proof.Windows

@[expose] public section

set_option maxRecDepth 16384

noncomputable section

namespace Cert.Vq

open Idealize.ShloMosaic hiding ix1 ix2 ix3 ix4
open Cert.KernelIdeal Idealize.ShloMosaic.ValueIdx
open scoped BigOperators

/-- The encoder's images, from the arguments. -/
def latent (x0 : S16x49x512.Idx → EReal) (x1 : S256x512x3x3.Idx → EReal) (x2 : S256.Idx → EReal) (x3 : S256x256x3x3.Idx → EReal)
    (x4 : S256.Idx → EReal) (x5 : S256x256x3x3.Idx → EReal) (x6 : S256.Idx → EReal) (x7 : S256x256x1x1.Idx → EReal)
    (x8 : S256.Idx → EReal) : Img 256 :=
  encode (image x0) (wt x1) (fun o => x2 (ix1 o)) (wt x3) (fun o => x4 (ix1 o)) (wt x5) (fun o => x6 (ix1 o)) (fun o k => x7 (ix4 o k 0 0))
    fun o => x8 (ix1 o)

/-- The reconstruction, from the images handed to the decoder and its arguments. -/
def rebuilt (D : Img 256) (x10 : S256x256x3x3.Idx → EReal) (x11 : S256.Idx → EReal) (x12 : S256x256x3x3.Idx → EReal)
    (x13 : S256.Idx → EReal) (x14 : S256x256x1x1.Idx → EReal) (x15 : S256.Idx → EReal) (x16 : S256x512x3x3.Idx → EReal)
    (x17 : S512.Idx → EReal) : Img 512 :=
  decode D (wt x10) (fun o => x11 (ix1 o)) (wt x12) (fun o => x13 (ix1 o)) (fun o k => x14 (ix4 o k 0 0)) (fun o => x15 (ix1 o))
    (fun t o k => x16 (ix4 k o ⟨2 - t.val / 3, by omega⟩ ⟨2 - t.val % 3, by omega⟩)) fun o => x17 (ix1 o)

end Cert.Vq

namespace Cert.Vq.Entry

open Idealize.ShloMosaic hiding ix1 ix2 ix3 ix4
open Cert.KernelIdeal Cert.KernelIdeal.Gen Idealize.ShloMosaic.TcCoe Idealize.ShloMosaic.StableHlo
open Idealize.ShloMosaic.ValueIdx Cert.Vq.Body
open Idealize.ShloMosaic.Pipeline (Dat)
open scoped BigOperators

variable (m : (ℓ : Loc nD τ sig) → Buf (Elt Ideal) ℓ) (c : Dev nD)

/-! ## The outputs' blocks at the one point -/

/-- The block left for the reconstruction. -/
abbrev left22 :=
  out0_22 (iblk m c 0 t0_0) (iblk m c 1 t0_0) (iblk m c 2 t0_0) (iblk m c 3 t0_0) (iblk m c 4 t0_0) (iblk m c 5 t0_0) (iblk m c 6 t0_0)
    (iblk m c 7 t0_0) (iblk m c 8 t0_0) (iblk m c 9 t0_0) (iblk m c 10 t0_0) (iblk m c 11 t0_0) (iblk m c 12 t0_0) (iblk m c 13 t0_0)
    (iblk m c 14 t0_0) (iblk m c 15 t0_0) (iblk m c 16 t0_0) (iblk m c 17 t0_0) (iblk m c 18 t0_0) (iblk m c 19 t0_0) (iblk m c 20 t0_0)
    (iblk m c 21 t0_0)

/-- The block left for the encoder's images. -/
abbrev left23 :=
  out0_23 (iblk m c 0 t0_0) (iblk m c 1 t0_0) (iblk m c 2 t0_0) (iblk m c 3 t0_0) (iblk m c 4 t0_0) (iblk m c 5 t0_0) (iblk m c 6 t0_0)
    (iblk m c 7 t0_0) (iblk m c 8 t0_0) (iblk m c 9 t0_0) (iblk m c 10 t0_0) (iblk m c 11 t0_0) (iblk m c 12 t0_0) (iblk m c 13 t0_0)
    (iblk m c 14 t0_0) (iblk m c 15 t0_0) (iblk m c 16 t0_0) (iblk m c 17 t0_0) (iblk m c 18 t0_0) (iblk m c 19 t0_0) (iblk m c 20 t0_0)
    (iblk m c 21 t0_0)

/-- The block left for the nearest entries. -/
abbrev left24 :=
  out0_24 (iblk m c 0 t0_0) (iblk m c 1 t0_0) (iblk m c 2 t0_0) (iblk m c 3 t0_0) (iblk m c 4 t0_0) (iblk m c 5 t0_0) (iblk m c 6 t0_0)
    (iblk m c 7 t0_0) (iblk m c 8 t0_0) (iblk m c 9 t0_0) (iblk m c 10 t0_0) (iblk m c 11 t0_0) (iblk m c 12 t0_0) (iblk m c 13 t0_0)
    (iblk m c 14 t0_0) (iblk m c 15 t0_0) (iblk m c 16 t0_0) (iblk m c 17 t0_0) (iblk m c 18 t0_0) (iblk m c 19 t0_0) (iblk m c 20 t0_0)
    (iblk m c 21 t0_0)

/-- The array of the reconstruction is that block. -/
theorem reg22 : Value.reg_main_v41_0 m c = left22 m c := by
  refine (dats m 0 c).arrAt_eq_of_after_last 22 t0_0 (by decide +kernel) _ fun j => ?_
  blk_simp
  rw [after0_22]

/-- The array of the encoder's images is that block. -/
theorem reg23 : Value.reg_main_v41_1 m c = left23 m c := by
  refine (dats m 0 c).arrAt_eq_of_after_last 23 t0_0 (by decide +kernel) _ fun j => ?_
  blk_simp
  rw [after0_23]

/-- The array of the nearest entries is that block. -/
theorem reg24 : Value.reg_main_v41_2 m c = left24 m c := by
  refine (dats m 0 c).arrAt_eq_of_after_last 24 t0_0 (by decide +kernel) _ fun j => ?_
  blk_simp
  rw [after0_24]

/-! ## The input blocks, from the arguments -/

/-- What a device's buffers hold at the start. -/
abbrev init : Valuation τ sig (Elt Ideal) := fun b => m (c, b)

/-- The images. -/
theorem in0 : PadPacks (iblk m c 0 t0_0) (image (init m c (Proc.devRef .tc main_arg0))) := by rw [blk0]; exact win0_packs (init m c)
/-- The mask as a column. -/
theorem in1 : IsMask (iblk m c 1 t0_0) := by rw [blk1]; exact win1_mask (init m c)
/-- The mask as a row. -/
theorem in2 (r : Fin 1152) : iblk m c 2 t0_0 (ix2 0 r) = (if Inside r.val then 1 else 0 : EReal) := by rw [blk2]; exact win2_mask (init m c) r
/-- The first weights. -/
theorem in3 : taps (iblk m c 3 t0_0) = wt (init m c (Proc.devRef .tc main_arg1)) := by rw [blk3]; exact win3_taps (init m c)
/-- The second weights. -/
theorem in5 : taps (iblk m c 5 t0_0) = wt (init m c (Proc.devRef .tc main_arg3)) := by rw [blk5]; exact win5_taps (init m c)
/-- The residual block's weights. -/
theorem in7 : taps (iblk m c 7 t0_0) = wt (init m c (Proc.devRef .tc main_arg5)) := by rw [blk7]; exact win7_taps (init m c)
/-- The decoder's first weights. -/
theorem in14 : taps (iblk m c 14 t0_0) = wt (init m c (Proc.devRef .tc main_arg10)) := by rw [blk14]; exact win14_taps (init m c)
/-- The decoder's residual block's weights. -/
theorem in16 : taps (iblk m c 16 t0_0) = wt (init m c (Proc.devRef .tc main_arg12)) := by rw [blk16]; exact win16_taps (init m c)
/-- The first biases. -/
theorem in4 : line (iblk m c 4 t0_0) = fun o => init m c (Proc.devRef .tc main_arg2) (ix1 o) := by rw [blk4]; exact win4_line (init m c)
/-- The second biases. -/
theorem in6 : line (iblk m c 6 t0_0) = fun o => init m c (Proc.devRef .tc main_arg4) (ix1 o) := by rw [blk6]; exact win6_line (init m c)
/-- The residual block's biases. -/
theorem in8 : line (iblk m c 8 t0_0) = fun o => init m c (Proc.devRef .tc main_arg6) (ix1 o) := by rw [blk8]; exact win8_line (init m c)
/-- The residual block's last biases. -/
theorem in10 : line (iblk m c 10 t0_0) = fun o => init m c (Proc.devRef .tc main_arg8) (ix1 o) := by rw [blk10]; exact win10_line (init m c)
/-- The decoder's first biases. -/
theorem in15 : line (iblk m c 15 t0_0) = fun o => init m c (Proc.devRef .tc main_arg11) (ix1 o) := by rw [blk15]; exact win15_line (init m c)
/-- The decoder's residual block's biases. -/
theorem in17 : line (iblk m c 17 t0_0) = fun o => init m c (Proc.devRef .tc main_arg13) (ix1 o) := by rw [blk17]; exact win17_line (init m c)
/-- The decoder's residual block's last biases. -/
theorem in19 : line (iblk m c 19 t0_0) = fun o => init m c (Proc.devRef .tc main_arg15) (ix1 o) := by rw [blk19]; exact win19_line (init m c)
/-- The last biases. -/
theorem in21 : line (iblk m c 21 t0_0) = fun o => init m c (Proc.devRef .tc main_arg17) (ix1 o) := by rw [blk21]; exact win21_line (init m c)
/-- The residual block's one-tap weights. -/
theorem in9 : tap (iblk m c 9 t0_0) = fun o k => init m c (Proc.devRef .tc main_arg7) (ix4 o k 0 0) := by rw [blk9]; exact win9_tap (init m c)
/-- The decoder's residual block's one-tap weights. -/
theorem in18 : tap (iblk m c 18 t0_0) = fun o k => init m c (Proc.devRef .tc main_arg14) (ix4 o k 0 0) := by rw [blk18]; exact win18_tap (init m c)
/-- The book. -/
theorem in11 (k : Fin 512) (e : Fin 256) : iblk m c 11 t0_0 (ix2 k e) = book (init m c) (ix2 k e) := by rw [blk11]; exact win11_book (init m c) k e
/-- The sums of squares of its entries. -/
theorem in12 (k : Fin 512) : iblk m c 12 t0_0 (ix2 k 0) = ∑ e : Fin 256, book (init m c) (ix2 k e) * book (init m c) (ix2 k e) := by
  rw [blk12]; exact win12_squares (init m c) k
/-- The book turned. -/
theorem in13 (e : Fin 256) (k : Fin 512) : iblk m c 13 t0_0 (ix2 e k) = book (init m c) (ix2 k e) := by rw [blk13]; exact win13_book (init m c) e k
/-- The last weights. -/
theorem in20 : (fun t (o : Fin 512) (k : Fin 256) => iblk m c 20 t0_0 (ix3 t k o))
    = fun (t : Fin 9) o k => init m c (Proc.devRef .tc main_arg16) (ix4 k o ⟨2 - t.val / 3, by omega⟩ ⟨2 - t.val % 3, by omega⟩) := by
  rw [blk20]; funext t o k; exact win20_taps (init m c) t k o

/-! ## The outputs, from the arguments -/

/-- The encoder's images. -/
abbrev zs : Img 256 := latent (init m c (Proc.devRef .tc main_arg0)) (init m c (Proc.devRef .tc main_arg1)) (init m c (Proc.devRef .tc main_arg2))
  (init m c (Proc.devRef .tc main_arg3)) (init m c (Proc.devRef .tc main_arg4)) (init m c (Proc.devRef .tc main_arg5))
  (init m c (Proc.devRef .tc main_arg6)) (init m c (Proc.devRef .tc main_arg7)) (init m c (Proc.devRef .tc main_arg8))
/-- The book's entries. -/
abbrev entry (k : Fin 512) (e : Fin 256) : EReal := book (init m c) (ix2 k e)
/-- Their nearest entries. -/
abbrev qs : Img 256 := quant (entry m c) (zs m c)
/-- The reconstruction. -/
abbrev ys : Img 512 := rebuilt (moved (zs m c) (qs m c)) (init m c (Proc.devRef .tc main_arg10)) (init m c (Proc.devRef .tc main_arg11))
  (init m c (Proc.devRef .tc main_arg12)) (init m c (Proc.devRef .tc main_arg13)) (init m c (Proc.devRef .tc main_arg14))
  (init m c (Proc.devRef .tc main_arg15)) (init m c (Proc.devRef .tc main_arg16)) (init m c (Proc.devRef .tc main_arg17))

/-- The block of the encoder's images holds their rows. -/
theorem left23_apply (k : Fin 256) (r : Fin 1152) : left23 m c (ix2 k r) = row (zs m c) r.val k := by
  refine (out23_apply (in0 m c) (in1 m c) k r).trans ?_
  rw [in3, in4, in5, in6, in7, in8, in9, in10]
  rfl

/-- The block of the nearest entries, for finite images and a finite book. -/
theorem left24_apply (hz : ∀ i, IsFin (zs m c i)) (he : ∀ k e, IsFin (entry m c k e)) (k : Fin 256) (r : Fin 1152) :
    left24 m c (ix2 k r) = entry m c (nearest fun j => dist (entry m c j) fun e => row (zs m c) r.val e) k :=
  out24_apply (left23_apply m c) hz he (in11 m c) (in12 m c) (in13 m c) k r

/-- The block of the reconstruction holds its rows. -/
theorem left22_apply (hz : ∀ i, IsFin (zs m c i)) (he : ∀ k e, IsFin (entry m c k e)) (k : Fin 512) (r : Fin 1152) :
    left22 m c (ix2 k r) = row (ys m c) r.val k := by
  refine (out22_apply (in1 m c) (pay96_packs (left23_apply m c) (left24_apply m c hz he) (in2 m c)) k r).trans ?_
  rw [in14, in15, in16, in17, in18, in19, in20, in21]
  rfl

/-- The kernel's first result is the reconstruction. -/
theorem result22 (hz : ∀ i, IsFin (zs m c i)) (he : ∀ k e, IsFin (entry m c k e)) :
    transpose S16x512x7x7 [1, 0, 2, 3] (extractStridedSlice S512x16x7x7 ![0, 0, 1, 1] (shapeCast _ (Value.reg_main_v41_0 m c)
      shapeCasts_S512x1152_S512x16x9x8) slices_S512x16x9x8_S512x16x7x7_0_0_1_1) transposes_S512x16x7x7_S16x512x7x7_1_0_2_3 = ys m c := by
  rw [reg22]
  exact unpacked _ _ _ _ _ fun n k a b => (left22_apply m c hz he k (pixel n a b)).trans (row_pixel _ n k a b)

/-- The kernel's second result is the encoder's images. -/
theorem result23 :
    transpose S16x256x7x7 [1, 0, 2, 3] (extractStridedSlice S256x16x7x7 ![0, 0, 1, 1] (shapeCast _ (Value.reg_main_v41_1 m c)
      shapeCasts_S256x1152_S256x16x9x8) slices_S256x16x9x8_S256x16x7x7_0_0_1_1) transposes_S256x16x7x7_S16x256x7x7_1_0_2_3 = zs m c := by
  rw [reg23]
  exact unpacked _ _ _ _ _ fun n k a b => (left23_apply m c k (pixel n a b)).trans (row_pixel _ n k a b)

/-- The kernel's third result is the nearest entries. -/
theorem result24 (hz : ∀ i, IsFin (zs m c i)) (he : ∀ k e, IsFin (entry m c k e)) :
    transpose S16x256x7x7 [1, 0, 2, 3] (extractStridedSlice S256x16x7x7 ![0, 0, 1, 1] (shapeCast _ (Value.reg_main_v41_2 m c)
      shapeCasts_S256x1152_S256x16x9x8) slices_S256x16x9x8_S256x16x7x7_0_0_1_1) transposes_S256x16x7x7_S16x256x7x7_1_0_2_3 = qs m c := by
  rw [reg24]
  refine unpacked _ _ _ _ _ fun n k a b => (left24_apply m c hz he k (pixel n a b)).trans ?_
  simp only [pixel, row_pixel]
  rfl

end Cert.Vq.Entry

end
-- ==== Proof.RefNet.lean ====
/- The reference's encoder, convolution by convolution. -/
module

public import proofs.«01_k».proof.Proof.Conv
public import proofs.«01_k».proof.Proof.Net

@[expose] public section

noncomputable section

namespace Cert.Vq.Ref

open Idealize.ShloMosaic Idealize.ShloMosaic.ValueIdx Cert.ReferenceIdeal Cert.ReferenceIdeal.Gen Cert.ReferenceIdeal.Read
open scoped BigOperators

/-- The reference's product of 512 channels into 256. -/
abbrev dotA : Dot 256 512 := fun w x => Host.dotGeneral (F := Ideal) (φ₁ := .f32) (φ₂ := .f32) dot_S256x512_S16x512x7x7_S256x16x7x7_1_1_0_023_n_n none w x
/-- The reference's product of 256 channels into 256. -/
abbrev dotB : Dot 256 256 := fun w x => Host.dotGeneral (F := Ideal) (φ₁ := .f32) (φ₂ := .f32) dot_S256x256_S16x256x7x7_S256x16x7x7_1_1_0_023_n_n none w x
/-- The reference's product of 256 channels into 512. -/
abbrev dotC : Dot 512 256 := fun w x => Host.dotGeneral (F := Ideal) (φ₁ := .f32) (φ₂ := .f32) dot_S512x256_S16x256x7x7_S512x16x7x7_1_1_0_023_n_n none w x

/-- The product of 512 channels into 256 at an entry. -/
theorem isDotA : IsDot dotA := by
  intro w x o n a b
  show Host.dotGeneral (F := Ideal) (φ₁ := .f32) (φ₂ := .f32) dot_S256x512_S16x512x7x7_S256x16x7x7_1_1_0_023_n_n none w x (ix4 o n a b) = _
  simp only [Host.dotGeneral]
  rw [Ideal.dotGeneral_apply, ← Equiv.sum_comp (contrEquiv1 dot_S256x512_S16x512x7x7_S256x16x7x7_1_1_0_023_n_n 512 rfl rfl).symm]
  refine Finset.sum_congr rfl fun k _ => congrArg₂ (· * ·) (congrArg w (funext fun e => Fin.ext ?_)) (congrArg x (funext fun e => Fin.ext ?_))
  · match e with
    | ⟨0, _⟩ => exact lhs_main_v7_0 _ _
    | ⟨1, _⟩ => exact (lhs_main_v7_1 _ _).trans (contrEquiv1_symm_val dot_S256x512_S16x512x7x7_S256x16x7x7_1_1_0_023_n_n 512 rfl rfl k)
  · match e with
    | ⟨0, _⟩ => exact rhs_main_v7_0 _ _
    | ⟨1, _⟩ => exact (rhs_main_v7_1 _ _).trans (contrEquiv1_symm_val dot_S256x512_S16x512x7x7_S256x16x7x7_1_1_0_023_n_n 512 rfl rfl k)
    | ⟨2, _⟩ => exact rhs_main_v7_2 _ _
    | ⟨3, _⟩ => exact rhs_main_v7_3 _ _

/-- The product of 256 channels into 256 at an entry. -/
theorem isDotB : IsDot dotB := by
  intro w x o n a b
  show Host.dotGeneral (F := Ideal) (φ₁ := .f32) (φ₂ := .f32) dot_S256x256_S16x256x7x7_S256x16x7x7_1_1_0_023_n_n none w x (ix4 o n a b) = _
  simp only [Host.dotGeneral]
  rw [Ideal.dotGeneral_apply, ← Equiv.sum_comp (contrEquiv1 dot_S256x256_S16x256x7x7_S256x16x7x7_1_1_0_023_n_n 256 rfl rfl).symm]
  refine Finset.sum_congr rfl fun k _ => congrArg₂ (· * ·) (congrArg w (funext fun e => Fin.ext ?_)) (congrArg x (funext fun e => Fin.ext ?_))
  · match e with
    | ⟨0, _⟩ => exact lhs_main_v67_0 _ _
    | ⟨1, _⟩ => exact (lhs_main_v67_1 _ _).trans (contrEquiv1_symm_val dot_S256x256_S16x256x7x7_S256x16x7x7_1_1_0_023_n_n 256 rfl rfl k)
  · match e with
    | ⟨0, _⟩ => exact rhs_main_v67_0 _ _
    | ⟨1, _⟩ => exact (rhs_main_v67_1 _ _).trans (contrEquiv1_symm_val dot_S256x256_S16x256x7x7_S256x16x7x7_1_1_0_023_n_n 256 rfl rfl k)
    | ⟨2, _⟩ => exact rhs_main_v67_2 _ _
    | ⟨3, _⟩ => exact rhs_main_v67_3 _ _

/-- The product of 256 channels into 512 at an entry. -/
theorem isDotC : IsDot dotC := by
  intro w x o n a b
  show Host.dotGeneral (F := Ideal) (φ₁ := .f32) (φ₂ := .f32) dot_S512x256_S16x256x7x7_S512x16x7x7_1_1_0_023_n_n none w x (ix4 o n a b) = _
  simp only [Host.dotGeneral]
  rw [Ideal.dotGeneral_apply, ← Equiv.sum_comp (contrEquiv1 dot_S512x256_S16x256x7x7_S512x16x7x7_1_1_0_023_n_n 256 rfl rfl).symm]
  refine Finset.sum_congr rfl fun k _ => congrArg₂ (· * ·) (congrArg w (funext fun e => Fin.ext ?_)) (congrArg x (funext fun e => Fin.ext ?_))
  · match e with
    | ⟨0, _⟩ => exact lhs_main_v353_0 _ _
    | ⟨1, _⟩ => exact (lhs_main_v353_1 _ _).trans (contrEquiv1_symm_val dot_S512x256_S16x256x7x7_S512x16x7x7_1_1_0_023_n_n 256 rfl rfl k)
  · match e with
    | ⟨0, _⟩ => exact rhs_main_v353_0 _ _
    | ⟨1, _⟩ => exact (rhs_main_v353_1 _ _).trans (contrEquiv1_symm_val dot_S512x256_S16x256x7x7_S512x16x7x7_1_1_0_023_n_n 256 rfl rfl k)
    | ⟨2, _⟩ => exact rhs_main_v353_2 _ _
    | ⟨3, _⟩ => exact rhs_main_v353_3 _ _

variable (x0 : (⟨S16x49x512, .f32⟩ : BufTy).Contents (Elt Ideal)) (x1 : (⟨S256x512x3x3, .f32⟩ : BufTy).Contents (Elt Ideal)) (x2 : (⟨S256, .f32⟩ : BufTy).Contents (Elt Ideal))
  (x3 : (⟨S256x256x3x3, .f32⟩ : BufTy).Contents (Elt Ideal)) (x4 : (⟨S256, .f32⟩ : BufTy).Contents (Elt Ideal)) (x5 : (⟨S256x256x3x3, .f32⟩ : BufTy).Contents (Elt Ideal))
  (x6 : (⟨S256, .f32⟩ : BufTy).Contents (Elt Ideal)) (x7 : (⟨S256x256x1x1, .f32⟩ : BufTy).Contents (Elt Ideal)) (x8 : (⟨S256, .f32⟩ : BufTy).Contents (Elt Ideal))
  (x9 : (⟨S512x256, .f32⟩ : BufTy).Contents (Elt Ideal)) (x10 : (⟨S256x256x3x3, .f32⟩ : BufTy).Contents (Elt Ideal)) (x11 : (⟨S256, .f32⟩ : BufTy).Contents (Elt Ideal))
  (x12 : (⟨S256x256x3x3, .f32⟩ : BufTy).Contents (Elt Ideal)) (x13 : (⟨S256, .f32⟩ : BufTy).Contents (Elt Ideal)) (x14 : (⟨S256x256x1x1, .f32⟩ : BufTy).Contents (Elt Ideal))
  (x15 : (⟨S256, .f32⟩ : BufTy).Contents (Elt Ideal)) (x16 : (⟨S256x512x3x3, .f32⟩ : BufTy).Contents (Elt Ideal)) (x17 : (⟨S512, .f32⟩ : BufTy).Contents (Elt Ideal))

/-- The encoder's first convolution. -/
theorem v60_eq : val_main_v60 (F := Ideal) x0 x1 x2 = conv3 (val_main_v1 (F := Ideal) x0) (wt x1) fun o => x2 (ix1 o) :=
  convR isDotA shapeCasts_S256x512x1x1_S256x512 transposes_S256x16x7x7_S16x256x7x7_1_0_2_3 (val_main_v3 (F := Ideal)) (zeros_apply _)
    x2 (by decide) bcast_S256_S1x256x1x1_1 bcast_S1x256x1x1_S16x256x7x7_0_1_2_3 (val_main_v1 (F := Ideal) x0) (val_main_call0_v0 (F := Ideal)) h_S_ word_zero
    pads_S16x512x7x7_S16x512x9x9_000_000_110_110 x1

/-- The encoder's second convolution. -/
theorem v120_eq : val_main_v120 (F := Ideal) x0 x1 x2 x3 x4 = conv3 (val_main_v61 (F := Ideal) x0 x1 x2) (wt x3) fun o => x4 (ix1 o) :=
  convR isDotB shapeCasts_S256x256x1x1_S256x256 transposes_S256x16x7x7_S16x256x7x7_1_0_2_3 (val_main_v63 (F := Ideal)) (zeros_apply _)
    x4 (by decide) bcast_S256_S1x256x1x1_1 bcast_S1x256x1x1_S16x256x7x7_0_1_2_3 (val_main_v61 (F := Ideal) x0 x1 x2) (val_main_call2_v0 (F := Ideal)) h_S_ word_zero
    pads_S16x256x7x7_S16x256x9x9_000_000_110_110 x3

/-- The positive part, read. -/
theorem v61_eq : val_main_v61 (F := Ideal) x0 x1 x2 = reluI (val_main_v60 (F := Ideal) x0 x1 x2) :=
  funext fun i => congrArg (max (val_main_v60 (F := Ideal) x0 x1 x2 i)) (zeros_apply (s := S_) bcast_S_S16x256x7x7 i)

/-- The positive part, read. -/
theorem v121_eq : val_main_v121 (F := Ideal) x0 x1 x2 x3 x4 = reluI (val_main_v120 (F := Ideal) x0 x1 x2 x3 x4) :=
  funext fun i => congrArg (max (val_main_v120 (F := Ideal) x0 x1 x2 x3 x4 i)) (zeros_apply (s := S_) bcast_S_S16x256x7x7 i)

/-- The encoder's block: its convolution with nine taps. -/
theorem v180_eq : val_main_v180 (F := Ideal) x0 x1 x2 x3 x4 x5 x6 = conv3 (val_main_v121 (F := Ideal) x0 x1 x2 x3 x4) (wt x5) fun o => x6 (ix1 o) :=
  convR isDotB shapeCasts_S256x256x1x1_S256x256 transposes_S256x16x7x7_S16x256x7x7_1_0_2_3 (val_main_v123 (F := Ideal)) (zeros_apply _)
    x6 (by decide) bcast_S256_S1x256x1x1_1 bcast_S1x256x1x1_S16x256x7x7_0_1_2_3 (val_main_v121 (F := Ideal) x0 x1 x2 x3 x4) (val_main_call4_v0 (F := Ideal)) h_S_ word_zero
    pads_S16x256x7x7_S16x256x9x9_000_000_110_110 x5

/-- The positive part, read. -/
theorem v181_eq : val_main_v181 (F := Ideal) x0 x1 x2 x3 x4 x5 x6 = reluI (val_main_v180 (F := Ideal) x0 x1 x2 x3 x4 x5 x6) :=
  funext fun i => congrArg (max (val_main_v180 (F := Ideal) x0 x1 x2 x3 x4 x5 x6 i)) (zeros_apply (s := S_) bcast_S_S16x256x7x7 i)

/-- The encoder's block: its convolution with one tap. -/
theorem v190_eq : val_main_v190 (F := Ideal) x0 x1 x2 x3 x4 x5 x6 x7 x8 = conv1 (val_main_v181 (F := Ideal) x0 x1 x2 x3 x4 x5 x6) (fun o k => x7 (ix4 o k 0 0)) fun o => x8 (ix1 o) :=
  pointR isDotB shapeCasts_S256x256x1x1_S256x256 transposes_S256x16x7x7_S16x256x7x7_1_0_2_3 (val_main_v183 (F := Ideal)) (zeros_apply _)
    x8 (by decide) bcast_S256_S1x256x1x1_1 bcast_S1x256x1x1_S16x256x7x7_0_1_2_3 (val_main_v181 (F := Ideal) x0 x1 x2 x3 x4 x5 x6) (val_main_call6_v0 (F := Ideal)) h_S_
    pads_S16x256x7x7_S16x256x7x7_000_000_000_000 x7

/-- The encoder. -/
theorem v191_eq : val_main_v191 (F := Ideal) x0 x1 x2 x3 x4 x5 x6 x7 x8 = encode (val_main_v1 (F := Ideal) x0) (wt x1) (fun o => x2 (ix1 o)) (wt x3)
    (fun o => x4 (ix1 o)) (wt x5) (fun o => x6 (ix1 o)) (fun o k => x7 (ix4 o k 0 0)) fun o => x8 (ix1 o) := by
  unfold encode resid
  rw [← v60_eq, ← v61_eq, ← v120_eq, ← v121_eq, ← v180_eq, ← v181_eq, ← v190_eq]
  rfl

/-- The decoder's first convolution. -/
theorem v274_eq : val_main_v274 (F := Ideal) x0 x1 x2 x3 x4 x5 x6 x7 x8 x9 x10 x11 = conv3 (val_main_v215 (F := Ideal) x0 x1 x2 x3 x4 x5 x6 x7 x8 x9) (wt x10) fun o => x11 (ix1 o) :=
  convR isDotB shapeCasts_S256x256x1x1_S256x256 transposes_S256x16x7x7_S16x256x7x7_1_0_2_3 (val_main_v217 (F := Ideal)) (zeros_apply _)
    x11 (by decide) bcast_S256_S1x256x1x1_1 bcast_S1x256x1x1_S16x256x7x7_0_1_2_3 (val_main_v215 (F := Ideal) x0 x1 x2 x3 x4 x5 x6 x7 x8 x9) (val_main_call8_v0 (F := Ideal)) h_S_ word_zero
    pads_S16x256x7x7_S16x256x9x9_000_000_110_110 x10

/-- The positive part, read. -/
theorem v275_eq : val_main_v275 (F := Ideal) x0 x1 x2 x3 x4 x5 x6 x7 x8 x9 x10 x11 = reluI (val_main_v274 (F := Ideal) x0 x1 x2 x3 x4 x5 x6 x7 x8 x9 x10 x11) :=
  funext fun i => congrArg (max (val_main_v274 (F := Ideal) x0 x1 x2 x3 x4 x5 x6 x7 x8 x9 x10 x11 i)) (zeros_apply (s := S_) bcast_S_S16x256x7x7 i)

/-- The decoder's block: its convolution with nine taps. -/
theorem v334_eq : val_main_v334 (F := Ideal) x0 x1 x2 x3 x4 x5 x6 x7 x8 x9 x10 x11 x12 x13 = conv3 (val_main_v275 (F := Ideal) x0 x1 x2 x3 x4 x5 x6 x7 x8 x9 x10 x11) (wt x12) fun o => x13 (ix1 o) :=
  convR isDotB shapeCasts_S256x256x1x1_S256x256 transposes_S256x16x7x7_S16x256x7x7_1_0_2_3 (val_main_v277 (F := Ideal)) (zeros_apply _)
    x13 (by decide) bcast_S256_S1x256x1x1_1 bcast_S1x256x1x1_S16x256x7x7_0_1_2_3 (val_main_v275 (F := Ideal) x0 x1 x2 x3 x4 x5 x6 x7 x8 x9 x10 x11) (val_main_call10_v0 (F := Ideal)) h_S_ word_zero
    pads_S16x256x7x7_S16x256x9x9_000_000_110_110 x12

/-- The positive part, read. -/
theorem v335_eq : val_main_v335 (F := Ideal) x0 x1 x2 x3 x4 x5 x6 x7 x8 x9 x10 x11 x12 x13 = reluI (val_main_v334 (F := Ideal) x0 x1 x2 x3 x4 x5 x6 x7 x8 x9 x10 x11 x12 x13) :=
  funext fun i => congrArg (max (val_main_v334 (F := Ideal) x0 x1 x2 x3 x4 x5 x6 x7 x8 x9 x10 x11 x12 x13 i)) (zeros_apply (s := S_) bcast_S_S16x256x7x7 i)

/-- The decoder's block: its convolution with one tap. -/
theorem v344_eq : val_main_v344 (F := Ideal) x0 x1 x2 x3 x4 x5 x6 x7 x8 x9 x10 x11 x12 x13 x14 x15 = conv1 (val_main_v335 (F := Ideal) x0 x1 x2 x3 x4 x5 x6 x7 x8 x9 x10 x11 x12 x13) (fun o k => x14 (ix4 o k 0 0)) fun o => x15 (ix1 o) :=
  pointR isDotB shapeCasts_S256x256x1x1_S256x256 transposes_S256x16x7x7_S16x256x7x7_1_0_2_3 (val_main_v337 (F := Ideal)) (zeros_apply _)
    x15 (by decide) bcast_S256_S1x256x1x1_1 bcast_S1x256x1x1_S16x256x7x7_0_1_2_3 (val_main_v335 (F := Ideal) x0 x1 x2 x3 x4 x5 x6 x7 x8 x9 x10 x11 x12 x13) (val_main_call12_v0 (F := Ideal)) h_S_
    pads_S16x256x7x7_S16x256x7x7_000_000_000_000 x14

/-- The decoder's last convolution. -/
theorem v406_eq : val_main_v406 (F := Ideal) x0 x1 x2 x3 x4 x5 x6 x7 x8 x9 x10 x11 x12 x13 x14 x15 x16 x17 = conv3 (val_main_v345 (F := Ideal) x0 x1 x2 x3 x4 x5 x6 x7 x8 x9 x10 x11 x12 x13 x14 x15) (wt (val_main_v347 (F := Ideal) x16)) fun o => x17 (ix1 o) :=
  convR isDotC shapeCasts_S512x256x1x1_S512x256 transposes_S512x16x7x7_S16x512x7x7_1_0_2_3 (val_main_v349 (F := Ideal)) (zeros_apply _)
    x17 (by decide) bcast_S512_S1x512x1x1_1 bcast_S1x512x1x1_S16x512x7x7_0_1_2_3 (val_main_v345 (F := Ideal) x0 x1 x2 x3 x4 x5 x6 x7 x8 x9 x10 x11 x12 x13 x14 x15) (val_main_call14_v0 (F := Ideal)) h_S_ word_zero
    pads_S16x256x7x7_S16x256x9x9_000_000_110_110 (val_main_v347 (F := Ideal) x16)

/-- The decoder. -/
theorem decoder_eq : val_main_v406 (F := Ideal) x0 x1 x2 x3 x4 x5 x6 x7 x8 x9 x10 x11 x12 x13 x14 x15 x16 x17 = decode (val_main_v215 (F := Ideal) x0 x1 x2 x3 x4 x5 x6 x7 x8 x9) (wt x10) (fun o => x11 (ix1 o)) (wt x12)
    (fun o => x13 (ix1 o)) (fun o k => x14 (ix4 o k 0 0)) (fun o => x15 (ix1 o)) (wt (val_main_v347 (F := Ideal) x16)) fun o => x17 (ix1 o) := by
  unfold decode resid
  rw [← v274_eq, ← v275_eq, ← v334_eq, ← v335_eq, ← v344_eq]
  exact v406_eq _ _ _ _ _ _ _ _ _ _ _ _ _ _ _ _ _ _

/-- The images as the reference arranges them. -/
theorem v1_apply (n : Fin 16) (k : Fin 512) (a b : Fin 7) :
    val_main_v1 (F := Ideal) x0 (ix4 n k a b) = x0 (ix3 n ⟨7 * a.val + b.val, by omega⟩ k) := by
  refine (shapeCast_apply _ _ _ (ix3 n k ⟨7 * a.val + b.val, by omega⟩) ?_).trans (transpose_apply [0, 2, 1] x0 _ _ _ fun e => ?_)
  · rw [Shape.rowMajor_val_four, Shape.rowMajor_val_three]
    show (n.val * 512 + k.val) * 49 + (7 * a.val + b.val) = ((n.val * 512 + k.val) * 7 + a.val) * 7 + b.val
    omega
  · match e with
    | ⟨0, _⟩ => rfl
    | ⟨1, _⟩ => rfl
    | ⟨2, _⟩ => rfl

/-- The decoder's last weights: the given ones with rows, columns and channels turned round. -/
theorem wt347 (t : Fin 9) (o : Fin 512) (k : Fin 256) : wt (val_main_v347 (F := Ideal) x16) t o k
    = x16 (ix4 k o ⟨2 - t.val / 3, by omega⟩ ⟨2 - t.val % 3, by omega⟩) := by
  refine (transpose_apply [1, 0, 2, 3] _ transposes_S256x512x3x3_S512x256x3x3_1_0_2_3 _
    (ix4 k o ⟨t.val / 3, by omega⟩ ⟨t.val % 3, by omega⟩) fun e => ?_).trans (congrArg x16 (funext fun e => Fin.ext ?_))
  · match e with
    | ⟨0, _⟩ => rfl
    | ⟨1, _⟩ => rfl
    | ⟨2, _⟩ => rfl
    | ⟨3, _⟩ => rfl
  · match e with
    | ⟨0, _⟩ => rfl
    | ⟨1, _⟩ => rfl
    | ⟨2, _⟩ => show 3 - (t.val / 3 + 1) = 2 - t.val / 3; omega
    | ⟨3, _⟩ => show 3 - (t.val % 3 + 1) = 2 - t.val % 3; omega

end Cert.Vq.Ref

end
-- ==== Proof.RefQuant.lean ====
/- The reference's search of the code book: the distances, the first entry of least distance, its row of the book. -/
module

public import proofs.«01_k».proof.Proof.RefNet

@[expose] public section

noncomputable section

namespace Cert.Vq.Ref

open Idealize.ShloMosaic Idealize.ShloMosaic.ValueIdx Cert.ReferenceIdeal Cert.ReferenceIdeal.Gen Cert.ReferenceIdeal.Read
open scoped BigOperators

/-- The axis of the book's entries can be reduced. -/
theorem red : S16x512x7x7.Reduces [1] S16x7x7 := by decide

/-- The entry of a pixel with a given number. -/
theorem red_lift (n : Fin 16) (a b : Fin 7) (k : Fin 512) : red.lift (ix3 n a b) k = ix4 n k a b := by
  funext e
  refine Fin.ext ?_
  match e with
  | ⟨0, _⟩ => rfl
  | ⟨1, _⟩ => rfl
  | ⟨2, _⟩ => rfl
  | ⟨3, _⟩ => rfl

/-- A pixel's number repeated over the book's entries. -/
abbrev over {α : Type} (y : S16x7x7.Idx → α) : S16x512x7x7.Idx → α :=
  broadcastInDim S16x512x7x7 ![0, 1, 2, 3] bcast_S16x1x7x7_S16x512x7x7_0_1_2_3 (broadcastInDim S16x1x7x7 ![0, 2, 3] bcast_S16x7x7_S16x1x7x7_0_2_3 y)

/-- It is that number. -/
theorem over_apply {α : Type} (y : S16x7x7.Idx → α) (n : Fin 16) (k : Fin 512) (a b : Fin 7) : over y (ix4 n k a b) = y (ix3 n a b) :=
  (broadcastInDim_apply _ _ _ (ix4 n k a b) (ix4 n 0 a b) fun e => match e with
    | ⟨0, _⟩ => rfl
    | ⟨1, _⟩ => rfl
    | ⟨2, _⟩ => rfl
    | ⟨3, _⟩ => rfl).trans (broadcastInDim_apply _ _ y (ix4 n 0 a b) (ix3 n a b) fun e => match e with
    | ⟨0, _⟩ => rfl
    | ⟨1, _⟩ => rfl
    | ⟨2, _⟩ => rfl)

/-- The least number over the book's entries. -/
abbrev least (S : FVec Ideal S16x512x7x7 .f32) : FVec Ideal S16x7x7 .f32 :=
  Host.reduce FloatOps.minimumf S (val_main_cst_7 (F := Ideal)) reducesTo_S16x512x7x7_S16x7x7_d1 h_S_

/-- The first entry of the least number. -/
abbrev firstOf (S : FVec Ideal S16x512x7x7 .f32) : IVec S16x7x7 32 :=
  Host.reduce IntOp.minsi (select (cmpf .oeq S (over (least S))) (val_main_v203 (F := Ideal)) (val_main_call7_v1 (F := Ideal)))
    (val_main_c_9 (F := Ideal)) reducesTo_S16x512x7x7_S16x7x7_d1 h_S_

/-- The least number as a fold. -/
theorem least_apply (S : FVec Ideal S16x512x7x7 .f32) (n : Fin 16) (a b : Fin 7) : least S (ix3 n a b)
    = (Finset.univ : Finset (Fin 512)).fold (min : EReal → EReal → EReal) ⊤ fun k => S (ix4 n k a b) := by
  refine (Host.reduce_eq_fold_single (FloatOps.minimumf (F := Ideal) (φ := .f32)) S _ _ red _ _).trans ?_
  rw [← ofBits_inf]
  exact congrArg (Finset.fold _ _ · _) (funext fun k => congrArg S (red_lift n a b k))

/-- It is the first entry of the least number. -/
theorem firstOf_apply (S : FVec Ideal S16x512x7x7 .f32) (n : Fin 16) (a b : Fin 7) :
    firstOf S (ix3 n a b) = BitVec.ofNat 32 (nearest fun k => S (ix4 n k a b)).val := by
  refine (Host.reduce_eq_fold_single IntOp.minsi _ _ _ red _ _).trans ?_
  refine first_least Finset.univ id (fun k => ⟨k, Finset.mem_univ _, rfl⟩) _ (fun k => S (ix4 n k a b)) (fun _ _ => rfl) _ 512#32
    (by decide) fun k _ => ?_
  show select _ _ _ (red.lift (ix3 n a b) k) = _
  rw [red_lift, select_apply, cmpf_apply, over_apply, least_apply]
  show Scalar.select (BitVec.ofBool (decide _)) _ _ = _
  by_cases c : S (ix4 n k a b) = (Finset.univ : Finset (Fin 512)).fold (min : EReal → EReal → EReal) ⊤ fun k => S (ix4 n k a b)
  · rw [if_pos c, decide_eq_true c]; rfl
  · rw [if_neg c, decide_eq_false c]; rfl

/-- Numbers below nothing are left alone. -/
abbrev wrap (w : IVec S16x7x7 32) : IVec S16x7x7 32 :=
  select (cmpi .slt w (val_main_v206 (F := Ideal))) (addi w (val_main_v208 (F := Ideal))) w

/-- A small number's word is left alone. -/
theorem wrap_apply (w : IVec S16x7x7 32) (i : S16x7x7.Idx) (k : Fin 512) (h : w i = BitVec.ofNat 32 k.val) : wrap w i = BitVec.ofNat 32 k.val := by
  have e : (IntOp.cmpi .slt (w i) 0#32) = 0#1 := by
    rw [h]
    show BitVec.ofBool (BitVec.slt _ _) = _
    rw [BitVec.slt, toInt_word, decide_eq_false (by show ¬ ((k.val : ℤ) < 0); omega)]
    rfl
  show Scalar.select (IntOp.cmpi .slt (w i) 0#32) _ (w i) = _
  rw [e, ← h]
  rfl

/-- The book's rows at given numbers. -/
abbrev rowsAt (E : FVec Ideal S512x256 .f32) (w : IVec S16x7x7 32) : FVec Ideal S16x7x7x256 .f32 :=
  Host.gather gather_S512x256_S16x7x7x1_S16x7x7x256_3_0_n_n_0_3_1256 E
    (broadcastInDim S16x7x7x1 ![0, 1, 2] bcast_S16x7x7_S16x7x7x1_0_1_2 w)

/-- It is the book's row. -/
theorem rowsAt_apply (E : FVec Ideal S512x256 .f32) (w : IVec S16x7x7 32) (n : Fin 16) (a b : Fin 7) (c : Fin 256) (k : Fin 512)
    (h : w (ix3 n a b) = BitVec.ofNat 32 k.val) : rowsAt E w (ix4 n a b c) = E (ix2 k c) := by
  show E (gather_S512x256_S16x7x7x1_S16x7x7x256_3_0_n_n_0_3_1256.operandIdx _ _) = _
  refine congrArg E (funext fun e => Fin.ext ?_)
  show gather_S512x256_S16x7x7x1_S16x7x7x256_3_0_n_n_0_3_1256.start _ _ e
    + gather_S512x256_S16x7x7x1_S16x7x7x256_3_0_n_n_0_3_1256.batchCoord _ e
    + gather_S512x256_S16x7x7x1_S16x7x7x256_3_0_n_n_0_3_1256.offCoord _ e = _
  rw [GatherDims.batchCoord_eq_zero _ _ _ List.not_mem_nil]
  obtain rfl | rfl : e = 0 ∨ e = 1 := by
    match e with
    | ⟨0, _⟩ => exact Or.inl rfl
    | ⟨1, _⟩ => exact Or.inr rfl
  · rw [GatherDims.offCoord_eq_zero _ _ _ (fun h => ((GatherDims.mem_sKept _ _).mp h).1 (List.mem_singleton.mpr rfl))]
    unfold GatherDims.start
    rw [dif_pos (show (0 : Fin S512x256.rank) ∈ gather_S512x256_S16x7x7x1_S16x7x7x256_3_0_n_n_0_3_1256.startIndexMap from List.mem_singleton.mpr rfl)]
    have hs : ∀ p, gather_S512x256_S16x7x7x1_S16x7x7x256_3_0_n_n_0_3_1256.siIdx (ix4 n a b c) p = ix4 n a b 0 := by
      intro p
      funext e
      refine Fin.ext ?_
      match e with
      | ⟨0, _⟩ => rfl
      | ⟨1, _⟩ => rfl
      | ⟨2, _⟩ => rfl
      | ⟨3, _⟩ => exact Nat.lt_one_iff.mp p.isLt
    have hv : broadcastInDim S16x7x7x1 ![0, 1, 2] bcast_S16x7x7_S16x7x7x1_0_1_2 w (ix4 n a b 0) = BitVec.ofNat 32 k.val :=
      (broadcastInDim_apply _ _ w (ix4 n a b 0) (ix3 n a b) fun e => match e with
        | ⟨0, _⟩ => rfl
        | ⟨1, _⟩ => rfl
        | ⟨2, _⟩ => rfl).trans h
    show min ((broadcastInDim S16x7x7x1 ![0, 1, 2] bcast_S16x7x7_S16x7x7x1_0_1_2 w
      (gather_S512x256_S16x7x7x1_S16x7x7x256_3_0_n_n_0_3_1256.siIdx (ix4 n a b c) _)).toInt.toNat) 511 + 0 + 0 = k.val
    rw [hs, hv, toInt_word]
    have := k.isLt
    omega
  · unfold GatherDims.start
    rw [dif_neg (show ¬ (1 : Fin S512x256.rank) ∈ gather_S512x256_S16x7x7x1_S16x7x7x256_3_0_n_n_0_3_1256.startIndexMap by decide)]
    show 0 + 0 + c.val = c.val
    omega

variable (x0 : (⟨S16x49x512, .f32⟩ : BufTy).Contents (Elt Ideal)) (x1 : (⟨S256x512x3x3, .f32⟩ : BufTy).Contents (Elt Ideal)) (x2 : (⟨S256, .f32⟩ : BufTy).Contents (Elt Ideal))
  (x3 : (⟨S256x256x3x3, .f32⟩ : BufTy).Contents (Elt Ideal)) (x4 : (⟨S256, .f32⟩ : BufTy).Contents (Elt Ideal)) (x5 : (⟨S256x256x3x3, .f32⟩ : BufTy).Contents (Elt Ideal))
  (x6 : (⟨S256, .f32⟩ : BufTy).Contents (Elt Ideal)) (x7 : (⟨S256x256x1x1, .f32⟩ : BufTy).Contents (Elt Ideal)) (x8 : (⟨S256, .f32⟩ : BufTy).Contents (Elt Ideal))
  (x9 : (⟨S512x256, .f32⟩ : BufTy).Contents (Elt Ideal))

/-- The differences from every entry of the book. -/
theorem v196_at (n : Fin 16) (k : Fin 512) (c : Fin 256) (a b : Fin 7) : val_main_v196 (F := Ideal) x0 x1 x2 x3 x4 x5 x6 x7 x8 x9 (ix5 n k c a b)
    = x9 (ix2 k c) - val_main_v191 (F := Ideal) x0 x1 x2 x3 x4 x5 x6 x7 x8 (ix4 n c a b) := by
  have h1 : val_main_v194 (F := Ideal) x9 (ix5 n k c a b) = x9 (ix2 k c) := by
    refine (broadcastInDim_apply _ _ _ _ (ix5 0 k c 0 0) fun e => ?_).trans (shapeCast_apply _ _ _ (ix2 k c) ?_)
    · match e with
      | ⟨0, _⟩ => rfl
      | ⟨1, _⟩ => rfl
      | ⟨2, _⟩ => rfl
      | ⟨3, _⟩ => rfl
      | ⟨4, _⟩ => rfl
    · rw [Shape.rowMajor_val_two, Shape.rowMajor_val_five]
      show k.val * 256 + c.val = (((0 * 512 + k.val) * 256 + c.val) * 1 + 0) * 1 + 0
      omega
  have h2 : val_main_v195 (F := Ideal) x0 x1 x2 x3 x4 x5 x6 x7 x8 (ix5 n k c a b)
      = val_main_v191 (F := Ideal) x0 x1 x2 x3 x4 x5 x6 x7 x8 (ix4 n c a b) := by
    refine (broadcastInDim_apply _ _ _ _ (ix5 n 0 c a b) fun e => ?_).trans (shapeCast_apply _ _ _ (ix4 n c a b) ?_)
    · match e with
      | ⟨0, _⟩ => rfl
      | ⟨1, _⟩ => rfl
      | ⟨2, _⟩ => rfl
      | ⟨3, _⟩ => rfl
      | ⟨4, _⟩ => rfl
    · rw [Shape.rowMajor_val_four, Shape.rowMajor_val_five]
      show ((n.val * 256 + c.val) * 7 + a.val) * 7 + b.val = (((n.val * 1 + 0) * 256 + c.val) * 7 + a.val) * 7 + b.val
      omega
  exact congrArg₂ (fun u v : EReal => u - v) h1 h2

/-- The squared distances from every entry of the book. -/
theorem v198_at (n : Fin 16) (k : Fin 512) (a b : Fin 7) : val_main_v198 (F := Ideal) x0 x1 x2 x3 x4 x5 x6 x7 x8 x9 (ix4 n k a b)
    = dist (fun c => x9 (ix2 k c)) fun c => val_main_v191 (F := Ideal) x0 x1 x2 x3 x4 x5 x6 x7 x8 (ix4 n c a b) := by
  rw [val_main_v198_apply, show (val_main_cst_6 (F := Ideal)) (Shape.Idx.first h_S_) = 0 from Ideal.ofBits_zero_f32, zero_add]
  refine Finset.sum_congr rfl fun c _ => ?_
  rw [show idx_main_v198 (ix4 n k a b) c = ix5 n k c a b from funext fun e => match e with
    | ⟨0, _⟩ => rfl
    | ⟨1, _⟩ => rfl
    | ⟨2, _⟩ => rfl
    | ⟨3, _⟩ => rfl
    | ⟨4, _⟩ => rfl]
  exact congrArg₂ (fun u v : EReal => u * v) (v196_at x0 x1 x2 x3 x4 x5 x6 x7 x8 x9 n k c a b) (v196_at x0 x1 x2 x3 x4 x5 x6 x7 x8 x9 n k c a b)

/-- The reference's quantized images: every pixel's nearest entry of the book. -/
theorem v213_eq : val_main_v213 (F := Ideal) x0 x1 x2 x3 x4 x5 x6 x7 x8 x9
    = quant (fun k c => x9 (ix2 k c)) (val_main_v191 (F := Ideal) x0 x1 x2 x3 x4 x5 x6 x7 x8) := by
  funext i
  obtain ⟨n, c, a, b, rfl⟩ : ∃ n c a b, i = ix4 n c a b := ⟨i 0, i 1, i 2, i 3, eq_ix4 i⟩
  refine (transpose_apply [0, 3, 1, 2] _ _ _ (ix4 n a b c) fun e => ?_).trans (rowsAt_apply x9
    (wrap (firstOf (val_main_v198 (F := Ideal) x0 x1 x2 x3 x4 x5 x6 x7 x8 x9))) n a b c _ (wrap_apply _ _ _ (firstOf_apply _ n a b)) |>.trans ?_)
  · match e with
    | ⟨0, _⟩ => rfl
    | ⟨1, _⟩ => rfl
    | ⟨2, _⟩ => rfl
    | ⟨3, _⟩ => rfl
  · show x9 (ix2 (nearest _) c) = x9 (ix2 (nearest _) c)
    rw [funext fun k => v198_at x0 x1 x2 x3 x4 x5 x6 x7 x8 x9 n k a b]

/-- What the reference decodes. -/
theorem v215_eq : val_main_v215 (F := Ideal) x0 x1 x2 x3 x4 x5 x6 x7 x8 x9
    = moved (val_main_v191 (F := Ideal) x0 x1 x2 x3 x4 x5 x6 x7 x8) (val_main_v213 (F := Ideal) x0 x1 x2 x3 x4 x5 x6 x7 x8 x9) := rfl

end Cert.Vq.Ref
-- ==== Proof.Meets.lean ====
/- What the precondition says of the arguments, and the reference's results in the terms the kernel's are read in. -/
module

public import proofs.«01_k».proof.Defs
public import proofs.«01_k».proof.Proof.Gen.Pre_finite
public import proofs.«01_k».proof.Proof.Outs
public import proofs.«01_k».proof.Proof.RefQuant

@[expose] public section

set_option maxRecDepth 16384

noncomputable section

namespace Cert.Vq.Ref

open Idealize.ShloMosaic hiding ix1 ix2 ix3 ix4 eq_ix4
open Idealize.ShloMosaic.ValueIdx Cert.ReferenceIdeal Cert.ReferenceIdeal.Gen Cert.ReferenceIdeal.Read

variable (x0 : S16x49x512.Idx → EReal) (x1 : S256x512x3x3.Idx → EReal) (x2 : S256.Idx → EReal) (x3 : S256x256x3x3.Idx → EReal)
  (x4 : S256.Idx → EReal) (x5 : S256x256x3x3.Idx → EReal) (x6 : S256.Idx → EReal) (x7 : S256x256x1x1.Idx → EReal) (x8 : S256.Idx → EReal)
  (x9 : S512x256.Idx → EReal) (x10 : S256x256x3x3.Idx → EReal) (x11 : S256.Idx → EReal) (x12 : S256x256x3x3.Idx → EReal)
  (x13 : S256.Idx → EReal) (x14 : S256x256x1x1.Idx → EReal) (x15 : S256.Idx → EReal) (x16 : S256x512x3x3.Idx → EReal) (x17 : S512.Idx → EReal)

/-- The reference's images are the kernel's. -/
theorem image_eq : val_main_v1 (F := Ideal) x0 = image x0 := by
  funext i
  obtain ⟨n, k, a, b, rfl⟩ : ∃ n k a b, i = ix4 n k a b := ⟨_, _, _, _, eq_ix4 i⟩
  exact v1_apply x0 n k a b

/-- The reference's second result. -/
theorem latent_eq : val_main_v191 (F := Ideal) x0 x1 x2 x3 x4 x5 x6 x7 x8 = latent x0 x1 x2 x3 x4 x5 x6 x7 x8 := by
  rw [v191_eq, image_eq]; rfl

/-- The reference's third result. -/
theorem nearest_eq : val_main_v213 (F := Ideal) x0 x1 x2 x3 x4 x5 x6 x7 x8 x9
    = quant (fun k c => x9 (ix2 k c)) (latent x0 x1 x2 x3 x4 x5 x6 x7 x8) := by
  rw [v213_eq, latent_eq]

/-- The reference's first result. -/
theorem rebuilt_eq : val_main_v406 (F := Ideal) x0 x1 x2 x3 x4 x5 x6 x7 x8 x9 x10 x11 x12 x13 x14 x15 x16 x17
    = rebuilt (moved (latent x0 x1 x2 x3 x4 x5 x6 x7 x8) (quant (fun k c => x9 (ix2 k c)) (latent x0 x1 x2 x3 x4 x5 x6 x7 x8)))
      x10 x11 x12 x13 x14 x15 x16 x17 := by
  rw [decoder_eq, v215_eq, nearest_eq, latent_eq, show wt (val_main_v347 (F := Ideal) x16) = _ from
    funext fun t => funext fun o => funext fun k => wt347 x16 t o k]
  rfl

end Cert.Vq.Ref

namespace Cert.Vq

open Idealize.ShloMosaic hiding ix1 ix2 ix3 ix4
open Idealize.ShloMosaic.ValueIdx Idealize.ShloMosaic.TcCoe

/-- A number whose size is less than the infinite word's is finite. -/
theorem isFin_of_lt (x : EReal) (h : Ideal.cmp .olt (max x (-x)) (Ideal.ofBits .f32 0x7F800000#32) = 1#1) : IsFin x := by
  rw [ofBits_inf] at h
  have hl : max x (-x) < ⊤ := by
    by_contra hn
    have h0 : (BitVec.ofBool (decide (max x (-x) < ⊤))) = 1#1 := h
    rw [decide_eq_false hn] at h0
    exact absurd h0 (by decide)
  induction x with
  | bot => exact absurd hl (by simp)
  | top => exact absurd hl (by simp)
  | coe r => exact ⟨r, rfl⟩

/-- An array below infinity everywhere is finite everywhere. -/
theorem isFin_of_below {s u : Shape} (d : Fin u.rank → Fin s.rank) (hb : u.BroadcastsInDim s d) (x : FVec Ideal s .f32)
    (h : cmpf .olt (Host.absf x) (broadcastInDim s d hb (constant u .f32 0x7F800000#32)) = fun _ => 1#1) (i : s.Idx) : IsFin (x i) :=
  isFin_of_lt _ (congrFun h i)

open Cert.KernelIdeal Cert.Vq.Entry

variable {m : (ℓ : Loc nD τ sig) → Buf (Elt Ideal) ℓ}

/-- The precondition makes the encoder's images finite. -/
theorem latent_fin (h : Cert.Pre_KernelIdeal_finite m) (c : Dev nD) (i) : IsFin (zs m c i) := by
  obtain ⟨h0, h1, h2, h3, h4, h5, h6, h7, h8, -⟩ := h c
  exact IsFin.encode (fun _ => isFin_of_below _ _ _ h0 _) (fun _ _ _ => isFin_of_below _ _ _ h1 _) (fun _ => isFin_of_below _ _ _ h2 _)
    (fun _ _ _ => isFin_of_below _ _ _ h3 _) (fun _ => isFin_of_below _ _ _ h4 _) (fun _ _ _ => isFin_of_below _ _ _ h5 _)
    (fun _ => isFin_of_below _ _ _ h6 _) (fun _ _ => isFin_of_below _ _ _ h7 _) (fun _ => isFin_of_below _ _ _ h8 _) i

/-- The precondition makes the book finite. -/
theorem book_fin (h : Cert.Pre_KernelIdeal_finite m) (c : Dev nD) (k : Fin 512) (e : Fin 256) : IsFin (entry m c k e) := by
  obtain ⟨-, -, -, -, -, -, -, -, -, h9⟩ := h c
  exact isFin_of_below _ _ _ h9 _

end Cert.Vq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.FrameK
public import proofs.«01_k».proof.Proof.FrameI
public import proofs.«01_k».proof.Proof.Meets
public import Idealize.ShloMosaic.Lib.Claim
public import Idealize.ShloMosaic.Adequacy
public import Idealize.ShloMosaic.Init

@[expose] public section

noncomputable section

namespace Cert.Proof

open Idealize.ShloMosaic Idealize.SL.Sem

/-- The kernel leaves its arguments as they were and its counters at zero, at the machine's own floats. -/
theorem frame_k : Cert.quiescent_Kernel := fun m ρ _ => Cert.Kernel.Gen.frame m ρ

/-- The same of the kernel over the ideal values. -/
theorem frame_ki : Cert.quiescent_KernelIdeal := fun m ρ _ => Cert.KernelIdeal.Gen.frame m ρ

/-- The reference writes none of its arguments, and it has no counter. -/
theorem frame_ri : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- At the ideal values the kernel's three results are the reference's. -/
theorem algebraic : Cert.algebraic_KernelIdeal_ReferenceIdeal_pre_finite := by
  pair_intro
  · run_from Cert.KernelIdeal.Value.run m g
  · run_from Cert.ReferenceIdeal.Value.run m' g'
    · have e := (Cert.ReferenceIdeal.Read.val_main_v406_eq (StableHlo.launchContents m' c)).trans
        (Cert.Vq.Ref.rebuilt_eq _ _ _ _ _ _ _ _ _ _ _ _ _ _ _ _ _ _)
      simp only [StableHlo.launchContents_devRef, hagree c] at e
      exact e.trans (Cert.Vq.Entry.result22 m c (Cert.Vq.latent_fin hpre c) (Cert.Vq.book_fin hpre c)).symm
    · have e := (Cert.ReferenceIdeal.Read.val_main_v191_eq (StableHlo.launchContents m' c)).trans
        (Cert.Vq.Ref.latent_eq _ _ _ _ _ _ _ _ _)
      simp only [StableHlo.launchContents_devRef, hagree c] at e
      exact e.trans (Cert.Vq.Entry.result23 m c).symm
    · have e := (Cert.ReferenceIdeal.Read.val_main_v213_eq (StableHlo.launchContents m' c)).trans
        (Cert.Vq.Ref.nearest_eq _ _ _ _ _ _ _ _ _ _)
      simp only [StableHlo.launchContents_devRef, hagree c] at e
      exact e.trans (Cert.Vq.Entry.result24 m c (Cert.Vq.latent_fin hpre c) (Cert.Vq.book_fin hpre c)).symm

/-- The claims of this kernel. -/
theorem claim : Cert.Claim := ⟨Cert.Kernel.Gen.facts, Cert.KernelIdeal.Gen.facts, Cert.ReferenceIdeal.Gen.facts, Cert.Pre_finite.Gen.facts,
  frame_k, frame_ki, fun m ρ _ => Cert.KernelIdeal.Gen.frame m ρ, frame_ri, fun m ρ _ => frame_ri m ρ trivial, trivial, algebraic⟩

end Cert.Proof

end
